-- ==== Defs.lean ====
def Pre_QzProj (m : (ℓ : Loc Cert.QzProj.nD Cert.QzProj.τ Cert.QzProj.sig) → Buf (Elt Bits) ℓ) : Prop :=
  True

def Pre_QzProjIdeal (m : (ℓ : Loc Cert.QzProjIdeal.nD Cert.QzProjIdeal.τ Cert.QzProjIdeal.sig) → Buf (Elt Ideal) ℓ) : Prop :=
  True

def Pre_QzProjRefIdeal (m : (ℓ : Loc Cert.QzProjRefIdeal.nD Cert.QzProjRefIdeal.τ Cert.QzProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_Idx (m : (ℓ : Loc Cert.Idx.nD Cert.Idx.τ Cert.Idx.sig) → Buf (Elt Bits) ℓ) : Prop :=
  True

def Pre_IdxIdeal (m : (ℓ : Loc Cert.IdxIdeal.nD Cert.IdxIdeal.τ Cert.IdxIdeal.sig) → Buf (Elt Ideal) ℓ) : Prop :=
  True

def Pre_IdxRefIdeal (m : (ℓ : Loc Cert.IdxRefIdeal.nD Cert.IdxRefIdeal.τ Cert.IdxRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_uz_finite [hPre_uz_finite : Cert.Pre_uz_finite.Facts] (m : (ℓ : Loc Cert.PoolIdeal.nD Cert.PoolIdeal.τ Cert.PoolIdeal.sig) → Buf (Elt Ideal) ℓ) : Prop :=
  ∀ c : Dev Cert.PoolIdeal.nD,
    (Cert.Pre_uz_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_uz_finite [hPre_uz_finite : Cert.Pre_uz_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_uz_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_Mask (m : (ℓ : Loc Cert.Mask.nD Cert.Mask.τ Cert.Mask.sig) → Buf (Elt Bits) ℓ) : Prop :=
  True

def Pre_PoolSumIdeal (m : (ℓ : Loc Cert.PoolSumIdeal.nD Cert.PoolSumIdeal.τ Cert.PoolSumIdeal.sig) → Buf (Elt Ideal) ℓ) : Prop :=
  True

def quiescent_QzProj [hQzProj : Cert.QzProj.Facts] : Prop :=
  ∀ (m : (ℓ : Loc Cert.QzProj.nD Cert.QzProj.τ Cert.QzProj.sig) → Buf (Elt Bits) ℓ) (g : Dev Cert.QzProj.nD → PrngReg), Pre_QzProj m →
    θ_run (Cert.QzProj.defs (F := Bits)) (onTc (τ := Cert.QzProj.τ) (Cert.QzProj.main (F := Bits))) ⟨m, fun _ => 0, g⟩ (fun r => (∀ c : Dev Cert.QzProj.nD,
      r.2.mem ((c.tc : Thread Cert.QzProj.nD Cert.QzProj.τ).loc Cert.QzProj.main_arg0) = m ((c.tc : Thread Cert.QzProj.nD Cert.QzProj.τ).loc Cert.QzProj.main_arg0)
      ∧ r.2.mem ((c.tc : Thread Cert.QzProj.nD Cert.QzProj.τ).loc Cert.QzProj.main_arg1) = m ((c.tc : Thread Cert.QzProj.nD Cert.QzProj.τ).loc Cert.QzProj.main_arg1)
      ∧ r.2.mem ((c.tc : Thread Cert.QzProj.nD Cert.QzProj.τ).loc Cert.QzProj.main_arg2) = m ((c.tc : Thread Cert.QzProj.nD Cert.QzProj.τ).loc Cert.QzProj.main_arg2))
      ∧ r.2.sem = fun _ => 0)

def quiescent_QzProjIdeal [hQzProjIdeal : Cert.QzProjIdeal.Facts] : Prop :=
  ∀ (m : (ℓ : Loc Cert.QzProjIdeal.nD Cert.QzProjIdeal.τ Cert.QzProjIdeal.sig) → Buf (Elt Ideal) ℓ) (g : Dev Cert.QzProjIdeal.nD → PrngReg), Pre_QzProjIdeal m →
    θ_run (Cert.QzProjIdeal.defs (F := Ideal)) (onTc (τ := Cert.QzProjIdeal.τ) (Cert.QzProjIdeal.main (F := Ideal))) ⟨m, fun _ => 0, g⟩ (fun r => (∀ c : Dev Cert.QzProjIdeal.nD,
      r.2.mem ((c.tc : Thread Cert.QzProjIdeal.nD Cert.QzProjIdeal.τ).loc Cert.QzProjIdeal.main_arg0) = m ((c.tc : Thread Cert.QzProjIdeal.nD Cert.QzProjIdeal.τ).loc Cert.QzProjIdeal.main_arg0)
      ∧ r.2.mem ((c.tc : Thread Cert.QzProjIdeal.nD Cert.QzProjIdeal.τ).loc Cert.QzProjIdeal.main_arg1) = m ((c.tc : Thread Cert.QzProjIdeal.nD Cert.QzProjIdeal.τ).loc Cert.QzProjIdeal.main_arg1)
      ∧ r.2.mem ((c.tc : Thread Cert.QzProjIdeal.nD Cert.QzProjIdeal.τ).loc Cert.QzProjIdeal.main_arg2) = m ((c.tc : Thread Cert.QzProjIdeal.nD Cert.QzProjIdeal.τ).loc Cert.QzProjIdeal.main_arg2))
      ∧ r.2.sem = fun _ => 0)

def quiescent_QzProjRefIdeal [hQzProjRefIdeal : Cert.QzProjRefIdeal.Facts] : Prop :=
  ∀ (m : (ℓ : Loc Cert.QzProjRefIdeal.nD Cert.QzProjRefIdeal.τ Cert.QzProjRefIdeal.sig) → Buf (Elt Ideal) ℓ) (g : Dev Cert.QzProjRefIdeal.nD → PrngReg), Pre_QzProjRefIdeal m →
    θ_run (Cert.QzProjRefIdeal.defs (F := Ideal)) (onTc (τ := Cert.QzProjRefIdeal.τ) (Cert.QzProjRefIdeal.main (F := Ideal))) ⟨m, fun _ => 0, g⟩ (fun r => (∀ c : Dev Cert.QzProjRefIdeal.nD,
      r.2.mem ((c.tc : Thread Cert.QzProjRefIdeal.nD Cert.QzProjRefIdeal.τ).loc Cert.QzProjRefIdeal.main_arg0) = m ((c.tc : Thread Cert.QzProjRefIdeal.nD Cert.QzProjRefIdeal.τ).loc Cert.QzProjRefIdeal.main_arg0)
      ∧ r.2.mem ((c.tc : Thread Cert.QzProjRefIdeal.nD Cert.QzProjRefIdeal.τ).loc Cert.QzProjRefIdeal.main_arg1) = m ((c.tc : Thread Cert.QzProjRefIdeal.nD Cert.QzProjRefIdeal.τ).loc Cert.QzProjRefIdeal.main_arg1)
      ∧ r.2.mem ((c.tc : Thread Cert.QzProjRefIdeal.nD Cert.QzProjRefIdeal.τ).loc Cert.QzProjRefIdeal.main_arg2) = m ((c.tc : Thread Cert.QzProjRefIdeal.nD Cert.QzProjRefIdeal.τ).loc Cert.QzProjRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2)
      ∧ r.2.mem ((c.tc : Thread Cert.OutB.nD Cert.OutB.τ).loc Cert.OutB.main_arg3) = m ((c.tc : Thread Cert.OutB.nD Cert.OutB.τ).loc Cert.OutB.main_arg3))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
      ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2)
      ∧ r.2.mem ((c.tc : Thread Cert.OutBRefIdeal.nD Cert.OutBRefIdeal.τ).loc Cert.OutBRefIdeal.main_arg3) = m ((c.tc : Thread Cert.OutBRefIdeal.nD Cert.OutBRefIdeal.τ).loc Cert.OutBRefIdeal.main_arg3))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_Idx [hIdx : Cert.Idx.Facts] : Prop :=
  ∀ (m : (ℓ : Loc Cert.Idx.nD Cert.Idx.τ Cert.Idx.sig) → Buf (Elt Bits) ℓ) (g : Dev Cert.Idx.nD → PrngReg), Pre_Idx m →
    θ_run (Cert.Idx.defs (F := Bits)) (onTc (τ := Cert.Idx.τ) (Cert.Idx.main (F := Bits))) ⟨m, fun _ => 0, g⟩ (fun r => (∀ c : Dev Cert.Idx.nD,
      r.2.mem ((c.tc : Thread Cert.Idx.nD Cert.Idx.τ).loc Cert.Idx.main_arg0) = m ((c.tc : Thread Cert.Idx.nD Cert.Idx.τ).loc Cert.Idx.main_arg0)
      ∧ r.2.mem ((c.tc : Thread Cert.Idx.nD Cert.Idx.τ).loc Cert.Idx.main_arg1) = m ((c.tc : Thread Cert.Idx.nD Cert.Idx.τ).loc Cert.Idx.main_arg1)
      ∧ r.2.mem ((c.tc : Thread Cert.Idx.nD Cert.Idx.τ).loc Cert.Idx.main_arg2) = m ((c.tc : Thread Cert.Idx.nD Cert.Idx.τ).loc Cert.Idx.main_arg2)
      ∧ r.2.mem ((c.tc : Thread Cert.Idx.nD Cert.Idx.τ).loc Cert.Idx.main_arg3) = m ((c.tc : Thread Cert.Idx.nD Cert.Idx.τ).loc Cert.Idx.main_arg3)
      ∧ r.2.mem ((c.tc : Thread Cert.Idx.nD Cert.Idx.τ).loc Cert.Idx.main_arg4) = m ((c.tc : Thread Cert.Idx.nD Cert.Idx.τ).loc Cert.Idx.main_arg4))
      ∧ r.2.sem = fun _ => 0)

def quiescent_IdxIdeal [hIdxIdeal : Cert.IdxIdeal.Facts] : Prop :=
  ∀ (m : (ℓ : Loc Cert.IdxIdeal.nD Cert.IdxIdeal.τ Cert.IdxIdeal.sig) → Buf (Elt Ideal) ℓ) (g : Dev Cert.IdxIdeal.nD → PrngReg), Pre_IdxIdeal m →
    θ_run (Cert.IdxIdeal.defs (F := Ideal)) (onTc (τ := Cert.IdxIdeal.τ) (Cert.IdxIdeal.main (F := Ideal))) ⟨m, fun _ => 0, g⟩ (fun r => (∀ c : Dev Cert.IdxIdeal.nD,
      r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
      ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
      ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2)
      ∧ r.2.mem ((c.tc : Thread Cert.IdxIdeal.nD Cert.IdxIdeal.τ).loc Cert.IdxIdeal.main_arg3) = m ((c.tc : Thread Cert.IdxIdeal.nD Cert.IdxIdeal.τ).loc Cert.IdxIdeal.main_arg3)
      ∧ r.2.mem ((c.tc : Thread Cert.IdxIdeal.nD Cert.IdxIdeal.τ).loc Cert.IdxIdeal.main_arg4) = m ((c.tc : Thread Cert.IdxIdeal.nD Cert.IdxIdeal.τ).loc Cert.IdxIdeal.main_arg4))
      ∧ r.2.sem = fun _ => 0)

def quiescent_IdxRefIdeal [hIdxRefIdeal : Cert.IdxRefIdeal.Facts] : Prop :=
  ∀ (m : (ℓ : Loc Cert.IdxRefIdeal.nD Cert.IdxRefIdeal.τ Cert.IdxRefIdeal.sig) → Buf (Elt Ideal) ℓ) (g : Dev Cert.IdxRefIdeal.nD → PrngReg), Pre_IdxRefIdeal m →
    θ_run (Cert.IdxRefIdeal.defs (F := Ideal)) (onTc (τ := Cert.IdxRefIdeal.τ) (Cert.IdxRefIdeal.main (F := Ideal))) ⟨m, fun _ => 0, g⟩ (fun r => (∀ c : Dev Cert.IdxRefIdeal.nD,
      r.2.mem ((c.tc : Thread Cert.IdxRefIdeal.nD Cert.IdxRefIdeal.τ).loc Cert.IdxRefIdeal.main_arg0) = m ((c.tc : Thread Cert.IdxRefIdeal.nD Cert.IdxRefIdeal.τ).loc Cert.IdxRefIdeal.main_arg0)
      ∧ r.2.mem ((c.tc : Thread Cert.IdxRefIdeal.nD Cert.IdxRefIdeal.τ).loc Cert.IdxRefIdeal.main_arg1) = m ((c.tc : Thread Cert.IdxRefIdeal.nD Cert.IdxRefIdeal.τ).loc Cert.IdxRefIdeal.main_arg1)
      ∧ r.2.mem ((c.tc : Thread Cert.IdxRefIdeal.nD Cert.IdxRefIdeal.τ).loc Cert.IdxRefIdeal.main_arg2) = m ((c.tc : Thread Cert.IdxRefIdeal.nD Cert.IdxRefIdeal.τ).loc Cert.IdxRefIdeal.main_arg2)
      ∧ r.2.mem ((c.tc : Thread Cert.IdxRefIdeal.nD Cert.IdxRefIdeal.τ).loc Cert.IdxRefIdeal.main_arg3) = m ((c.tc : Thread Cert.IdxRefIdeal.nD Cert.IdxRefIdeal.τ).loc Cert.IdxRefIdeal.main_arg3)
      ∧ r.2.mem ((c.tc : Thread Cert.IdxRefIdeal.nD Cert.IdxRefIdeal.τ).loc Cert.IdxRefIdeal.main_arg4) = m ((c.tc : Thread Cert.IdxRefIdeal.nD Cert.IdxRefIdeal.τ).loc Cert.IdxRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_uz_finite [hPoolIdeal : Cert.PoolIdeal.Facts] [hPre_uz_finite : Cert.Pre_uz_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_uz_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_uz_finite [hPoolRefIdeal : Cert.PoolRefIdeal.Facts] [hPre_uz_finite : Cert.Pre_uz_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_uz_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Mask [hMask : Cert.Mask.Facts] : Prop :=
  ∀ (m : (ℓ : Loc Cert.Mask.nD Cert.Mask.τ Cert.Mask.sig) → Buf (Elt Bits) ℓ) (g : Dev Cert.Mask.nD → PrngReg), Pre_Mask m →
    θ_run (Cert.Mask.defs (F := Bits)) (onTc (τ := Cert.Mask.τ) (Cert.Mask.main (F := Bits))) ⟨m, fun _ => 0, g⟩ (fun r => (∀ c : Dev Cert.Mask.nD,
      r.2.mem ((c.tc : Thread Cert.Mask.nD Cert.Mask.τ).loc Cert.Mask.main_arg0) = m ((c.tc : Thread Cert.Mask.nD Cert.Mask.τ).loc Cert.Mask.main_arg0)
      ∧ r.2.mem ((c.tc : Thread Cert.Mask.nD Cert.Mask.τ).loc Cert.Mask.main_arg1) = m ((c.tc : Thread Cert.Mask.nD Cert.Mask.τ).loc Cert.Mask.main_arg1)
      ∧ r.2.mem ((c.tc : Thread Cert.Mask.nD Cert.Mask.τ).loc Cert.Mask.main_arg2) = m ((c.tc : Thread Cert.Mask.nD Cert.Mask.τ).loc Cert.Mask.main_arg2))
      ∧ r.2.sem = fun _ => 0)

def quiescent_PoolSumIdeal [hPoolSumIdeal : Cert.PoolSumIdeal.Facts] : Prop :=
  ∀ (m : (ℓ : Loc Cert.PoolSumIdeal.nD Cert.PoolSumIdeal.τ Cert.PoolSumIdeal.sig) → Buf (Elt Ideal) ℓ) (g : Dev Cert.PoolSumIdeal.nD → PrngReg), Pre_PoolSumIdeal m →
    θ_run (Cert.PoolSumIdeal.defs (F := Ideal)) (onTc (τ := Cert.PoolSumIdeal.τ) (Cert.PoolSumIdeal.main (F := Ideal))) ⟨m, fun _ => 0, g⟩ (fun r => (∀ c : Dev Cert.PoolSumIdeal.nD,
      r.2.mem ((c.tc : Thread Cert.PoolSumIdeal.nD Cert.PoolSumIdeal.τ).loc Cert.PoolSumIdeal.main_arg0) = m ((c.tc : Thread Cert.PoolSumIdeal.nD Cert.PoolSumIdeal.τ).loc Cert.PoolSumIdeal.main_arg0)
      ∧ r.2.mem ((c.tc : Thread Cert.PoolSumIdeal.nD Cert.PoolSumIdeal.τ).loc Cert.PoolSumIdeal.main_arg1) = m ((c.tc : Thread Cert.PoolSumIdeal.nD Cert.PoolSumIdeal.τ).loc Cert.PoolSumIdeal.main_arg1)
      ∧ r.2.mem ((c.tc : Thread Cert.PoolSumIdeal.nD Cert.PoolSumIdeal.τ).loc Cert.PoolSumIdeal.main_arg2) = m ((c.tc : Thread Cert.PoolSumIdeal.nD Cert.PoolSumIdeal.τ).loc Cert.PoolSumIdeal.main_arg2)
      ∧ r.2.mem ((c.tc : Thread Cert.PoolSumIdeal.nD Cert.PoolSumIdeal.τ).loc Cert.PoolSumIdeal.main_arg3) = m ((c.tc : Thread Cert.PoolSumIdeal.nD Cert.PoolSumIdeal.τ).loc Cert.PoolSumIdeal.main_arg3))
      ∧ r.2.sem = fun _ => 0)

def preserves_QzProj_QzProjIdeal : Prop :=
  True

def algebraic_QzProjIdeal_QzProjRefIdeal [hQzProjIdeal : Cert.QzProjIdeal.Facts] [hQzProjRefIdeal : Cert.QzProjRefIdeal.Facts] : Prop :=
  ∀ (m : (ℓ : Loc Cert.QzProjIdeal.nD Cert.QzProjIdeal.τ Cert.QzProjIdeal.sig) → Buf (Elt Ideal) ℓ) (g : Dev Cert.QzProjIdeal.nD → PrngReg)
    (m' : (ℓ : Loc Cert.QzProjRefIdeal.nD Cert.QzProjRefIdeal.τ Cert.QzProjRefIdeal.sig) → Buf (Elt Ideal) ℓ) (g' : Dev Cert.QzProjRefIdeal.nD → PrngReg), Pre_QzProjIdeal m →
    (∀ c : Dev Cert.QzProjIdeal.nD,
      m' ((c.tc : Thread Cert.QzProjRefIdeal.nD Cert.QzProjRefIdeal.τ).loc Cert.QzProjRefIdeal.main_arg0) = m ((c.tc : Thread Cert.QzProjIdeal.nD Cert.QzProjIdeal.τ).loc Cert.QzProjIdeal.main_arg0)
      ∧ m' ((c.tc : Thread Cert.QzProjRefIdeal.nD Cert.QzProjRefIdeal.τ).loc Cert.QzProjRefIdeal.main_arg1) = m ((c.tc : Thread Cert.QzProjIdeal.nD Cert.QzProjIdeal.τ).loc Cert.QzProjIdeal.main_arg1)
      ∧ m' ((c.tc : Thread Cert.QzProjRefIdeal.nD Cert.QzProjRefIdeal.τ).loc Cert.QzProjRefIdeal.main_arg2) = m ((c.tc : Thread Cert.QzProjIdeal.nD Cert.QzProjIdeal.τ).loc Cert.QzProjIdeal.main_arg2)) →
    ∃ (v0 : (c : Dev Cert.QzProjIdeal.nD) → Buf (Elt Ideal) ((c.tc : Thread Cert.QzProjIdeal.nD Cert.QzProjIdeal.τ).loc Cert.QzProjIdeal.main_v4)),
      θ_run (Cert.QzProjIdeal.defs (F := Ideal)) (onTc (τ := Cert.QzProjIdeal.τ) (Cert.QzProjIdeal.main (F := Ideal))) ⟨m, fun _ => 0, g⟩ (fun r => ∀ c : Dev Cert.QzProjIdeal.nD,
          r.2.mem ((c.tc : Thread Cert.QzProjIdeal.nD Cert.QzProjIdeal.τ).loc Cert.QzProjIdeal.main_v4) = v0 c
          ∧ r.2.mem ((c.tc : Thread Cert.QzProjIdeal.nD Cert.QzProjIdeal.τ).loc Cert.QzProjIdeal.main_arg0) = m ((c.tc : Thread Cert.QzProjIdeal.nD Cert.QzProjIdeal.τ).loc Cert.QzProjIdeal.main_arg0)
          ∧ r.2.mem ((c.tc : Thread Cert.QzProjIdeal.nD Cert.QzProjIdeal.τ).loc Cert.QzProjIdeal.main_arg1) = m ((c.tc : Thread Cert.QzProjIdeal.nD Cert.QzProjIdeal.τ).loc Cert.QzProjIdeal.main_arg1)
          ∧ r.2.mem ((c.tc : Thread Cert.QzProjIdeal.nD Cert.QzProjIdeal.τ).loc Cert.QzProjIdeal.main_arg2) = m ((c.tc : Thread Cert.QzProjIdeal.nD Cert.QzProjIdeal.τ).loc Cert.QzProjIdeal.main_arg2))
      ∧ θ_run (Cert.QzProjRefIdeal.defs (F := Ideal)) (onTc (τ := Cert.QzProjRefIdeal.τ) (Cert.QzProjRefIdeal.main (F := Ideal))) ⟨m', fun _ => 0, g'⟩ (fun r => ∀ c : Dev Cert.QzProjRefIdeal.nD,
          r.2.mem ((c.tc : Thread Cert.QzProjRefIdeal.nD Cert.QzProjRefIdeal.τ).loc Cert.QzProjRefIdeal.main_v18) = v0 c
          ∧ r.2.mem ((c.tc : Thread Cert.QzProjRefIdeal.nD Cert.QzProjRefIdeal.τ).loc Cert.QzProjRefIdeal.main_arg0) = m' ((c.tc : Thread Cert.QzProjRefIdeal.nD Cert.QzProjRefIdeal.τ).loc Cert.QzProjRefIdeal.main_arg0)
          ∧ r.2.mem ((c.tc : Thread Cert.QzProjRefIdeal.nD Cert.QzProjRefIdeal.τ).loc Cert.QzProjRefIdeal.main_arg1) = m' ((c.tc : Thread Cert.QzProjRefIdeal.nD Cert.QzProjRefIdeal.τ).loc Cert.QzProjRefIdeal.main_arg1)
          ∧ r.2.mem ((c.tc : Thread Cert.QzProjRefIdeal.nD Cert.QzProjRefIdeal.τ).loc Cert.QzProjRefIdeal.main_arg2) = m' ((c.tc : Thread Cert.QzProjRefIdeal.nD Cert.QzProjRefIdeal.τ).loc Cert.QzProjRefIdeal.main_arg2))

def preserves_Attn_AttnIdeal : Prop :=
  IdealRules.named_const.Statement Cert.AttnIdeal.κ "scale" .f32 0x3E0293EE#32 (((Real.sqrt 128)⁻¹ * (Real.log 2)⁻¹ : ℝ) : EReal)
  ∧ IdealRules.named_const.Statement Cert.AttnIdeal.κ "mask" .f32 0xF149F2CA#32 ⊥

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v3)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v15) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)
      ∧ m' ((c.tc : Thread Cert.OutBRefIdeal.nD Cert.OutBRefIdeal.τ).loc Cert.OutBRefIdeal.main_arg3) = m ((c.tc : Thread Cert.OutBIdeal.nD Cert.OutBIdeal.τ).loc Cert.OutBIdeal.main_arg3)) →
    ∃ (v0 : (c : Dev Cert.OutBIdeal.nD) → Buf (Elt Ideal) ((c.tc : Thread Cert.OutBIdeal.nD Cert.OutBIdeal.τ).loc Cert.OutBIdeal.main_v4)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v4) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2)
          ∧ r.2.mem ((c.tc : Thread Cert.OutBIdeal.nD Cert.OutBIdeal.τ).loc Cert.OutBIdeal.main_arg3) = m ((c.tc : Thread Cert.OutBIdeal.nD Cert.OutBIdeal.τ).loc Cert.OutBIdeal.main_arg3))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v16) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2)
          ∧ r.2.mem ((c.tc : Thread Cert.OutBRefIdeal.nD Cert.OutBRefIdeal.τ).loc Cert.OutBRefIdeal.main_arg3) = m' ((c.tc : Thread Cert.OutBRefIdeal.nD Cert.OutBRefIdeal.τ).loc Cert.OutBRefIdeal.main_arg3))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v3)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v3) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v3) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_Idx_IdxIdeal : Prop :=
  True

def algebraic_IdxIdeal_IdxRefIdeal [hIdxIdeal : Cert.IdxIdeal.Facts] [hIdxRefIdeal : Cert.IdxRefIdeal.Facts] : Prop :=
  ∀ (m : (ℓ : Loc Cert.IdxIdeal.nD Cert.IdxIdeal.τ Cert.IdxIdeal.sig) → Buf (Elt Ideal) ℓ) (g : Dev Cert.IdxIdeal.nD → PrngReg)
    (m' : (ℓ : Loc Cert.IdxRefIdeal.nD Cert.IdxRefIdeal.τ Cert.IdxRefIdeal.sig) → Buf (Elt Ideal) ℓ) (g' : Dev Cert.IdxRefIdeal.nD → PrngReg), Pre_IdxIdeal m →
    (∀ c : Dev Cert.IdxIdeal.nD,
      m' ((c.tc : Thread Cert.IdxRefIdeal.nD Cert.IdxRefIdeal.τ).loc Cert.IdxRefIdeal.main_arg0) = m ((c.tc : Thread Cert.IdxIdeal.nD Cert.IdxIdeal.τ).loc Cert.IdxIdeal.main_arg0)
      ∧ m' ((c.tc : Thread Cert.IdxRefIdeal.nD Cert.IdxRefIdeal.τ).loc Cert.IdxRefIdeal.main_arg1) = m ((c.tc : Thread Cert.IdxIdeal.nD Cert.IdxIdeal.τ).loc Cert.IdxIdeal.main_arg1)
      ∧ m' ((c.tc : Thread Cert.IdxRefIdeal.nD Cert.IdxRefIdeal.τ).loc Cert.IdxRefIdeal.main_arg2) = m ((c.tc : Thread Cert.IdxIdeal.nD Cert.IdxIdeal.τ).loc Cert.IdxIdeal.main_arg2)
      ∧ m' ((c.tc : Thread Cert.IdxRefIdeal.nD Cert.IdxRefIdeal.τ).loc Cert.IdxRefIdeal.main_arg3) = m ((c.tc : Thread Cert.IdxIdeal.nD Cert.IdxIdeal.τ).loc Cert.IdxIdeal.main_arg3)
      ∧ m' ((c.tc : Thread Cert.IdxRefIdeal.nD Cert.IdxRefIdeal.τ).loc Cert.IdxRefIdeal.main_arg4) = m ((c.tc : Thread Cert.IdxIdeal.nD Cert.IdxIdeal.τ).loc Cert.IdxIdeal.main_arg4)) →
    ∃ (v0 : (c : Dev Cert.IdxIdeal.nD) → Buf (Elt Ideal) ((c.tc : Thread Cert.IdxIdeal.nD Cert.IdxIdeal.τ).loc Cert.IdxIdeal.main_v11_0)) (v1 : (c : Dev Cert.IdxIdeal.nD) → Buf (Elt Ideal) ((c.tc : Thread Cert.IdxIdeal.nD Cert.IdxIdeal.τ).loc Cert.IdxIdeal.main_v11_1)) (v2 : (c : Dev Cert.IdxIdeal.nD) → Buf (Elt Ideal) ((c.tc : Thread Cert.IdxIdeal.nD Cert.IdxIdeal.τ).loc Cert.IdxIdeal.main_v11_2)) (v3 : (c : Dev Cert.IdxIdeal.nD) → Buf (Elt Ideal) ((c.tc : Thread Cert.IdxIdeal.nD Cert.IdxIdeal.τ).loc Cert.IdxIdeal.main_v11_3)),
      θ_run (Cert.IdxIdeal.defs (F := Ideal)) (onTc (τ := Cert.IdxIdeal.τ) (Cert.IdxIdeal.main (F := Ideal))) ⟨m, fun _ => 0, g⟩ (fun r => ∀ c : Dev Cert.IdxIdeal.nD,
          r.2.mem ((c.tc : Thread Cert.IdxIdeal.nD Cert.IdxIdeal.τ).loc Cert.IdxIdeal.main_v11_0) = v0 c
          ∧ r.2.mem ((c.tc : Thread Cert.IdxIdeal.nD Cert.IdxIdeal.τ).loc Cert.IdxIdeal.main_v11_1) = v1 c
          ∧ r.2.mem ((c.tc : Thread Cert.IdxIdeal.nD Cert.IdxIdeal.τ).loc Cert.IdxIdeal.main_v11_2) = v2 c
          ∧ r.2.mem ((c.tc : Thread Cert.IdxIdeal.nD Cert.IdxIdeal.τ).loc Cert.IdxIdeal.main_v11_3) = v3 c
          ∧ r.2.mem ((c.tc : Thread Cert.IdxIdeal.nD Cert.IdxIdeal.τ).loc Cert.IdxIdeal.main_arg0) = m ((c.tc : Thread Cert.IdxIdeal.nD Cert.IdxIdeal.τ).loc Cert.IdxIdeal.main_arg0)
          ∧ r.2.mem ((c.tc : Thread Cert.IdxIdeal.nD Cert.IdxIdeal.τ).loc Cert.IdxIdeal.main_arg1) = m ((c.tc : Thread Cert.IdxIdeal.nD Cert.IdxIdeal.τ).loc Cert.IdxIdeal.main_arg1)
          ∧ r.2.mem ((c.tc : Thread Cert.IdxIdeal.nD Cert.IdxIdeal.τ).loc Cert.IdxIdeal.main_arg2) = m ((c.tc : Thread Cert.IdxIdeal.nD Cert.IdxIdeal.τ).loc Cert.IdxIdeal.main_arg2)
          ∧ r.2.mem ((c.tc : Thread Cert.IdxIdeal.nD Cert.IdxIdeal.τ).loc Cert.IdxIdeal.main_arg3) = m ((c.tc : Thread Cert.IdxIdeal.nD Cert.IdxIdeal.τ).loc Cert.IdxIdeal.main_arg3)
          ∧ r.2.mem ((c.tc : Thread Cert.IdxIdeal.nD Cert.IdxIdeal.τ).loc Cert.IdxIdeal.main_arg4) = m ((c.tc : Thread Cert.IdxIdeal.nD Cert.IdxIdeal.τ).loc Cert.IdxIdeal.main_arg4))
      ∧ θ_run (Cert.IdxRefIdeal.defs (F := Ideal)) (onTc (τ := Cert.IdxRefIdeal.τ) (Cert.IdxRefIdeal.main (F := Ideal))) ⟨m', fun _ => 0, g'⟩ (fun r => ∀ c : Dev Cert.IdxRefIdeal.nD,
          r.2.mem ((c.tc : Thread Cert.IdxRefIdeal.nD Cert.IdxRefIdeal.τ).loc Cert.IdxRefIdeal.main_v16) = v0 c
          ∧ r.2.mem ((c.tc : Thread Cert.IdxRefIdeal.nD Cert.IdxRefIdeal.τ).loc Cert.IdxRefIdeal.main_v33) = v1 c
          ∧ r.2.mem ((c.tc : Thread Cert.IdxRefIdeal.nD Cert.IdxRefIdeal.τ).loc Cert.IdxRefIdeal.main_v47) = v2 c
          ∧ r.2.mem ((c.tc : Thread Cert.IdxRefIdeal.nD Cert.IdxRefIdeal.τ).loc Cert.IdxRefIdeal.main_v48) = v3 c
          ∧ r.2.mem ((c.tc : Thread Cert.IdxRefIdeal.nD Cert.IdxRefIdeal.τ).loc Cert.IdxRefIdeal.main_arg0) = m' ((c.tc : Thread Cert.IdxRefIdeal.nD Cert.IdxRefIdeal.τ).loc Cert.IdxRefIdeal.main_arg0)
          ∧ r.2.mem ((c.tc : Thread Cert.IdxRefIdeal.nD Cert.IdxRefIdeal.τ).loc Cert.IdxRefIdeal.main_arg1) = m' ((c.tc : Thread Cert.IdxRefIdeal.nD Cert.IdxRefIdeal.τ).loc Cert.IdxRefIdeal.main_arg1)
          ∧ r.2.mem ((c.tc : Thread Cert.IdxRefIdeal.nD Cert.IdxRefIdeal.τ).loc Cert.IdxRefIdeal.main_arg2) = m' ((c.tc : Thread Cert.IdxRefIdeal.nD Cert.IdxRefIdeal.τ).loc Cert.IdxRefIdeal.main_arg2)
          ∧ r.2.mem ((c.tc : Thread Cert.IdxRefIdeal.nD Cert.IdxRefIdeal.τ).loc Cert.IdxRefIdeal.main_arg3) = m' ((c.tc : Thread Cert.IdxRefIdeal.nD Cert.IdxRefIdeal.τ).loc Cert.IdxRefIdeal.main_arg3)
          ∧ r.2.mem ((c.tc : Thread Cert.IdxRefIdeal.nD Cert.IdxRefIdeal.τ).loc Cert.IdxRefIdeal.main_arg4) = m' ((c.tc : Thread Cert.IdxRefIdeal.nD Cert.IdxRefIdeal.τ).loc Cert.IdxRefIdeal.main_arg4))

def preserves_Pool_PoolIdeal : Prop :=
  True

def algebraic_PoolIdeal_PoolRefIdeal_pre_uz_finite [hPoolIdeal : Cert.PoolIdeal.Facts] [hPoolRefIdeal : Cert.PoolRefIdeal.Facts] [hPre_uz_finite : Cert.Pre_uz_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_uz_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v57) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def algebraic_PoolIdeal_PoolSumIdeal [hPoolIdeal : Cert.PoolIdeal.Facts] [hPoolSumIdeal : Cert.PoolSumIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolSumIdeal.nD Cert.PoolSumIdeal.τ Cert.PoolSumIdeal.sig) → Buf (Elt Ideal) ℓ) (g' : Dev Cert.PoolSumIdeal.nD → PrngReg), Pre_PoolIdeal m →
    (∀ c : Dev Cert.PoolIdeal.nD,
      m' ((c.tc : Thread Cert.PoolSumIdeal.nD Cert.PoolSumIdeal.τ).loc Cert.PoolSumIdeal.main_arg0) = m ((c.tc : Thread Cert.PoolIdeal.nD Cert.PoolIdeal.τ).loc Cert.PoolIdeal.main_arg0)
      ∧ m' ((c.tc : Thread Cert.PoolSumIdeal.nD Cert.PoolSumIdeal.τ).loc Cert.PoolSumIdeal.main_arg1) = m ((c.tc : Thread Cert.PoolIdeal.nD Cert.PoolIdeal.τ).loc Cert.PoolIdeal.main_arg1)
      ∧ m' ((c.tc : Thread Cert.PoolSumIdeal.nD Cert.PoolSumIdeal.τ).loc Cert.PoolSumIdeal.main_arg2) = m ((c.tc : Thread Cert.PoolIdeal.nD Cert.PoolIdeal.τ).loc Cert.PoolIdeal.main_arg2)
      ∧ m' ((c.tc : Thread Cert.PoolSumIdeal.nD Cert.PoolSumIdeal.τ).loc Cert.PoolSumIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolSumIdeal.defs (F := Ideal)) (onTc (τ := Cert.PoolSumIdeal.τ) (Cert.PoolSumIdeal.main (F := Ideal))) ⟨m', fun _ => 0, g'⟩ (fun r => ∀ c : Dev Cert.PoolSumIdeal.nD,
          r.2.mem ((c.tc : Thread Cert.PoolSumIdeal.nD Cert.PoolSumIdeal.τ).loc Cert.PoolSumIdeal.main_v50) = v0 c
          ∧ r.2.mem ((c.tc : Thread Cert.PoolSumIdeal.nD Cert.PoolSumIdeal.τ).loc Cert.PoolSumIdeal.main_arg0) = m' ((c.tc : Thread Cert.PoolSumIdeal.nD Cert.PoolSumIdeal.τ).loc Cert.PoolSumIdeal.main_arg0)
          ∧ r.2.mem ((c.tc : Thread Cert.PoolSumIdeal.nD Cert.PoolSumIdeal.τ).loc Cert.PoolSumIdeal.main_arg1) = m' ((c.tc : Thread Cert.PoolSumIdeal.nD Cert.PoolSumIdeal.τ).loc Cert.PoolSumIdeal.main_arg1)
          ∧ r.2.mem ((c.tc : Thread Cert.PoolSumIdeal.nD Cert.PoolSumIdeal.τ).loc Cert.PoolSumIdeal.main_arg2) = m' ((c.tc : Thread Cert.PoolSumIdeal.nD Cert.PoolSumIdeal.τ).loc Cert.PoolSumIdeal.main_arg2)
          ∧ r.2.mem ((c.tc : Thread Cert.PoolSumIdeal.nD Cert.PoolSumIdeal.τ).loc Cert.PoolSumIdeal.main_arg3) = m' ((c.tc : Thread Cert.PoolSumIdeal.nD Cert.PoolSumIdeal.τ).loc Cert.PoolSumIdeal.main_arg3))

def Claim : Prop :=
  ∃ (hQzProj : Cert.QzProj.Facts) (hQzProjIdeal : Cert.QzProjIdeal.Facts) (hQzProjRefIdeal : Cert.QzProjRefIdeal.Facts) (hAttn : Cert.Attn.Facts) (hAttnIdeal : Cert.AttnIdeal.Facts) (hInB : Cert.InB.Facts) (hInBIdeal : Cert.InBIdeal.Facts) (hInBRefIdeal : Cert.InBRefIdeal.Facts) (hOutB : Cert.OutB.Facts) (hOutBIdeal : Cert.OutBIdeal.Facts) (hOutBRefIdeal : Cert.OutBRefIdeal.Facts) (hOutA : Cert.OutA.Facts) (hOutAIdeal : Cert.OutAIdeal.Facts) (hOutARefIdeal : Cert.OutARefIdeal.Facts) (hIdx : Cert.Idx.Facts) (hIdxIdeal : Cert.IdxIdeal.Facts) (hIdxRefIdeal : Cert.IdxRefIdeal.Facts) (hPool : Cert.Pool.Facts) (hPoolIdeal : Cert.PoolIdeal.Facts) (hPoolRefIdeal : Cert.PoolRefIdeal.Facts) (hMask : Cert.Mask.Facts) (hPoolSumIdeal : Cert.PoolSumIdeal.Facts) (hPre_uz_finite : Cert.Pre_uz_finite.Facts),
    quiescent_QzProj (hQzProj := hQzProj)
    ∧ quiescent_QzProjIdeal (hQzProjIdeal := hQzProjIdeal)
    ∧ quiescent_QzProjRefIdeal (hQzProjRefIdeal := hQzProjRefIdeal)
    ∧ quiescent_Attn (hAttn := hAttn)
    ∧ quiescent_AttnIdeal (hAttnIdeal := hAttnIdeal)
    ∧ quiescent_InB (hInB := hInB)
    ∧ quiescent_InBIdeal (hInBIdeal := hInBIdeal)
    ∧ quiescent_InBRefIdeal (hInBRefIdeal := hInBRefIdeal)
    ∧ quiescent_OutB (hOutB := hOutB)
    ∧ quiescent_OutBIdeal (hOutBIdeal := hOutBIdeal)
    ∧ quiescent_OutBRefIdeal (hOutBRefIdeal := hOutBRefIdeal)
    ∧ quiescent_OutA (hOutA := hOutA)
    ∧ quiescent_OutAIdeal (hOutAIdeal := hOutAIdeal)
    ∧ quiescent_OutARefIdeal (hOutARefIdeal := hOutARefIdeal)
    ∧ quiescent_Idx (hIdx := hIdx)
    ∧ quiescent_IdxIdeal (hIdxIdeal := hIdxIdeal)
    ∧ quiescent_IdxRefIdeal (hIdxRefIdeal := hIdxRefIdeal)
    ∧ quiescent_Pool (hPool := hPool)
    ∧ quiescent_PoolIdeal (hPoolIdeal := hPoolIdeal)
    ∧ quiescent_PoolIdeal_pre_uz_finite (hPoolIdeal := hPoolIdeal) (hPre_uz_finite := hPre_uz_finite)
    ∧ quiescent_PoolRefIdeal (hPoolRefIdeal := hPoolRefIdeal)
    ∧ quiescent_PoolRefIdeal_pre_uz_finite (hPoolRefIdeal := hPoolRefIdeal) (hPre_uz_finite := hPre_uz_finite)
    ∧ quiescent_Mask (hMask := hMask)
    ∧ quiescent_PoolSumIdeal (hPoolSumIdeal := hPoolSumIdeal)
    ∧ preserves_QzProj_QzProjIdeal
    ∧ algebraic_QzProjIdeal_QzProjRefIdeal (hQzProjIdeal := hQzProjIdeal) (hQzProjRefIdeal := hQzProjRefIdeal)
    ∧ preserves_Attn_AttnIdeal
    ∧ preserves_InB_InBIdeal
    ∧ algebraic_InBIdeal_InBRefIdeal (hInBIdeal := hInBIdeal) (hInBRefIdeal := hInBRefIdeal)
    ∧ preserves_OutB_OutBIdeal
    ∧ algebraic_OutBIdeal_OutBRefIdeal (hOutBIdeal := hOutBIdeal) (hOutBRefIdeal := hOutBRefIdeal)
    ∧ preserves_OutA_OutAIdeal
    ∧ algebraic_OutAIdeal_OutARefIdeal (hOutAIdeal := hOutAIdeal) (hOutARefIdeal := hOutARefIdeal)
    ∧ preserves_Idx_IdxIdeal
    ∧ algebraic_IdxIdeal_IdxRefIdeal (hIdxIdeal := hIdxIdeal) (hIdxRefIdeal := hIdxRefIdeal)
    ∧ preserves_Pool_PoolIdeal
    ∧ algebraic_PoolIdeal_PoolRefIdeal_pre_uz_finite (hPoolIdeal := hPoolIdeal) (hPoolRefIdeal := hPoolRefIdeal) (hPre_uz_finite := hPre_uz_finite)
    ∧ algebraic_PoolIdeal_PoolSumIdeal (hPoolIdeal := hPoolIdeal) (hPoolSumIdeal := hPoolSumIdeal)
-- ==== Pre_uz_finite.lean ====
abbrev S16x2048x8192 : Shape := ⟨3, ![16, 2048, 8192]⟩
abbrev S4x1024x1024 : Shape := ⟨3, ![4, 1024, 1024]⟩
abbrev S4x1024 : Shape := ⟨2, ![4, 1024]⟩
abbrev S4096 : Shape := ⟨1, ![4096]⟩
abbrev S_ : Shape := ⟨0, ![]⟩

class Facts : Prop where
  bitsLt_bf16_f32 : FTy.bits .bf16 < FTy.bits .f32
  bcast_S_S16x2048x8192 : S_.BroadcastsInDim S16x2048x8192 (![] : Fin 0 → Fin S16x2048x8192.rank)

variable [Facts]

def fn {F : FTy → Type} [FloatOps F] (main_arg0 : FVec F S16x2048x8192 .bf16) (main_arg1 : FVec F S4x1024x1024 .f32) (main_arg2 : FVec F S4x1024 .f32) (main_arg3 : FVec F S4096 .f32) : IVec S16x2048x8192 1 :=
  let main_v0 : FVec F S16x2048x8192 .f32 := (extf .f32 · bitsLt_bf16_f32) main_arg0
  let main_v1 : FVec F S16x2048x8192 .f32 := Host.absf main_v0
  let main_cst : FVec F S_ .f32 := constant S_ .f32 0x7F800000#32
  let main_v2 : FVec F S16x2048x8192 .f32 := broadcastInDim S16x2048x8192 ![] bcast_S_S16x2048x8192 main_cst
  let main_v3 : IVec S16x2048x8192 1 := cmpf .olt main_v1 main_v2
  main_v3
-- ==== QzProj.lean ====
abbrev S16x2048x2048 : Shape := ⟨3, ![16, 2048, 2048]⟩
abbrev S2048 : Shape := ⟨1, ![2048]⟩
abbrev S2048x9552 : Shape := ⟨2, ![2048, 9552]⟩
abbrev S32768x2048 : Shape := ⟨2, ![32768, 2048]⟩
abbrev S9552x2048 : Shape := ⟨2, ![9552, 2048]⟩
abbrev S1x2048 : Shape := ⟨2, ![1, 2048]⟩
abbrev S32768x8192 : Shape := ⟨2, ![32768, 8192]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9552, .f32⟩
  | .hbm, ⟨3, _⟩ => ⟨S32768x2048, .f32⟩
  | .hbm, ⟨4, _⟩ => ⟨S9552x2048, .f32⟩
  | .hbm, ⟨5, _⟩ => ⟨S9552x2048, .bf16⟩
  | .hbm, ⟨6, _⟩ => ⟨S1x2048, .f32⟩
  | .hbm, ⟨7, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c2_i32 : BitVec 32 := 2#32
  let v5 : BitVec 1 := Scalar.cmpi .sge arg1 c2_i32
  let c5456_i32 : BitVec 32 := 5456#32
  let c2_i32_3 : BitVec 32 := 2#32
  let v6 : BitVec 32 := Scalar.subi arg1 c2_i32_3
  let c2048_i32_4 : BitVec 32 := 2048#32
  let v7 : BitVec 32 := Scalar.muli v6 c2048_i32_4
  let v8 : BitVec 32 := Scalar.addi c5456_i32 v7
  let c0_i32 : BitVec 32 := 0#32
  let v0 : BitVec 1 := Scalar.cmpi .sge arg1 c0_i32
  let c0_i32_1 : BitVec 32 := 0#32
  let c0_i32_0 : BitVec 32 := 0#32
  let v1 : BitVec 32 := Scalar.subi arg1 c0_i32_0
  let c2048_i32 : BitVec 32 := 2048#32
  let v2 : BitVec 32 := Scalar.muli v1 c2048_i32
  let v3 : BitVec 32 := Scalar.addi c0_i32_1 v2
  let c0_i32_2 : BitVec 32 := 0#32
  let v4 : BitVec 32 := Scalar.select v0 v3 c0_i32_2
  let v9 : BitVec 32 := Scalar.select v5 v8 v4
  v9
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c0_i32_0 : BitVec 32 := 0#32
  let v1 : BitVec 32 := Scalar.subi arg1 c0_i32_0
  let c2048_i32 : BitVec 32 := 2048#32
  let v2 : BitVec 32 := Scalar.muli v1 c2048_i32
  let c0_i32_1 : BitVec 32 := 0#32
  let v3 : BitVec 32 := Scalar.addi c0_i32_1 v2
  let c0_i32_2 : BitVec 32 := 0#32
  let v4 : BitVec 32 := Scalar.select v0 v3 c0_i32_2
  let c2_i32 : BitVec 32 := 2#32
  let v5 : BitVec 1 := Scalar.cmpi .sge arg1 c2_i32
  let c2_i32_3 : BitVec 32 := 2#32
  let v6 : BitVec 32 := Scalar.subi arg1 c2_i32_3
  let c2048_i32_4 : BitVec 32 := 2048#32
  let v7 : BitVec 32 := Scalar.muli v6 c2048_i32_4
  let c5456_i32 : BitVec 32 := 5456#32
  let v8 : BitVec 32 := Scalar.addi c5456_i32 v7
  let v9 : BitVec 32 := Scalar.select v5 v8 v4
  let v10 : BitVec 32 := v9
  let c0_i32_5 : BitVec 32 := 0#32
  let c0_i32_6 : BitVec 32 := 0#32
  ![v10.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QzProjRefIdeal.lean ====
abbrev S16x2048x2048 : Shape := ⟨3, ![16, 2048, 2048]⟩
abbrev S2048 : Shape := ⟨1, ![2048]⟩
abbrev S2048x9552 : Shape := ⟨2, ![2048, 9552]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x9552 : Shape := ⟨3, ![16, 2048, 9552]⟩
abbrev S16x2048x4096 : Shape := ⟨3, ![16, 2048, 4096]⟩
abbrev S16x2048x8192 : Shape := ⟨3, ![16, 2048, 8192]⟩
abbrev S32768x8192 : Shape := ⟨2, ![32768, 8192]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9552, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x9552, .f32⟩
  | .hbm, ⟨20, _⟩ => ⟨S16x2048x4096, .f32⟩
  | .hbm, ⟨21, _⟩ => ⟨S16x2048x4096, .f32⟩
  | .hbm, ⟨22, _⟩ => ⟨S16x2048x8192, .f32⟩
  | .hbm, ⟨23, _⟩ => ⟨S32768x8192, .f32⟩
  | .hbm, ⟨24, _⟩ => ⟨S32768x8192, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Attn.lean ====
abbrev S16x2048x8192 : Shape := ⟨3, ![16, 2048, 8192]⟩
abbrev S16x2048x256 : Shape := ⟨3, ![16, 2048, 256]⟩
abbrev S256x32x128 : Shape := ⟨3, ![256, 32, 128]⟩
abbrev S32x32 : Shape := ⟨2, ![32, 32]⟩
abbrev S384 : Shape := ⟨1, ![384]⟩
abbrev S2048 : Shape := ⟨1, ![2048]⟩
abbrev S16x2048x256x1 : Shape := ⟨4, ![16, 2048, 256, 1]⟩
abbrev S1x1x1x2048 : Shape := ⟨4, ![1, 1, 1, 2048]⟩
abbrev S16x2048x256x2048 : Shape := ⟨4, ![16, 2048, 256, 2048]⟩
abbrev S_ : Shape := ⟨0, ![]⟩
abbrev S16x2048x2048 : Shape := ⟨3, ![16, 2048, 2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S16x16x128x16x128 : Shape := ⟨5, ![16, 16, 128, 16, 128]⟩
abbrev S16x16x16x128x128 : Shape := ⟨5, ![16, 16, 16, 128, 128]⟩
abbrev S32x128x256 : Shape := ⟨3, ![32, 128, 256]⟩
abbrev S32x256x128 : Shape := ⟨3, ![32, 256, 128]⟩
abbrev S384x1 : Shape := ⟨2, ![384, 1]⟩
abbrev S384x32 : Shape := ⟨2, ![384, 32]⟩
abbrev S1x32 : Shape := ⟨2, ![1, 32]⟩
abbrev S32 : Shape := ⟨1, ![32]⟩
abbrev S32x384 : Shape := ⟨2, ![32, 384]⟩
abbrev S1x32x1x384 : Shape := ⟨4, ![1, 32, 1, 384]⟩
abbrev S1x32x128x384 : Shape := ⟨4, ![1, 32, 128, 384]⟩
abbrev S32x49152 : Shape := ⟨2, ![32, 49152]⟩
abbrev S32x49024 : Shape := ⟨2, ![32, 49024]⟩
abbrev S32x128x383 : Shape := ⟨3, ![32, 128, 383]⟩
abbrev S16x2048x4096 : Shape := ⟨3, ![16, 2048, 4096]⟩
abbrev S1x128x2048 : Shape := ⟨3, ![1, 128, 2048]⟩
abbrev S1x2048x256 : Shape := ⟨3, ![1, 2048, 256]⟩
abbrev S1x1x16x128x128 : Shape := ⟨5, ![1, 1, 16, 128, 128]⟩
abbrev S16x128x256 : Shape := ⟨3, ![16, 128, 256]⟩
abbrev S16x256x128 : Shape := ⟨3, ![16, 256, 128]⟩
abbrev S2048x256 : Shape := ⟨2, ![2048, 256]⟩
abbrev S16x2048x128 : Shape := ⟨3, ![16, 2048, 128]⟩
abbrev S2048x128 : Shape := ⟨2, ![2048, 128]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x1024x256 : Shape := ⟨3, ![1, 1024, 256]⟩
abbrev S1024x256 : Shape := ⟨2, ![1024, 256]⟩
abbrev S2048x1024 : Shape := ⟨2, ![2048, 1024]⟩
abbrev S16x128x1024 : Shape := ⟨3, ![16, 128, 1024]⟩
abbrev S16x128x128 : Shape := ⟨3, ![16, 128, 128]⟩
abbrev S1x1x1x128x128 : Shape := ⟨5, ![1, 1, 1, 128, 128]⟩
abbrev S1x2048x128 : Shape := ⟨3, ![1, 2048, 128]⟩
abbrev S1x512x256 : Shape := ⟨3, ![1, 512, 256]⟩
abbrev S512x256 : Shape := ⟨2, ![512, 256]⟩
abbrev S2048x512 : Shape := ⟨2, ![2048, 512]⟩
abbrev S16x128x512 : Shape := ⟨3, ![16, 128, 512]⟩
abbrev S1x256x256 : Shape := ⟨3, ![1, 256, 256]⟩
abbrev S256x256 : Shape := ⟨2, ![256, 256]⟩
abbrev S1x384x256 : Shape := ⟨3, ![1, 384, 256]⟩
abbrev S384x256 : Shape := ⟨2, ![384, 256]⟩
abbrev S2048x384 : Shape := ⟨2, ![2048, 384]⟩
abbrev S16x128x384 : Shape := ⟨3, ![16, 128, 384]⟩
abbrev S1x640x256 : Shape := ⟨3, ![1, 640, 256]⟩
abbrev S640x256 : Shape := ⟨2, ![640, 256]⟩
abbrev S2048x640 : Shape := ⟨2, ![2048, 640]⟩
abbrev S16x128x640 : Shape := ⟨3, ![16, 128, 640]⟩
abbrev S1x256x128 : Shape := ⟨3, ![1, 256, 128]⟩
abbrev S256x128 : Shape := ⟨2, ![256, 128]⟩
abbrev S128x1 : Shape := ⟨2, ![128, 1]⟩

abbrev nBuf : Space → Nat
  | .hbm => 58
  | .vmem => 21
  | .smem => 0
  | _ => 0

abbrev bufTy : (tb : Table) → Fin (tcTables nBuf tb) → BufTy
  | .hbm, ⟨0, _⟩ => ⟨S16x2048x8192, .bf16⟩
  | .hbm, ⟨1, _⟩ => ⟨S16x2048x256, .bf16⟩
  | .hbm, ⟨2, _⟩ => ⟨S16x2048x256, .i32⟩
  | .hbm, ⟨3, _⟩ => ⟨S256x32x128, .f32⟩
  | .hbm, ⟨4, _⟩ => ⟨S256x32x128, .f32⟩
  | .hbm, ⟨5, _⟩ => ⟨S32x32, .f32⟩
  | .hbm, ⟨6, _⟩ => ⟨S384, .i32⟩
  | .hbm, ⟨7, _⟩ => ⟨S384, .i1⟩
  | .hbm, ⟨8, _⟩ => ⟨S2048, .i32⟩
  | .hbm, ⟨9, _⟩ => ⟨S16x2048x256x1, .i32⟩
  | .hbm, ⟨10, _⟩ => ⟨S1x1x1x2048, .i32⟩
  | .hbm, ⟨11, _⟩ => ⟨S16x2048x256x2048, .i32⟩
  | .hbm, ⟨12, _⟩ => ⟨S16x2048x256x2048, .i32⟩
  | .hbm, ⟨13, _⟩ => ⟨S16x2048x256x2048, .i1⟩
  | .hbm, ⟨14, _⟩ => ⟨S_, .i1⟩
  | .hbm, ⟨15, _⟩ => ⟨S16x2048x2048, .i1⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x2048x2048, .i1⟩
  | .hbm, ⟨22, _⟩ => ⟨S16x2048x2048, .i1⟩
  | .hbm, ⟨23, _⟩ => ⟨S16x2048x2048, .i1⟩
  | .hbm, ⟨24, _⟩ => ⟨S_, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .bf16⟩
  | .hbm, ⟨30, _⟩ => ⟨S16x16x128x16x128, .bf16⟩
  | .hbm, ⟨31, _⟩ => ⟨S16x16x16x128x128, .bf16⟩
  | .hbm, ⟨32, _⟩ => ⟨S32x128x256, .f32⟩
  | .hbm, ⟨33, _⟩ => ⟨S32x128x256, .bf16⟩
  | .hbm, ⟨34, _⟩ => ⟨S32x256x128, .f32⟩
  | .hbm, ⟨35, _⟩ => ⟨S32x256x128, .bf16⟩
  | .hbm, ⟨36, _⟩ => ⟨S_, .i32⟩
  | .hbm, ⟨37, _⟩ => ⟨S384, .i32⟩
  | .hbm, ⟨38, _⟩ => ⟨S384, .i32⟩
  | .hbm, ⟨39, _⟩ => ⟨S384, .i32⟩
  | .hbm, ⟨40, _⟩ => ⟨S384x1, .i32⟩
  | .hbm, ⟨41, _⟩ => ⟨S384x32, .f32⟩
  | .hbm, ⟨42, _⟩ => ⟨S1x32, .f32⟩
  | .hbm, ⟨43, _⟩ => ⟨S32, .f32⟩
  | .hbm, ⟨44, _⟩ => ⟨S1x32, .f32⟩
  | .hbm, ⟨45, _⟩ => ⟨S384x32, .f32⟩
  | .hbm, ⟨46, _⟩ => ⟨S384x32, .f32⟩
  | .hbm, ⟨47, _⟩ => ⟨S32x384, .f32⟩
  | .hbm, ⟨48, _⟩ => ⟨S1x32x1x384, .f32⟩
  | .hbm, ⟨49, _⟩ => ⟨S1x32x128x384, .f32⟩
  | .hbm, ⟨50, _⟩ => ⟨S32x49152, .f32⟩
  | .hbm, ⟨51, _⟩ => ⟨S32x49024, .f32⟩
  | .hbm, ⟨52, _⟩ => ⟨S32x128x383, .f32⟩
  | .hbm, ⟨53, _⟩ => ⟨S32x128x256, .f32⟩
  | .hbm, ⟨54, _⟩ => ⟨S_, .f32⟩
  | .hbm, ⟨55, _⟩ => ⟨S32x128x256, .f32⟩
  | .hbm, ⟨56, _⟩ => ⟨S32x128x256, .f32⟩
  | .hbm, ⟨57, _⟩ => ⟨S16x2048x4096, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1x16x128x128, .bf16⟩
  | .local _ .vmem, ⟨7, _⟩ => ⟨S1x1x16x128x128, .bf16⟩
  | .local _ .vmem, ⟨8, _⟩ => ⟨S16x128x256, .bf16⟩
  | .local _ .vmem, ⟨9, _⟩ => ⟨S16x128x256, .bf16⟩
  | .local _ .vmem, ⟨10, _⟩ => ⟨S16x256x128, .bf16⟩
  | .local _ .vmem, ⟨11, _⟩ => ⟨S16x256x128, .bf16⟩
  | .local _ .vmem, ⟨12, _⟩ => ⟨S16x128x256, .f32⟩
  | .local _ .vmem, ⟨13, _⟩ => ⟨S16x128x256, .f32⟩
  | .local _ .vmem, ⟨14, _⟩ => ⟨S1x128x2048, .bf16⟩
  | .local _ .vmem, ⟨15, _⟩ => ⟨S1x128x2048, .bf16⟩
  | .local _ .vmem, ⟨16, _⟩ => ⟨S2048x256, .bf16⟩
  | .local _ .vmem, ⟨17, _⟩ => ⟨S16x2048x128, .f32⟩
  | .local _ .vmem, ⟨18, _⟩ => ⟨S2048x256, .f32⟩
  | .local _ .vmem, ⟨19, _⟩ => ⟨S2048x128, .f32⟩
  | .local _ .vmem, ⟨20, _⟩ => ⟨S2048x128, .f32⟩
  | _, _ => ⟨S16x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 16], ![false, false, false]⟩

@[reducible] def k0_t1_loop (i : grid0.Coords) : Scf.Loop 32 :=
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let c1_i32_146 : BitVec 32 := 1#32
  ⟨c0_i32_144, v220, c1_i32_146⟩
def k0_mult1 (i : grid0.Coords) (k0_t1 : Fin (k0_t1_loop i).trips) : BitVec 32 :=
  let c8_i32 : BitVec 32 := 8#32
  let c0_i32_144 : BitVec 32 := 0#32
  let c1_i32_146 : BitVec 32 := 1#32
  let arg16 : BitVec 32 := Scf.iv c0_i32_144 c1_i32_146 k0_t1
  let v348 : BitVec 32 := Scalar.muli c8_i32 arg16
  let c128_i32 : BitVec 32 := 128#32
  let v349 : BitVec 32 := Scalar.muli v348 c128_i32
  v349
def k0_off1 (i : grid0.Coords) (k0_t1 : Fin (k0_t1_loop i).trips) : Fin 3 → Nat :=
  let c0_218 : Index := 0#32
  let c8_i32 : BitVec 32 := 8#32
  let c0_i32_144 : BitVec 32 := 0#32
  let c1_i32_146 : BitVec 32 := 1#32
  let arg16 : BitVec 32 := Scf.iv c0_i32_144 c1_i32_146 k0_t1
  let v348 : BitVec 32 := Scalar.muli c8_i32 arg16
  let c128_i32 : BitVec 32 := 128#32
  let v349 : BitVec 32 := Scalar.muli v348 c128_i32
  let v350 : BitVec 32 := v349
  let v351 : Index := Scalar.indexCast v350
  let c0_219 : Index := 0#32
  ![0, v351.toNat, 0]
def k0_off2 (i : grid0.Coords) (k0_t1 : Fin (k0_t1_loop i).trips) (c0_i32_225 : BitVec 32) : Fin 5 → Nat :=
  let c0_226 : Index := 0#32
  let c0_227 : Index := 0#32
  let c8_i32 : BitVec 32 := 8#32
  let c0_i32_144 : BitVec 32 := 0#32
  let c1_i32_146 : BitVec 32 := 1#32
  let arg16 : BitVec 32 := Scf.iv c0_i32_144 c1_i32_146 k0_t1
  let v348 : BitVec 32 := Scalar.muli c8_i32 arg16
  let v359 : BitVec 32 := Scalar.addi v348 c0_i32_225
  let v360 : Index := Scalar.indexCast v359
  let c0_228 : Index := 0#32
  let c0_229 : Index := 0#32
  ![0, 0, v360.toNat, 0, 0]
def k0_off3 (i : grid0.Coords) (k0_t1 : Fin (k0_t1_loop i).trips) (c0_i32_230 : BitVec 32) : Fin 3 → Nat :=
  let c8_i32 : BitVec 32 := 8#32
  let c0_i32_144 : BitVec 32 := 0#32
  let c1_i32_146 : BitVec 32 := 1#32
  let arg16 : BitVec 32 := Scf.iv c0_i32_144 c1_i32_146 k0_t1
  let v348 : BitVec 32 := Scalar.muli c8_i32 arg16
  let v368 : BitVec 32 := Scalar.addi v348 c0_i32_230
  let v369 : Index := Scalar.indexCast v368
  let c0_231 : Index := 0#32
  let c0_232 : Index := 0#32
  ![v369.toNat, 0, 0]
@[reducible] def k0_t2_loop (i : grid0.Coords) : Scf.Loop 32 :=
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let v217 : BitVec 32 := Scalar.addi c0_i32_144 v216
  let c1_i32_147 : BitVec 32 := 1#32
  ⟨v220, v217, c1_i32_147⟩
def k0_mult2 (i : grid0.Coords) (k0_t2 : Fin (k0_t2_loop i).trips) : BitVec 32 :=
  let c8_i32 : BitVec 32 := 8#32
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let c1_i32_147 : BitVec 32 := 1#32
  let arg16 : BitVec 32 := Scf.iv v220 c1_i32_147 k0_t2
  let v348 : BitVec 32 := Scalar.muli c8_i32 arg16
  let c128_i32 : BitVec 32 := 128#32
  let v349 : BitVec 32 := Scalar.muli v348 c128_i32
  v349
def k0_off4 (i : grid0.Coords) (k0_t2 : Fin (k0_t2_loop i).trips) : Fin 3 → Nat :=
  let c0_218 : Index := 0#32
  let c8_i32 : BitVec 32 := 8#32
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let c1_i32_147 : BitVec 32 := 1#32
  let arg16 : BitVec 32 := Scf.iv v220 c1_i32_147 k0_t2
  let v348 : BitVec 32 := Scalar.muli c8_i32 arg16
  let c128_i32 : BitVec 32 := 128#32
  let v349 : BitVec 32 := Scalar.muli v348 c128_i32
  let v350 : BitVec 32 := v349
  let v351 : Index := Scalar.indexCast v350
  let c0_219 : Index := 0#32
  ![0, v351.toNat, 0]
def k0_off5 (i : grid0.Coords) (k0_t2 : Fin (k0_t2_loop i).trips) (c0_i32_225 : BitVec 32) : Fin 5 → Nat :=
  let c0_226 : Index := 0#32
  let c0_227 : Index := 0#32
  let c8_i32 : BitVec 32 := 8#32
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let c1_i32_147 : BitVec 32 := 1#32
  let arg16 : BitVec 32 := Scf.iv v220 c1_i32_147 k0_t2
  let v348 : BitVec 32 := Scalar.muli c8_i32 arg16
  let v359 : BitVec 32 := Scalar.addi v348 c0_i32_225
  let v360 : Index := Scalar.indexCast v359
  let c0_228 : Index := 0#32
  let c0_229 : Index := 0#32
  ![0, 0, v360.toNat, 0, 0]
def k0_off6 (i : grid0.Coords) (k0_t2 : Fin (k0_t2_loop i).trips) (c0_i32_230 : BitVec 32) : Fin 3 → Nat :=
  let c8_i32 : BitVec 32 := 8#32
  let c0_i32_144 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c0_i32_137 : BitVec 32 := 0#32
  let v200 : BitVec 1 := Scalar.cmpi .sgt v198 c0_i32_137
  let v201 : BitVec 32 := Scalar.extui v200
  let c0_i32_138 : BitVec 32 := 0#32
  let v202 : BitVec 1 := Scalar.cmpi .slt v198 c0_i32_138
  let v203 : BitVec 32 := Scalar.extui v202
  let v204 : BitVec 32 := Scalar.subi v201 v203
  let c2_i32 : BitVec 32 := 2#32
  let c0_i32_139 : BitVec 32 := 0#32
  let v205 : BitVec 1 := Scalar.cmpi .sgt c2_i32 c0_i32_139
  let v206 : BitVec 32 := Scalar.extui v205
  let c0_i32_140 : BitVec 32 := 0#32
  let v207 : BitVec 1 := Scalar.cmpi .slt c2_i32 c0_i32_140
  let v208 : BitVec 32 := Scalar.extui v207
  let v209 : BitVec 32 := Scalar.subi v206 v208
  let v210 : BitVec 1 := Scalar.cmpi .ne v204 v209
  let v211 : BitVec 32 := Scalar.remsi v198 c2_i32
  let c0_i32_141 : BitVec 32 := 0#32
  let v212 : BitVec 1 := Scalar.cmpi .ne v211 c0_i32_141
  let v213 : BitVec 1 := Scalar.andi v210 v212
  let v199 : BitVec 32 := Scalar.divsi v198 c2_i32
  let c1_i32_142 : BitVec 32 := 1#32
  let v214 : BitVec 32 := Scalar.subi v199 c1_i32_142
  let v215 : BitVec 32 := Scalar.select v213 v214 v199
  let v216 : BitVec 32 := Scalar.subi v215 c0_i32_144
  let c1_i32_145 : BitVec 32 := 1#32
  let v218 : BitVec 32 := Scalar.divsi v216 c1_i32_145
  let v219 : BitVec 32 := Scalar.muli v218 c1_i32_145
  let v220 : BitVec 32 := Scalar.addi c0_i32_144 v219
  let c1_i32_147 : BitVec 32 := 1#32
  let arg16 : BitVec 32 := Scf.iv v220 c1_i32_147 k0_t2
  let v348 : BitVec 32 := Scalar.muli c8_i32 arg16
  let v368 : BitVec 32 := Scalar.addi v348 c0_i32_230
  let v369 : Index := Scalar.indexCast v368
  let c0_231 : Index := 0#32
  let c0_232 : Index := 0#32
  ![v369.toNat, 0, 0]
def k0_cond1 (i : grid0.Coords) : BitVec 1 :=
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c2_i32_148 : BitVec 32 := 2#32
  let c0_i32_149 : BitVec 32 := 0#32
  let v221 : BitVec 1 := Scalar.cmpi .eq c2_i32_148 c0_i32_149
  let c1_i32_150 : BitVec 32 := 1#32
  let v222 : BitVec 32 := Scalar.select v221 c1_i32_150 c2_i32_148
  let v223 : BitVec 32 := Scalar.remsi v198 v222
  let c0_i32_152 : BitVec 32 := 0#32
  let v225 : BitVec 1 := Scalar.cmpi .slt v223 c0_i32_152
  let c0_i32_153 : BitVec 32 := 0#32
  let v226 : BitVec 1 := Scalar.cmpi .slt v222 c0_i32_153
  let v227 : BitVec 1 := Scalar.xori v225 v226
  let c0_i32_151 : BitVec 32 := 0#32
  let v224 : BitVec 1 := Scalar.cmpi .ne v223 c0_i32_151
  let v228 : BitVec 1 := Scalar.andi v227 v224
  let v229 : BitVec 32 := Scalar.addi v223 v222
  let v230 : BitVec 32 := Scalar.select v228 v229 v223
  let c1_i32_154 : BitVec 32 := 1#32
  let v231 : BitVec 1 := Scalar.cmpi .eq v230 c1_i32_154
  let v232 : BitVec 32 := Scalar.extui v231
  let c0_i32_155 : BitVec 32 := 0#32
  let v233 : BitVec 1 := Scalar.cmpi .ne v232 c0_i32_155
  v233

def k0_mult3 (i : grid0.Coords) : BitVec 32 :=
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c1_i32_218 : BitVec 32 := 1#32
  let v348 : BitVec 32 := Scalar.subi v198 c1_i32_218
  let v349 : BitVec 32 := Scalar.muli c4_i32_219 v348
  let c128_i32 : BitVec 32 := 128#32
  let v350 : BitVec 32 := Scalar.muli v349 c128_i32
  v350
def k0_off7 (i : grid0.Coords) : Fin 3 → Nat :=
  let c0_220 : Index := 0#32
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c1_i32_218 : BitVec 32 := 1#32
  let v348 : BitVec 32 := Scalar.subi v198 c1_i32_218
  let v349 : BitVec 32 := Scalar.muli c4_i32_219 v348
  let c128_i32 : BitVec 32 := 128#32
  let v350 : BitVec 32 := Scalar.muli v349 c128_i32
  let v351 : BitVec 32 := v350
  let v352 : Index := Scalar.indexCast v351
  let c0_221 : Index := 0#32
  ![0, v352.toNat, 0]
def k0_off8 (i : grid0.Coords) (c0_i32_227 : BitVec 32) : Fin 5 → Nat :=
  let c0_228 : Index := 0#32
  let c0_229 : Index := 0#32
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c1_i32_218 : BitVec 32 := 1#32
  let v348 : BitVec 32 := Scalar.subi v198 c1_i32_218
  let v349 : BitVec 32 := Scalar.muli c4_i32_219 v348
  let v360 : BitVec 32 := Scalar.addi v349 c0_i32_227
  let v361 : Index := Scalar.indexCast v360
  let c0_230 : Index := 0#32
  let c0_231 : Index := 0#32
  ![0, 0, v361.toNat, 0, 0]
def k0_off9 (i : grid0.Coords) (c0_i32_232 : BitVec 32) : Fin 3 → Nat :=
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let c1_i32_218 : BitVec 32 := 1#32
  let v348 : BitVec 32 := Scalar.subi v198 c1_i32_218
  let v349 : BitVec 32 := Scalar.muli c4_i32_219 v348
  let v369 : BitVec 32 := Scalar.addi v349 c0_i32_232
  let v370 : Index := Scalar.indexCast v369
  let c0_233 : Index := 0#32
  let c0_234 : Index := 0#32
  ![v370.toNat, 0, 0]
def k0_cond2 (i : grid0.Coords) : BitVec 1 :=
  let arg2 : BitVec 32 := BitVec.ofNat 32 (i 2).val
  let c0_i32_156 : BitVec 32 := 0#32
  let v234 : BitVec 1 := Scalar.cmpi .eq arg2 c0_i32_156
  let v235 : BitVec 32 := Scalar.extui v234
  let c0_i32_157 : BitVec 32 := 0#32
  let v236 : BitVec 1 := Scalar.cmpi .ne v235 c0_i32_157
  v236

def k0_mult4 : BitVec 32 :=
  let c0_i32_218 : BitVec 32 := 0#32
  c0_i32_218
def k0_cond3 (i : grid0.Coords) : BitVec 1 :=
  let arg2 : BitVec 32 := BitVec.ofNat 32 (i 2).val
  let c0_i32_158 : BitVec 32 := 0#32
  let v237 : BitVec 1 := Scalar.cmpi .sgt arg2 c0_i32_158
  let c1_i32 : BitVec 32 := 1#32
  let v180 : BitVec 32 := Scalar.subi arg2 c1_i32
  let c0_i32 : BitVec 32 := 0#32
  let v181 : BitVec 32 := Scalar.maxsi v180 c0_i32
  let c4_i32_159 : BitVec 32 := 4#32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v238 : BitVec 32 := Scalar.muli c4_i32_159 v198
  let v239 : BitVec 32 := Scalar.subi v181 v238
  let c0_i32_160 : BitVec 32 := 0#32
  let v240 : BitVec 1 := Scalar.cmpi .eq v239 c0_i32_160
  let v241 : BitVec 1 := Scalar.andi v237 v240
  let v242 : BitVec 32 := Scalar.extui v241
  let c0_i32_161 : BitVec 32 := 0#32
  let v243 : BitVec 1 := Scalar.cmpi .ne v242 c0_i32_161
  v243

def k0_mult5 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  v349
def k0_off10 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off11 (i : grid0.Coords) (c0_i32_226 : BitVec 32) : Fin 5 → Nat :=
  let c0_227 : Index := 0#32
  let c0_228 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v359 : BitVec 32 := Scalar.addi v348 c0_i32_226
  let v360 : Index := Scalar.indexCast v359
  let c0_229 : Index := 0#32
  let c0_230 : Index := 0#32
  ![0, 0, v360.toNat, 0, 0]
def k0_off12 (i : grid0.Coords) (c0_i32_234 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v371 : BitVec 32 := Scalar.addi v348 c0_i32_234
  let v372 : Index := Scalar.indexCast v371
  let c0_235 : Index := 0#32
  let c0_236 : Index := 0#32
  ![v372.toNat, 0, 0]
def k0_cond4 (i : grid0.Coords) : BitVec 1 :=
  let arg2 : BitVec 32 := BitVec.ofNat 32 (i 2).val
  let c0_i32_162 : BitVec 32 := 0#32
  let v244 : BitVec 1 := Scalar.cmpi .sgt arg2 c0_i32_162
  let c1_i32 : BitVec 32 := 1#32
  let v180 : BitVec 32 := Scalar.subi arg2 c1_i32
  let c0_i32 : BitVec 32 := 0#32
  let v181 : BitVec 32 := Scalar.maxsi v180 c0_i32
  let c4_i32_163 : BitVec 32 := 4#32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v245 : BitVec 32 := Scalar.muli c4_i32_163 v198
  let v246 : BitVec 32 := Scalar.subi v181 v245
  let c1_i32_164 : BitVec 32 := 1#32
  let v247 : BitVec 1 := Scalar.cmpi .eq v246 c1_i32_164
  let v248 : BitVec 1 := Scalar.andi v244 v247
  let v249 : BitVec 32 := Scalar.extui v248
  let c0_i32_165 : BitVec 32 := 0#32
  let v250 : BitVec 1 := Scalar.cmpi .ne v249 c0_i32_165
  v250

def k0_mult6 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  v349
def k0_off13 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off14 (i : grid0.Coords) (c0_i32_226 : BitVec 32) : Fin 5 → Nat :=
  let c0_227 : Index := 0#32
  let c0_228 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v359 : BitVec 32 := Scalar.addi v348 c0_i32_226
  let v360 : Index := Scalar.indexCast v359
  let c0_229 : Index := 0#32
  let c0_230 : Index := 0#32
  ![0, 0, v360.toNat, 0, 0]
def k0_off15 (i : grid0.Coords) (c0_i32_231 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v368 : BitVec 32 := Scalar.addi v348 c0_i32_231
  let v369 : Index := Scalar.indexCast v368
  let c0_232 : Index := 0#32
  let c0_233 : Index := 0#32
  ![v369.toNat, 0, 0]
def k0_cond5 (i : grid0.Coords) : BitVec 1 :=
  let arg2 : BitVec 32 := BitVec.ofNat 32 (i 2).val
  let c0_i32_166 : BitVec 32 := 0#32
  let v251 : BitVec 1 := Scalar.cmpi .sgt arg2 c0_i32_166
  let c1_i32 : BitVec 32 := 1#32
  let v180 : BitVec 32 := Scalar.subi arg2 c1_i32
  let c0_i32 : BitVec 32 := 0#32
  let v181 : BitVec 32 := Scalar.maxsi v180 c0_i32
  let c4_i32_167 : BitVec 32 := 4#32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v252 : BitVec 32 := Scalar.muli c4_i32_167 v198
  let v253 : BitVec 32 := Scalar.subi v181 v252
  let c2_i32_168 : BitVec 32 := 2#32
  let v254 : BitVec 1 := Scalar.cmpi .eq v253 c2_i32_168
  let v255 : BitVec 1 := Scalar.andi v251 v254
  let v256 : BitVec 32 := Scalar.extui v255
  let c0_i32_169 : BitVec 32 := 0#32
  let v257 : BitVec 1 := Scalar.cmpi .ne v256 c0_i32_169
  v257

def k0_mult7 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  v349
def k0_off16 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off17 (i : grid0.Coords) (c0_i32_226 : BitVec 32) : Fin 5 → Nat :=
  let c0_227 : Index := 0#32
  let c0_228 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v359 : BitVec 32 := Scalar.addi v348 c0_i32_226
  let v360 : Index := Scalar.indexCast v359
  let c0_229 : Index := 0#32
  let c0_230 : Index := 0#32
  ![0, 0, v360.toNat, 0, 0]
def k0_off18 (i : grid0.Coords) (c0_i32_231 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v368 : BitVec 32 := Scalar.addi v348 c0_i32_231
  let v369 : Index := Scalar.indexCast v368
  let c0_232 : Index := 0#32
  let c0_233 : Index := 0#32
  ![v369.toNat, 0, 0]
def k0_cond6 (i : grid0.Coords) : BitVec 1 :=
  let arg2 : BitVec 32 := BitVec.ofNat 32 (i 2).val
  let c0_i32_170 : BitVec 32 := 0#32
  let v258 : BitVec 1 := Scalar.cmpi .sgt arg2 c0_i32_170
  let c1_i32 : BitVec 32 := 1#32
  let v180 : BitVec 32 := Scalar.subi arg2 c1_i32
  let c0_i32 : BitVec 32 := 0#32
  let v181 : BitVec 32 := Scalar.maxsi v180 c0_i32
  let c4_i32_171 : BitVec 32 := 4#32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v259 : BitVec 32 := Scalar.muli c4_i32_171 v198
  let v260 : BitVec 32 := Scalar.subi v181 v259
  let c3_i32 : BitVec 32 := 3#32
  let v261 : BitVec 1 := Scalar.cmpi .eq v260 c3_i32
  let v262 : BitVec 1 := Scalar.andi v258 v261
  let v263 : BitVec 32 := Scalar.extui v262
  let c0_i32_172 : BitVec 32 := 0#32
  let v264 : BitVec 1 := Scalar.cmpi .ne v263 c0_i32_172
  v264

def k0_mult8 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  v349
def k0_off19 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off20 (i : grid0.Coords) (c0_i32_226 : BitVec 32) : Fin 5 → Nat :=
  let c0_227 : Index := 0#32
  let c0_228 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v359 : BitVec 32 := Scalar.addi v348 c0_i32_226
  let v360 : Index := Scalar.indexCast v359
  let c0_229 : Index := 0#32
  let c0_230 : Index := 0#32
  ![0, 0, v360.toNat, 0, 0]
def k0_off21 (i : grid0.Coords) (c0_i32_231 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_131 : BitVec 32 := 0#32
  let v183 : BitVec 1 := Scalar.cmpi .sgt v181 c0_i32_131
  let v184 : BitVec 32 := Scalar.extui v183
  let c0_i32_132 : BitVec 32 := 0#32
  let v185 : BitVec 1 := Scalar.cmpi .slt v181 c0_i32_132
  let v186 : BitVec 32 := Scalar.extui v185
  let v187 : BitVec 32 := Scalar.subi v184 v186
  let c4_i32 : BitVec 32 := 4#32
  let c0_i32_133 : BitVec 32 := 0#32
  let v188 : BitVec 1 := Scalar.cmpi .sgt c4_i32 c0_i32_133
  let v189 : BitVec 32 := Scalar.extui v188
  let c0_i32_134 : BitVec 32 := 0#32
  let v190 : BitVec 1 := Scalar.cmpi .slt c4_i32 c0_i32_134
  let v191 : BitVec 32 := Scalar.extui v190
  let v192 : BitVec 32 := Scalar.subi v189 v191
  let v193 : BitVec 1 := Scalar.cmpi .ne v187 v192
  let v194 : BitVec 32 := Scalar.remsi v181 c4_i32
  let c0_i32_135 : BitVec 32 := 0#32
  let v195 : BitVec 1 := Scalar.cmpi .ne v194 c0_i32_135
  let v196 : BitVec 1 := Scalar.andi v193 v195
  let v182 : BitVec 32 := Scalar.divsi v181 c4_i32
  let c1_i32_136 : BitVec 32 := 1#32
  let v197 : BitVec 32 := Scalar.subi v182 c1_i32_136
  let v198 : BitVec 32 := Scalar.select v196 v197 v182
  let v348 : BitVec 32 := Scalar.muli c4_i32_218 v198
  let v368 : BitVec 32 := Scalar.addi v348 c0_i32_231
  let v369 : Index := Scalar.indexCast v368
  let c0_232 : Index := 0#32
  let c0_233 : Index := 0#32
  ![v369.toNat, 0, 0]
@[reducible] def k0_t3_loop (i : grid0.Coords) : Scf.Loop 32 :=
  let c0_i32_188 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c0_i32_181 : BitVec 32 := 0#32
  let v283 : BitVec 1 := Scalar.cmpi .sgt v281 c0_i32_181
  let v284 : BitVec 32 := Scalar.extui v283
  let c0_i32_182 : BitVec 32 := 0#32
  let v285 : BitVec 1 := Scalar.cmpi .slt v281 c0_i32_182
  let v286 : BitVec 32 := Scalar.extui v285
  let v287 : BitVec 32 := Scalar.subi v284 v286
  let c2_i32_180 : BitVec 32 := 2#32
  let c0_i32_183 : BitVec 32 := 0#32
  let v288 : BitVec 1 := Scalar.cmpi .sgt c2_i32_180 c0_i32_183
  let v289 : BitVec 32 := Scalar.extui v288
  let c0_i32_184 : BitVec 32 := 0#32
  let v290 : BitVec 1 := Scalar.cmpi .slt c2_i32_180 c0_i32_184
  let v291 : BitVec 32 := Scalar.extui v290
  let v292 : BitVec 32 := Scalar.subi v289 v291
  let v293 : BitVec 1 := Scalar.cmpi .ne v287 v292
  let v294 : BitVec 32 := Scalar.remsi v281 c2_i32_180
  let c0_i32_185 : BitVec 32 := 0#32
  let v295 : BitVec 1 := Scalar.cmpi .ne v294 c0_i32_185
  let v296 : BitVec 1 := Scalar.andi v293 v295
  let v282 : BitVec 32 := Scalar.divsi v281 c2_i32_180
  let c1_i32_186 : BitVec 32 := 1#32
  let v297 : BitVec 32 := Scalar.subi v282 c1_i32_186
  let v298 : BitVec 32 := Scalar.select v296 v297 v282
  let v299 : BitVec 32 := Scalar.subi v298 c0_i32_188
  let c1_i32_189 : BitVec 32 := 1#32
  let v301 : BitVec 32 := Scalar.divsi v299 c1_i32_189
  let v302 : BitVec 32 := Scalar.muli v301 c1_i32_189
  let v303 : BitVec 32 := Scalar.addi c0_i32_188 v302
  let c1_i32_190 : BitVec 32 := 1#32
  ⟨c0_i32_188, v303, c1_i32_190⟩
def k0_mult9 (i : grid0.Coords) (k0_t3 : Fin (k0_t3_loop i).trips) : BitVec 32 :=
  let c8_i32 : BitVec 32 := 8#32
  let c0_i32_188 : BitVec 32 := 0#32
  let c1_i32_190 : BitVec 32 := 1#32
  let arg16 : BitVec 32 := Scf.iv c0_i32_188 c1_i32_190 k0_t3
  let v348 : BitVec 32 := Scalar.muli c8_i32 arg16
  let c128_i32 : BitVec 32 := 128#32
  let v349 : BitVec 32 := Scalar.muli v348 c128_i32
  v349
def k0_off22 (i : grid0.Coords) (k0_t3 : Fin (k0_t3_loop i).trips) : Fin 3 → Nat :=
  let c0_218 : Index := 0#32
  let c8_i32 : BitVec 32 := 8#32
  let c0_i32_188 : BitVec 32 := 0#32
  let c1_i32_190 : BitVec 32 := 1#32
  let arg16 : BitVec 32 := Scf.iv c0_i32_188 c1_i32_190 k0_t3
  let v348 : BitVec 32 := Scalar.muli c8_i32 arg16
  let c128_i32 : BitVec 32 := 128#32
  let v349 : BitVec 32 := Scalar.muli v348 c128_i32
  let v350 : BitVec 32 := v349
  let v351 : Index := Scalar.indexCast v350
  let c0_219 : Index := 0#32
  ![0, v351.toNat, 0]
def k0_off23 (i : grid0.Coords) (k0_t3 : Fin (k0_t3_loop i).trips) (c0_i32_222 : BitVec 32) : Fin 3 → Nat :=
  let c8_i32 : BitVec 32 := 8#32
  let c0_i32_188 : BitVec 32 := 0#32
  let c1_i32_190 : BitVec 32 := 1#32
  let arg16 : BitVec 32 := Scf.iv c0_i32_188 c1_i32_190 k0_t3
  let v348 : BitVec 32 := Scalar.muli c8_i32 arg16
  let v355 : BitVec 32 := Scalar.addi v348 c0_i32_222
  let v356 : Index := Scalar.indexCast v355
  let c0_223 : Index := 0#32
  let c0_224 : Index := 0#32
  ![v356.toNat, 0, 0]
@[reducible] def k0_t4_loop (i : grid0.Coords) : Scf.Loop 32 :=
  let c0_i32_188 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c0_i32_181 : BitVec 32 := 0#32
  let v283 : BitVec 1 := Scalar.cmpi .sgt v281 c0_i32_181
  let v284 : BitVec 32 := Scalar.extui v283
  let c0_i32_182 : BitVec 32 := 0#32
  let v285 : BitVec 1 := Scalar.cmpi .slt v281 c0_i32_182
  let v286 : BitVec 32 := Scalar.extui v285
  let v287 : BitVec 32 := Scalar.subi v284 v286
  let c2_i32_180 : BitVec 32 := 2#32
  let c0_i32_183 : BitVec 32 := 0#32
  let v288 : BitVec 1 := Scalar.cmpi .sgt c2_i32_180 c0_i32_183
  let v289 : BitVec 32 := Scalar.extui v288
  let c0_i32_184 : BitVec 32 := 0#32
  let v290 : BitVec 1 := Scalar.cmpi .slt c2_i32_180 c0_i32_184
  let v291 : BitVec 32 := Scalar.extui v290
  let v292 : BitVec 32 := Scalar.subi v289 v291
  let v293 : BitVec 1 := Scalar.cmpi .ne v287 v292
  let v294 : BitVec 32 := Scalar.remsi v281 c2_i32_180
  let c0_i32_185 : BitVec 32 := 0#32
  let v295 : BitVec 1 := Scalar.cmpi .ne v294 c0_i32_185
  let v296 : BitVec 1 := Scalar.andi v293 v295
  let v282 : BitVec 32 := Scalar.divsi v281 c2_i32_180
  let c1_i32_186 : BitVec 32 := 1#32
  let v297 : BitVec 32 := Scalar.subi v282 c1_i32_186
  let v298 : BitVec 32 := Scalar.select v296 v297 v282
  let v299 : BitVec 32 := Scalar.subi v298 c0_i32_188
  let c1_i32_189 : BitVec 32 := 1#32
  let v301 : BitVec 32 := Scalar.divsi v299 c1_i32_189
  let v302 : BitVec 32 := Scalar.muli v301 c1_i32_189
  let v303 : BitVec 32 := Scalar.addi c0_i32_188 v302
  let v300 : BitVec 32 := Scalar.addi c0_i32_188 v299
  let c1_i32_191 : BitVec 32 := 1#32
  ⟨v303, v300, c1_i32_191⟩
def k0_mult10 (i : grid0.Coords) (k0_t4 : Fin (k0_t4_loop i).trips) : BitVec 32 :=
  let c8_i32 : BitVec 32 := 8#32
  let c0_i32_188 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c0_i32_181 : BitVec 32 := 0#32
  let v283 : BitVec 1 := Scalar.cmpi .sgt v281 c0_i32_181
  let v284 : BitVec 32 := Scalar.extui v283
  let c0_i32_182 : BitVec 32 := 0#32
  let v285 : BitVec 1 := Scalar.cmpi .slt v281 c0_i32_182
  let v286 : BitVec 32 := Scalar.extui v285
  let v287 : BitVec 32 := Scalar.subi v284 v286
  let c2_i32_180 : BitVec 32 := 2#32
  let c0_i32_183 : BitVec 32 := 0#32
  let v288 : BitVec 1 := Scalar.cmpi .sgt c2_i32_180 c0_i32_183
  let v289 : BitVec 32 := Scalar.extui v288
  let c0_i32_184 : BitVec 32 := 0#32
  let v290 : BitVec 1 := Scalar.cmpi .slt c2_i32_180 c0_i32_184
  let v291 : BitVec 32 := Scalar.extui v290
  let v292 : BitVec 32 := Scalar.subi v289 v291
  let v293 : BitVec 1 := Scalar.cmpi .ne v287 v292
  let v294 : BitVec 32 := Scalar.remsi v281 c2_i32_180
  let c0_i32_185 : BitVec 32 := 0#32
  let v295 : BitVec 1 := Scalar.cmpi .ne v294 c0_i32_185
  let v296 : BitVec 1 := Scalar.andi v293 v295
  let v282 : BitVec 32 := Scalar.divsi v281 c2_i32_180
  let c1_i32_186 : BitVec 32 := 1#32
  let v297 : BitVec 32 := Scalar.subi v282 c1_i32_186
  let v298 : BitVec 32 := Scalar.select v296 v297 v282
  let v299 : BitVec 32 := Scalar.subi v298 c0_i32_188
  let c1_i32_189 : BitVec 32 := 1#32
  let v301 : BitVec 32 := Scalar.divsi v299 c1_i32_189
  let v302 : BitVec 32 := Scalar.muli v301 c1_i32_189
  let v303 : BitVec 32 := Scalar.addi c0_i32_188 v302
  let c1_i32_191 : BitVec 32 := 1#32
  let arg16 : BitVec 32 := Scf.iv v303 c1_i32_191 k0_t4
  let v348 : BitVec 32 := Scalar.muli c8_i32 arg16
  let c128_i32 : BitVec 32 := 128#32
  let v349 : BitVec 32 := Scalar.muli v348 c128_i32
  v349
def k0_off24 (i : grid0.Coords) (k0_t4 : Fin (k0_t4_loop i).trips) : Fin 3 → Nat :=
  let c0_218 : Index := 0#32
  let c8_i32 : BitVec 32 := 8#32
  let c0_i32_188 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c0_i32_181 : BitVec 32 := 0#32
  let v283 : BitVec 1 := Scalar.cmpi .sgt v281 c0_i32_181
  let v284 : BitVec 32 := Scalar.extui v283
  let c0_i32_182 : BitVec 32 := 0#32
  let v285 : BitVec 1 := Scalar.cmpi .slt v281 c0_i32_182
  let v286 : BitVec 32 := Scalar.extui v285
  let v287 : BitVec 32 := Scalar.subi v284 v286
  let c2_i32_180 : BitVec 32 := 2#32
  let c0_i32_183 : BitVec 32 := 0#32
  let v288 : BitVec 1 := Scalar.cmpi .sgt c2_i32_180 c0_i32_183
  let v289 : BitVec 32 := Scalar.extui v288
  let c0_i32_184 : BitVec 32 := 0#32
  let v290 : BitVec 1 := Scalar.cmpi .slt c2_i32_180 c0_i32_184
  let v291 : BitVec 32 := Scalar.extui v290
  let v292 : BitVec 32 := Scalar.subi v289 v291
  let v293 : BitVec 1 := Scalar.cmpi .ne v287 v292
  let v294 : BitVec 32 := Scalar.remsi v281 c2_i32_180
  let c0_i32_185 : BitVec 32 := 0#32
  let v295 : BitVec 1 := Scalar.cmpi .ne v294 c0_i32_185
  let v296 : BitVec 1 := Scalar.andi v293 v295
  let v282 : BitVec 32 := Scalar.divsi v281 c2_i32_180
  let c1_i32_186 : BitVec 32 := 1#32
  let v297 : BitVec 32 := Scalar.subi v282 c1_i32_186
  let v298 : BitVec 32 := Scalar.select v296 v297 v282
  let v299 : BitVec 32 := Scalar.subi v298 c0_i32_188
  let c1_i32_189 : BitVec 32 := 1#32
  let v301 : BitVec 32 := Scalar.divsi v299 c1_i32_189
  let v302 : BitVec 32 := Scalar.muli v301 c1_i32_189
  let v303 : BitVec 32 := Scalar.addi c0_i32_188 v302
  let c1_i32_191 : BitVec 32 := 1#32
  let arg16 : BitVec 32 := Scf.iv v303 c1_i32_191 k0_t4
  let v348 : BitVec 32 := Scalar.muli c8_i32 arg16
  let c128_i32 : BitVec 32 := 128#32
  let v349 : BitVec 32 := Scalar.muli v348 c128_i32
  let v350 : BitVec 32 := v349
  let v351 : Index := Scalar.indexCast v350
  let c0_219 : Index := 0#32
  ![0, v351.toNat, 0]
def k0_off25 (i : grid0.Coords) (k0_t4 : Fin (k0_t4_loop i).trips) (c0_i32_222 : BitVec 32) : Fin 3 → Nat :=
  let c8_i32 : BitVec 32 := 8#32
  let c0_i32_188 : BitVec 32 := 0#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c0_i32_181 : BitVec 32 := 0#32
  let v283 : BitVec 1 := Scalar.cmpi .sgt v281 c0_i32_181
  let v284 : BitVec 32 := Scalar.extui v283
  let c0_i32_182 : BitVec 32 := 0#32
  let v285 : BitVec 1 := Scalar.cmpi .slt v281 c0_i32_182
  let v286 : BitVec 32 := Scalar.extui v285
  let v287 : BitVec 32 := Scalar.subi v284 v286
  let c2_i32_180 : BitVec 32 := 2#32
  let c0_i32_183 : BitVec 32 := 0#32
  let v288 : BitVec 1 := Scalar.cmpi .sgt c2_i32_180 c0_i32_183
  let v289 : BitVec 32 := Scalar.extui v288
  let c0_i32_184 : BitVec 32 := 0#32
  let v290 : BitVec 1 := Scalar.cmpi .slt c2_i32_180 c0_i32_184
  let v291 : BitVec 32 := Scalar.extui v290
  let v292 : BitVec 32 := Scalar.subi v289 v291
  let v293 : BitVec 1 := Scalar.cmpi .ne v287 v292
  let v294 : BitVec 32 := Scalar.remsi v281 c2_i32_180
  let c0_i32_185 : BitVec 32 := 0#32
  let v295 : BitVec 1 := Scalar.cmpi .ne v294 c0_i32_185
  let v296 : BitVec 1 := Scalar.andi v293 v295
  let v282 : BitVec 32 := Scalar.divsi v281 c2_i32_180
  let c1_i32_186 : BitVec 32 := 1#32
  let v297 : BitVec 32 := Scalar.subi v282 c1_i32_186
  let v298 : BitVec 32 := Scalar.select v296 v297 v282
  let v299 : BitVec 32 := Scalar.subi v298 c0_i32_188
  let c1_i32_189 : BitVec 32 := 1#32
  let v301 : BitVec 32 := Scalar.divsi v299 c1_i32_189
  let v302 : BitVec 32 := Scalar.muli v301 c1_i32_189
  let v303 : BitVec 32 := Scalar.addi c0_i32_188 v302
  let c1_i32_191 : BitVec 32 := 1#32
  let arg16 : BitVec 32 := Scf.iv v303 c1_i32_191 k0_t4
  let v348 : BitVec 32 := Scalar.muli c8_i32 arg16
  let v355 : BitVec 32 := Scalar.addi v348 c0_i32_222
  let v356 : Index := Scalar.indexCast v355
  let c0_223 : Index := 0#32
  let c0_224 : Index := 0#32
  ![v356.toNat, 0, 0]
def k0_cond7 (i : grid0.Coords) : BitVec 1 :=
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c2_i32_192 : BitVec 32 := 2#32
  let c0_i32_193 : BitVec 32 := 0#32
  let v304 : BitVec 1 := Scalar.cmpi .eq c2_i32_192 c0_i32_193
  let c1_i32_194 : BitVec 32 := 1#32
  let v305 : BitVec 32 := Scalar.select v304 c1_i32_194 c2_i32_192
  let v306 : BitVec 32 := Scalar.remsi v281 v305
  let c0_i32_196 : BitVec 32 := 0#32
  let v308 : BitVec 1 := Scalar.cmpi .slt v306 c0_i32_196
  let c0_i32_197 : BitVec 32 := 0#32
  let v309 : BitVec 1 := Scalar.cmpi .slt v305 c0_i32_197
  let v310 : BitVec 1 := Scalar.xori v308 v309
  let c0_i32_195 : BitVec 32 := 0#32
  let v307 : BitVec 1 := Scalar.cmpi .ne v306 c0_i32_195
  let v311 : BitVec 1 := Scalar.andi v310 v307
  let v312 : BitVec 32 := Scalar.addi v306 v305
  let v313 : BitVec 32 := Scalar.select v311 v312 v306
  let c1_i32_198 : BitVec 32 := 1#32
  let v314 : BitVec 1 := Scalar.cmpi .eq v313 c1_i32_198
  let v315 : BitVec 32 := Scalar.extui v314
  let c0_i32_199 : BitVec 32 := 0#32
  let v316 : BitVec 1 := Scalar.cmpi .ne v315 c0_i32_199
  v316

def k0_mult11 (i : grid0.Coords) : BitVec 32 :=
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c1_i32_218 : BitVec 32 := 1#32
  let v348 : BitVec 32 := Scalar.subi v281 c1_i32_218
  let v349 : BitVec 32 := Scalar.muli c4_i32_219 v348
  let c128_i32 : BitVec 32 := 128#32
  let v350 : BitVec 32 := Scalar.muli v349 c128_i32
  v350
def k0_off26 (i : grid0.Coords) : Fin 3 → Nat :=
  let c0_220 : Index := 0#32
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c1_i32_218 : BitVec 32 := 1#32
  let v348 : BitVec 32 := Scalar.subi v281 c1_i32_218
  let v349 : BitVec 32 := Scalar.muli c4_i32_219 v348
  let c128_i32 : BitVec 32 := 128#32
  let v350 : BitVec 32 := Scalar.muli v349 c128_i32
  let v351 : BitVec 32 := v350
  let v352 : Index := Scalar.indexCast v351
  let c0_221 : Index := 0#32
  ![0, v352.toNat, 0]
def k0_off27 (i : grid0.Coords) (c0_i32_224 : BitVec 32) : Fin 3 → Nat :=
  let c4_i32_219 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let c1_i32_218 : BitVec 32 := 1#32
  let v348 : BitVec 32 := Scalar.subi v281 c1_i32_218
  let v349 : BitVec 32 := Scalar.muli c4_i32_219 v348
  let v356 : BitVec 32 := Scalar.addi v349 c0_i32_224
  let v357 : Index := Scalar.indexCast v356
  let c0_225 : Index := 0#32
  let c0_226 : Index := 0#32
  ![v357.toNat, 0, 0]
def k0_cond8 (i : grid0.Coords) : BitVec 1 :=
  let arg2 : BitVec 32 := BitVec.ofNat 32 (i 2).val
  let c0_i32_200 : BitVec 32 := 0#32
  let v317 : BitVec 1 := Scalar.cmpi .eq arg2 c0_i32_200
  let v318 : BitVec 32 := Scalar.extui v317
  let c0_i32_201 : BitVec 32 := 0#32
  let v319 : BitVec 1 := Scalar.cmpi .ne v318 c0_i32_201
  v319

def k0_mult12 : BitVec 32 :=
  let c0_i32_218 : BitVec 32 := 0#32
  c0_i32_218
def k0_cond9 (i : grid0.Coords) : BitVec 1 :=
  let arg2 : BitVec 32 := BitVec.ofNat 32 (i 2).val
  let c0_i32_202 : BitVec 32 := 0#32
  let v320 : BitVec 1 := Scalar.cmpi .sgt arg2 c0_i32_202
  let c1_i32 : BitVec 32 := 1#32
  let v180 : BitVec 32 := Scalar.subi arg2 c1_i32
  let c0_i32 : BitVec 32 := 0#32
  let v181 : BitVec 32 := Scalar.maxsi v180 c0_i32
  let c4_i32_203 : BitVec 32 := 4#32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v321 : BitVec 32 := Scalar.muli c4_i32_203 v281
  let v322 : BitVec 32 := Scalar.subi v181 v321
  let c0_i32_204 : BitVec 32 := 0#32
  let v323 : BitVec 1 := Scalar.cmpi .eq v322 c0_i32_204
  let v324 : BitVec 1 := Scalar.andi v320 v323
  let v325 : BitVec 32 := Scalar.extui v324
  let c0_i32_205 : BitVec 32 := 0#32
  let v326 : BitVec 1 := Scalar.cmpi .ne v325 c0_i32_205
  v326

def k0_mult13 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  v349
def k0_off28 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off29 (i : grid0.Coords) (c0_i32_223 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let v355 : BitVec 32 := Scalar.addi v348 c0_i32_223
  let v356 : Index := Scalar.indexCast v355
  let c0_224 : Index := 0#32
  let c0_225 : Index := 0#32
  ![v356.toNat, 0, 0]
def k0_cond10 (i : grid0.Coords) : BitVec 1 :=
  let arg2 : BitVec 32 := BitVec.ofNat 32 (i 2).val
  let c0_i32_206 : BitVec 32 := 0#32
  let v327 : BitVec 1 := Scalar.cmpi .sgt arg2 c0_i32_206
  let c1_i32 : BitVec 32 := 1#32
  let v180 : BitVec 32 := Scalar.subi arg2 c1_i32
  let c0_i32 : BitVec 32 := 0#32
  let v181 : BitVec 32 := Scalar.maxsi v180 c0_i32
  let c4_i32_207 : BitVec 32 := 4#32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v328 : BitVec 32 := Scalar.muli c4_i32_207 v281
  let v329 : BitVec 32 := Scalar.subi v181 v328
  let c1_i32_208 : BitVec 32 := 1#32
  let v330 : BitVec 1 := Scalar.cmpi .eq v329 c1_i32_208
  let v331 : BitVec 1 := Scalar.andi v327 v330
  let v332 : BitVec 32 := Scalar.extui v331
  let c0_i32_209 : BitVec 32 := 0#32
  let v333 : BitVec 1 := Scalar.cmpi .ne v332 c0_i32_209
  v333

def k0_mult14 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  v349
def k0_off30 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off31 (i : grid0.Coords) (c0_i32_223 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let v355 : BitVec 32 := Scalar.addi v348 c0_i32_223
  let v356 : Index := Scalar.indexCast v355
  let c0_224 : Index := 0#32
  let c0_225 : Index := 0#32
  ![v356.toNat, 0, 0]
def k0_cond11 (i : grid0.Coords) : BitVec 1 :=
  let arg2 : BitVec 32 := BitVec.ofNat 32 (i 2).val
  let c0_i32_210 : BitVec 32 := 0#32
  let v334 : BitVec 1 := Scalar.cmpi .sgt arg2 c0_i32_210
  let c1_i32 : BitVec 32 := 1#32
  let v180 : BitVec 32 := Scalar.subi arg2 c1_i32
  let c0_i32 : BitVec 32 := 0#32
  let v181 : BitVec 32 := Scalar.maxsi v180 c0_i32
  let c4_i32_211 : BitVec 32 := 4#32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v335 : BitVec 32 := Scalar.muli c4_i32_211 v281
  let v336 : BitVec 32 := Scalar.subi v181 v335
  let c2_i32_212 : BitVec 32 := 2#32
  let v337 : BitVec 1 := Scalar.cmpi .eq v336 c2_i32_212
  let v338 : BitVec 1 := Scalar.andi v334 v337
  let v339 : BitVec 32 := Scalar.extui v338
  let c0_i32_213 : BitVec 32 := 0#32
  let v340 : BitVec 1 := Scalar.cmpi .ne v339 c0_i32_213
  v340

def k0_mult15 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  v349
def k0_off32 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off33 (i : grid0.Coords) (c0_i32_223 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let v355 : BitVec 32 := Scalar.addi v348 c0_i32_223
  let v356 : Index := Scalar.indexCast v355
  let c0_224 : Index := 0#32
  let c0_225 : Index := 0#32
  ![v356.toNat, 0, 0]
def k0_cond12 (i : grid0.Coords) : BitVec 1 :=
  let arg2 : BitVec 32 := BitVec.ofNat 32 (i 2).val
  let c0_i32_214 : BitVec 32 := 0#32
  let v341 : BitVec 1 := Scalar.cmpi .sgt arg2 c0_i32_214
  let c1_i32 : BitVec 32 := 1#32
  let v180 : BitVec 32 := Scalar.subi arg2 c1_i32
  let c0_i32 : BitVec 32 := 0#32
  let v181 : BitVec 32 := Scalar.maxsi v180 c0_i32
  let c4_i32_215 : BitVec 32 := 4#32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v342 : BitVec 32 := Scalar.muli c4_i32_215 v281
  let v343 : BitVec 32 := Scalar.subi v181 v342
  let c3_i32_216 : BitVec 32 := 3#32
  let v344 : BitVec 1 := Scalar.cmpi .eq v343 c3_i32_216
  let v345 : BitVec 1 := Scalar.andi v341 v344
  let v346 : BitVec 32 := Scalar.extui v345
  let c0_i32_217 : BitVec 32 := 0#32
  let v347 : BitVec 1 := Scalar.cmpi .ne v346 c0_i32_217
  v347

def k0_mult16 (i : grid0.Coords) : BitVec 32 :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  v349
def k0_off34 (i : grid0.Coords) : Fin 3 → Nat :=
  let c0_219 : Index := 0#32
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let c128_i32 : BitVec 32 := 128#32
  let v349 : BitVec 32 := Scalar.muli v348 c128_i32
  let v350 : BitVec 32 := v349
  let v351 : Index := Scalar.indexCast v350
  let c0_220 : Index := 0#32
  ![0, v351.toNat, 0]
def k0_off35 (i : grid0.Coords) (c0_i32_223 : BitVec 32) : Fin 3 → Nat :=
  let c4_i32_218 : BitVec 32 := 4#32
  let arg2 : BitVec 32 := BitVec.ofNat 32 (i 2).val
  let c1_i32 : BitVec 32 := 1#32
  let v180 : BitVec 32 := Scalar.subi arg2 c1_i32
  let c0_i32 : BitVec 32 := 0#32
  let v181 : BitVec 32 := Scalar.maxsi v180 c0_i32
  let c0_i32_174 : BitVec 32 := 0#32
  let v266 : BitVec 1 := Scalar.cmpi .sgt v181 c0_i32_174
  let v267 : BitVec 32 := Scalar.extui v266
  let c0_i32_175 : BitVec 32 := 0#32
  let v268 : BitVec 1 := Scalar.cmpi .slt v181 c0_i32_175
  let v269 : BitVec 32 := Scalar.extui v268
  let v270 : BitVec 32 := Scalar.subi v267 v269
  let c4_i32_173 : BitVec 32 := 4#32
  let c0_i32_176 : BitVec 32 := 0#32
  let v271 : BitVec 1 := Scalar.cmpi .sgt c4_i32_173 c0_i32_176
  let v272 : BitVec 32 := Scalar.extui v271
  let c0_i32_177 : BitVec 32 := 0#32
  let v273 : BitVec 1 := Scalar.cmpi .slt c4_i32_173 c0_i32_177
  let v274 : BitVec 32 := Scalar.extui v273
  let v275 : BitVec 32 := Scalar.subi v272 v274
  let v276 : BitVec 1 := Scalar.cmpi .ne v270 v275
  let v277 : BitVec 32 := Scalar.remsi v181 c4_i32_173
  let c0_i32_178 : BitVec 32 := 0#32
  let v278 : BitVec 1 := Scalar.cmpi .ne v277 c0_i32_178
  let v279 : BitVec 1 := Scalar.andi v276 v278
  let v265 : BitVec 32 := Scalar.divsi v181 c4_i32_173
  let c1_i32_179 : BitVec 32 := 1#32
  let v280 : BitVec 32 := Scalar.subi v265 c1_i32_179
  let v281 : BitVec 32 := Scalar.select v279 v280 v265
  let v348 : BitVec 32 := Scalar.muli c4_i32_218 v281
  let v355 : BitVec 32 := Scalar.addi v348 c0_i32_223
  let v356 : Index := Scalar.indexCast v355
  let c0_224 : Index := 0#32
  let c0_225 : Index := 0#32
  ![v356.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg2.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S16x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S16x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "mask" => some ⊥
  | "scale" => some (((Real.sqrt 128)⁻¹ * (Real.log 2)⁻¹ : ℝ) : EReal)
  | _ => none
-- ==== InB.lean ====
abbrev S16x2048x2048 : Shape := ⟨3, ![16, 2048, 2048]⟩
abbrev S2048 : Shape := ⟨1, ![2048]⟩
abbrev S2048x8192 : Shape := ⟨2, ![2048, 8192]⟩
abbrev S32768x2048 : Shape := ⟨2, ![32768, 2048]⟩
abbrev S1x2048 : Shape := ⟨2, ![1, 2048]⟩
abbrev S32768x8192 : Shape := ⟨2, ![32768, 8192]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S32768x2048, .f32⟩
  | .hbm, ⟨4, _⟩ => ⟨S2048x8192, .bf16⟩
  | .hbm, ⟨5, _⟩ => ⟨S1x2048, .f32⟩
  | .hbm, ⟨6, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InBRefIdeal.lean ====
abbrev S16x2048x2048 : Shape := ⟨3, ![16, 2048, 2048]⟩
abbrev S2048 : Shape := ⟨1, ![2048]⟩
abbrev S2048x8192 : Shape := ⟨2, ![2048, 8192]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x8192 : Shape := ⟨2, ![32768, 8192]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x8192, .f32⟩
  | .hbm, ⟨20, _⟩ => ⟨S32768x8192, .f32⟩
  | .hbm, ⟨21, _⟩ => ⟨S32768x8192, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutB.lean ====
abbrev S16x2048x4096 : Shape := ⟨3, ![16, 2048, 4096]⟩
abbrev S4096x2048 : Shape := ⟨2, ![4096, 2048]⟩
abbrev S16x2048x2048 : Shape := ⟨3, ![16, 2048, 2048]⟩
abbrev S2048 : Shape := ⟨1, ![2048]⟩
abbrev S32768x2048 : Shape := ⟨2, ![32768, 2048]⟩
abbrev S32768x4096 : Shape := ⟨2, ![32768, 4096]⟩
abbrev S1x2048 : Shape := ⟨2, ![1, 2048]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x4096, .bf16⟩
  | .hbm, ⟨1, _⟩ => ⟨S4096x2048, .f32⟩
  | .hbm, ⟨2, _⟩ => ⟨S16x2048x2048, .f32⟩
  | .hbm, ⟨3, _⟩ => ⟨S2048, .f32⟩
  | .hbm, ⟨4, _⟩ => ⟨S32768x2048, .f32⟩
  | .hbm, ⟨5, _⟩ => ⟨S32768x4096, .bf16⟩
  | .hbm, ⟨6, _⟩ => ⟨S4096x2048, .bf16⟩
  | .hbm, ⟨7, _⟩ => ⟨S1x2048, .f32⟩
  | .hbm, ⟨8, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutBRefIdeal.lean ====
abbrev S16x2048x4096 : Shape := ⟨3, ![16, 2048, 4096]⟩
abbrev S4096x2048 : Shape := ⟨2, ![4096, 2048]⟩
abbrev S16x2048x2048 : Shape := ⟨3, ![16, 2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S4096x2048, .f32⟩
  | .hbm, ⟨2, _⟩ => ⟨S16x2048x2048, .f32⟩
  | .hbm, ⟨3, _⟩ => ⟨S2048, .f32⟩
  | .hbm, ⟨4, _⟩ => ⟨S16x2048x4096, .f32⟩
  | .hbm, ⟨5, _⟩ => ⟨S16x2048x2048, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S1x1x2048, .f32⟩
  | .hbm, ⟨21, _⟩ => ⟨S16x2048x2048, .f32⟩
  | .hbm, ⟨22, _⟩ => ⟨S16x2048x2048, .f32⟩
  | .hbm, ⟨23, _⟩ => ⟨S32768x2048, .f32⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== OutA.lean ====
abbrev S16x2048x4096 : Shape := ⟨3, ![16, 2048, 4096]⟩
abbrev S4096x2048 : Shape := ⟨2, ![4096, 2048]⟩
abbrev S16x2048x2048 : Shape := ⟨3, ![16, 2048, 2048]⟩
abbrev S32768x2048 : Shape := ⟨2, ![32768, 2048]⟩
abbrev S32768x4096 : Shape := ⟨2, ![32768, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x4096, .bf16⟩
  | .hbm, ⟨1, _⟩ => ⟨S4096x2048, .f32⟩
  | .hbm, ⟨2, _⟩ => ⟨S16x2048x2048, .f32⟩
  | .hbm, ⟨3, _⟩ => ⟨S32768x2048, .f32⟩
  | .hbm, ⟨4, _⟩ => ⟨S32768x4096, .bf16⟩
  | .hbm, ⟨5, _⟩ => ⟨S4096x2048, .bf16⟩
  | .hbm, ⟨6, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutARefIdeal.lean ====
abbrev S16x2048x4096 : Shape := ⟨3, ![16, 2048, 4096]⟩
abbrev S4096x2048 : Shape := ⟨2, ![4096, 2048]⟩
abbrev S16x2048x2048 : Shape := ⟨3, ![16, 2048, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x4096, .bf16⟩
  | .hbm, ⟨1, _⟩ => ⟨S4096x2048, .f32⟩
  | .hbm, ⟨2, _⟩ => ⟨S16x2048x2048, .f32⟩
  | .hbm, ⟨3, _⟩ => ⟨S16x2048x4096, .f32⟩
  | .hbm, ⟨4, _⟩ => ⟨S16x2048x2048, .f32⟩
  | .hbm, ⟨5, _⟩ => ⟨S16x2048x2048, .f32⟩
  | .hbm, ⟨6, _⟩ => ⟨S32768x2048, .f32⟩
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Idx.lean ====
abbrev S16x2048x2048 : Shape := ⟨3, ![16, 2048, 2048]⟩
abbrev S2048 : Shape := ⟨1, ![2048]⟩
abbrev S2048x9552 : Shape := ⟨2, ![2048, 9552]⟩
abbrev S256 : Shape := ⟨1, ![256]⟩
abbrev S64 : Shape := ⟨1, ![64]⟩
abbrev S32768x2048 : Shape := ⟨2, ![32768, 2048]⟩
abbrev S9552x2048 : Shape := ⟨2, ![9552, 2048]⟩
abbrev S1024x2048 : Shape := ⟨2, ![1024, 2048]⟩
abbrev S256x2048 : Shape := ⟨2, ![256, 2048]⟩
abbrev S80x2048 : Shape := ⟨2, ![80, 2048]⟩
abbrev S_ : Shape := ⟨0, ![]⟩
abbrev S48x2048 : Shape := ⟨2, ![48, 2048]⟩
abbrev S1408x2048 : Shape := ⟨2, ![1408, 2048]⟩
abbrev S1x2048 : Shape := ⟨2, ![1, 2048]⟩
abbrev S1x256 : Shape := ⟨2, ![1, 256]⟩
abbrev S1x64 : Shape := ⟨2, ![1, 64]⟩
abbrev S32768x1024 : Shape := ⟨2, ![32768, 1024]⟩
abbrev S32768x256 : Shape := ⟨2, ![32768, 256]⟩
abbrev S32768x64 : Shape := ⟨2, ![32768, 64]⟩
abbrev S32768x128 : Shape := ⟨2, ![32768, 128]⟩
abbrev S1024x1024 : Shape := ⟨2, ![1024, 1024]⟩
abbrev S1024x256 : Shape := ⟨2, ![1024, 256]⟩
abbrev S1024x64 : Shape := ⟨2, ![1024, 64]⟩
abbrev S1024x128 : Shape := ⟨2, ![1024, 128]⟩
abbrev S1024 : Shape := ⟨1, ![1024]⟩
abbrev S1024x1 : Shape := ⟨2, ![1024, 1]⟩
abbrev S1024x1408 : Shape := ⟨2, ![1024, 1408]⟩

abbrev nBuf : Space → Nat
  | .hbm => 21
  | .vmem => 14
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9552, .f32⟩
  | .hbm, ⟨3, _⟩ => ⟨S256, .f32⟩
  | .hbm, ⟨4, _⟩ => ⟨S64, .f32⟩
  | .hbm, ⟨5, _⟩ => ⟨S32768x2048, .f32⟩
  | .hbm, ⟨6, _⟩ => ⟨S9552x2048, .f32⟩
  | .hbm, ⟨7, _⟩ => ⟨S9552x2048, .bf16⟩
  | .hbm, ⟨8, _⟩ => ⟨S1024x2048, .bf16⟩
  | .hbm, ⟨9, _⟩ => ⟨S256x2048, .bf16⟩
  | .hbm, ⟨10, _⟩ => ⟨S80x2048, .bf16⟩
  | .hbm, ⟨11, _⟩ => ⟨S_, .bf16⟩
  | .hbm, ⟨12, _⟩ => ⟨S48x2048, .bf16⟩
  | .hbm, ⟨13, _⟩ => ⟨S1408x2048, .bf16⟩
  | .hbm, ⟨14, _⟩ => ⟨S1x2048, .f32⟩
  | .hbm, ⟨15, _⟩ => ⟨S1x256, .f32⟩
  | .hbm, ⟨16, _⟩ => ⟨S1x64, .f32⟩
  | .hbm, ⟨17, _⟩ => ⟨S32768x1024, .f32⟩
  | .hbm, ⟨18, _⟩ => ⟨S32768x256, .bf16⟩
  | .hbm, ⟨19, _⟩ => ⟨S32768x64, .bf16⟩
  | .hbm, ⟨20, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1408x2048, .bf16⟩
  | .local _ .vmem, ⟨4, _⟩ => ⟨S1x256, .f32⟩
  | .local _ .vmem, ⟨5, _⟩ => ⟨S1x64, .f32⟩
  | .local _ .vmem, ⟨6, _⟩ => ⟨S1024x1024, .f32⟩
  | .local _ .vmem, ⟨7, _⟩ => ⟨S1024x1024, .f32⟩
  | .local _ .vmem, ⟨8, _⟩ => ⟨S1024x256, .bf16⟩
  | .local _ .vmem, ⟨9, _⟩ => ⟨S1024x256, .bf16⟩
  | .local _ .vmem, ⟨10, _⟩ => ⟨S1024x64, .bf16⟩
  | .local _ .vmem, ⟨11, _⟩ => ⟨S1024x64, .bf16⟩
  | .local _ .vmem, ⟨12, _⟩ => ⟨S1024x128, .f32⟩
  | .local _ .vmem, ⟨13, _⟩ => ⟨S1024x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== IdxRefIdeal.lean ====
abbrev S16x2048x2048 : Shape := ⟨3, ![16, 2048, 2048]⟩
abbrev S2048 : Shape := ⟨1, ![2048]⟩
abbrev S2048x9552 : Shape := ⟨2, ![2048, 9552]⟩
abbrev S256 : Shape := ⟨1, ![256]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x9552 : Shape := ⟨3, ![16, 2048, 9552]⟩
abbrev S32768x9552 : Shape := ⟨2, ![32768, 9552]⟩
abbrev S32768x256 : Shape := ⟨2, ![32768, 256]⟩
abbrev S32768x1024 : Shape := ⟨2, ![32768, 1024]⟩
abbrev S32768x64 : Shape := ⟨2, ![32768, 64]⟩
abbrev S32768x16 : Shape := ⟨2, ![32768, 16]⟩
abbrev S32768x48 : Shape := ⟨2, ![32768, 48]⟩
abbrev S32768 : Shape := ⟨1, ![32768]⟩
abbrev S32768x1 : Shape := ⟨2, ![32768, 1]⟩
abbrev S1x256 : Shape := ⟨2, ![1, 256]⟩
abbrev S1x64 : Shape := ⟨2, ![1, 64]⟩
abbrev S32768x128 : Shape := ⟨2, ![32768, 128]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9552, .f32⟩
  | .hbm, ⟨3, _⟩ => ⟨S256, .f32⟩
  | .hbm, ⟨4, _⟩ => ⟨S64, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S1x1x2048, .f32⟩
  | .hbm, ⟨19, _⟩ => ⟨S16x2048x2048, .f32⟩
  | .hbm, ⟨20, _⟩ => ⟨S16x2048x2048, .f32⟩
  | .hbm, ⟨21, _⟩ => ⟨S16x2048x9552, .f32⟩
  | .hbm, ⟨22, _⟩ => ⟨S32768x9552, .f32⟩
  | .hbm, ⟨23, _⟩ => ⟨S32768x256, .f32⟩
  | .hbm, ⟨24, _⟩ => ⟨S32768x1024, .f32⟩
  | .hbm, ⟨25, _⟩ => ⟨S32768x64, .f32⟩
  | .hbm, ⟨26, _⟩ => ⟨S32768x16, .f32⟩
  | .hbm, ⟨27, _⟩ => ⟨S_, .f32⟩
  | .hbm, ⟨28, _⟩ => ⟨S32768x48, .f32⟩
  | .hbm, ⟨29, _⟩ => ⟨S32768x256, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x256, .f32⟩
  | .hbm, ⟨41, _⟩ => ⟨S32768x256, .f32⟩
  | .hbm, ⟨42, _⟩ => ⟨S1x256, .f32⟩
  | .hbm, ⟨43, _⟩ => ⟨S32768x256, .f32⟩
  | .hbm, ⟨44, _⟩ => ⟨S32768x256, .f32⟩
  | .hbm, ⟨45, _⟩ => ⟨S32768x256, .bf16⟩
  | .hbm, ⟨46, _⟩ => ⟨S32768x64, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x64, .f32⟩
  | .hbm, ⟨58, _⟩ => ⟨S32768x64, .f32⟩
  | .hbm, ⟨59, _⟩ => ⟨S1x64, .f32⟩
  | .hbm, ⟨60, _⟩ => ⟨S32768x64, .f32⟩
  | .hbm, ⟨61, _⟩ => ⟨S32768x64, .f32⟩
  | .hbm, ⟨62, _⟩ => ⟨S32768x64, .bf16⟩
  | .hbm, ⟨63, _⟩ => ⟨S32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Pool.lean ====
abbrev S16x2048x8192 : Shape := ⟨3, ![16, 2048, 8192]⟩
abbrev S4x1024x1024 : Shape := ⟨3, ![4, 1024, 1024]⟩
abbrev S4x1024 : Shape := ⟨2, ![4, 1024]⟩
abbrev S4096 : Shape := ⟨1, ![4096]⟩
abbrev S4x1x1024 : Shape := ⟨3, ![4, 1, 1024]⟩
abbrev S16x2048x4096 : Shape := ⟨3, ![16, 2048, 4096]⟩
abbrev S1x2048x1024 : Shape := ⟨3, ![1, 2048, 1024]⟩
abbrev S1x1024x1024 : Shape := ⟨3, ![1, 1024, 1024]⟩
abbrev S1x1x1024 : Shape := ⟨3, ![1, 1, 1024]⟩
abbrev S16x1024 : Shape := ⟨2, ![16, 1024]⟩
abbrev S1024x1024 : Shape := ⟨2, ![1024, 1024]⟩
abbrev S1040x1024 : Shape := ⟨2, ![1040, 1024]⟩
abbrev S1024x1 : Shape := ⟨2, ![1024, 1]⟩
abbrev S1x1024 : Shape := ⟨2, ![1, 1024]⟩
abbrev S1x1040x1024 : Shape := ⟨3, ![1, 1040, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x8192, .bf16⟩
  | .hbm, ⟨1, _⟩ => ⟨S4x1024x1024, .f32⟩
  | .hbm, ⟨2, _⟩ => ⟨S4x1024, .f32⟩
  | .hbm, ⟨3, _⟩ => ⟨S4096, .f32⟩
  | .hbm, ⟨4, _⟩ => ⟨S4x1024x1024, .bf16⟩
  | .hbm, ⟨5, _⟩ => ⟨S4x1x1024, .f32⟩
  | .hbm, ⟨6, _⟩ => ⟨S4x1x1024, .f32⟩
  | .hbm, ⟨7, _⟩ => ⟨S16x2048x4096, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x2048x1024, .bf16⟩
  | .local _ .vmem, ⟨11, _⟩ => ⟨S1x2048x1024, .bf16⟩
  | _, _ => ⟨S16x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c1_i32_28 : BitVec 32 := 1#32
  let c1024_i32 : BitVec 32 := 1024#32
  let v58 : BitVec 32 := Scalar.muli c1_i32_28 c1024_i32
  v58
def k0_mult2 : BitVec 32 :=
  let c1_i32_28 : BitVec 32 := 1#32
  let c1024_i32 : BitVec 32 := 1024#32
  let v58 : BitVec 32 := Scalar.muli c1_i32_28 c1024_i32
  let v59 : BitVec 32 := v58
  let c16_i32 : BitVec 32 := 16#32
  let v60 : BitVec 32 := Scalar.subi v59 c16_i32
  v60
def k0_off1 : Fin 3 → Nat :=
  let c0_29 : Index := 0#32
  let c1_i32_28 : BitVec 32 := 1#32
  let c1024_i32 : BitVec 32 := 1024#32
  let v58 : BitVec 32 := Scalar.muli c1_i32_28 c1024_i32
  let v59 : BitVec 32 := v58
  let c16_i32 : BitVec 32 := 16#32
  let v60 : BitVec 32 := Scalar.subi v59 c16_i32
  let v61 : BitVec 32 := v60
  let v62 : Index := Scalar.indexCast v61
  let c0_30 : Index := 0#32
  ![0, v62.toNat, 0]
def k0_off2 : Fin 3 → Nat :=
  let c0_43 : Index := 0#32
  let c1_i32_28 : BitVec 32 := 1#32
  let c1024_i32 : BitVec 32 := 1024#32
  let v58 : BitVec 32 := Scalar.muli c1_i32_28 c1024_i32
  let v59 : BitVec 32 := v58
  let v85 : Index := Scalar.indexCast v59
  let c0_44 : Index := 0#32
  ![0, v85.toNat, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_mult3 : BitVec 32 :=
  let c1_i32_28 : BitVec 32 := 1#32
  let c1024_i32 : BitVec 32 := 1024#32
  let v60 : BitVec 32 := Scalar.muli c1_i32_28 c1024_i32
  v60
def k0_mult4 : BitVec 32 :=
  let c1_i32_28 : BitVec 32 := 1#32
  let c1024_i32 : BitVec 32 := 1024#32
  let v60 : BitVec 32 := Scalar.muli c1_i32_28 c1024_i32
  let v61 : BitVec 32 := v60
  let c16_i32 : BitVec 32 := 16#32
  let v62 : BitVec 32 := Scalar.subi v61 c16_i32
  v62
def k0_off3 : Fin 3 → Nat :=
  let c0_29 : Index := 0#32
  let c1_i32_28 : BitVec 32 := 1#32
  let c1024_i32 : BitVec 32 := 1024#32
  let v60 : BitVec 32 := Scalar.muli c1_i32_28 c1024_i32
  let v61 : BitVec 32 := v60
  let c16_i32 : BitVec 32 := 16#32
  let v62 : BitVec 32 := Scalar.subi v61 c16_i32
  let v63 : BitVec 32 := v62
  let v64 : Index := Scalar.indexCast v63
  let c0_30 : Index := 0#32
  ![0, v64.toNat, 0]
def k0_off4 : Fin 3 → Nat :=
  let c0_44 : Index := 0#32
  let c1_i32_28 : BitVec 32 := 1#32
  let c1024_i32 : BitVec 32 := 1024#32
  let v60 : BitVec 32 := Scalar.muli c1_i32_28 c1024_i32
  let v61 : BitVec 32 := v60
  let v89 : Index := Scalar.indexCast v61
  let c0_45 : Index := 0#32
  ![0, v89.toNat, 0]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_mult5 : BitVec 32 :=
  let c1_i32_28 : BitVec 32 := 1#32
  let c1024_i32 : BitVec 32 := 1024#32
  let v62 : BitVec 32 := Scalar.muli c1_i32_28 c1024_i32
  v62
def k0_mult6 : BitVec 32 :=
  let c1_i32_28 : BitVec 32 := 1#32
  let c1024_i32 : BitVec 32 := 1024#32
  let v62 : BitVec 32 := Scalar.muli c1_i32_28 c1024_i32
  let v63 : BitVec 32 := v62
  let c16_i32 : BitVec 32 := 16#32
  let v64 : BitVec 32 := Scalar.subi v63 c16_i32
  v64
def k0_off5 : Fin 3 → Nat :=
  let c0_29 : Index := 0#32
  let c1_i32_28 : BitVec 32 := 1#32
  let c1024_i32 : BitVec 32 := 1024#32
  let v62 : BitVec 32 := Scalar.muli c1_i32_28 c1024_i32
  let v63 : BitVec 32 := v62
  let c16_i32 : BitVec 32 := 16#32
  let v64 : BitVec 32 := Scalar.subi v63 c16_i32
  let v65 : BitVec 32 := v64
  let v66 : Index := Scalar.indexCast v65
  let c0_30 : Index := 0#32
  ![0, v66.toNat, 0]
def k0_off6 : Fin 3 → Nat :=
  let c0_45 : Index := 0#32
  let c1_i32_28 : BitVec 32 := 1#32
  let c1024_i32 : BitVec 32 := 1024#32
  let v62 : BitVec 32 := Scalar.muli c1_i32_28 c1024_i32
  let v63 : BitVec 32 := v62
  let v93 : Index := Scalar.indexCast v63
  let c0_46 : Index := 0#32
  ![0, v93.toNat, 0]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_mult7 : BitVec 32 :=
  let c1_i32_28 : BitVec 32 := 1#32
  let c1024_i32 : BitVec 32 := 1024#32
  let v64 : BitVec 32 := Scalar.muli c1_i32_28 c1024_i32
  v64
def k0_mult8 : BitVec 32 :=
  let c1_i32_28 : BitVec 32 := 1#32
  let c1024_i32 : BitVec 32 := 1024#32
  let v64 : BitVec 32 := Scalar.muli c1_i32_28 c1024_i32
  let v65 : BitVec 32 := v64
  let c16_i32_29 : BitVec 32 := 16#32
  let v66 : BitVec 32 := Scalar.subi v65 c16_i32_29
  v66
def k0_off7 : Fin 3 → Nat :=
  let c0_30 : Index := 0#32
  let c1_i32_28 : BitVec 32 := 1#32
  let c1024_i32 : BitVec 32 := 1024#32
  let v64 : BitVec 32 := Scalar.muli c1_i32_28 c1024_i32
  let v65 : BitVec 32 := v64
  let c16_i32_29 : BitVec 32 := 16#32
  let v66 : BitVec 32 := Scalar.subi v65 c16_i32_29
  let v67 : BitVec 32 := v66
  let v68 : Index := Scalar.indexCast v67
  let c0_31 : Index := 0#32
  ![0, v68.toNat, 0]
def k0_off8 : Fin 3 → Nat :=
  let c0_47 : Index := 0#32
  let c1_i32_28 : BitVec 32 := 1#32
  let c1024_i32 : BitVec 32 := 1024#32
  let v64 : BitVec 32 := Scalar.muli c1_i32_28 c1024_i32
  let v65 : BitVec 32 := v64
  let v97 : Index := Scalar.indexCast v65
  let c0_48 : Index := 0#32
  ![0, v97.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolRefIdeal.lean ====
abbrev S16x2048x8192 : Shape := ⟨3, ![16, 2048, 8192]⟩
abbrev S4x1024x1024 : Shape := ⟨3, ![4, 1024, 1024]⟩
abbrev S4x1024 : Shape := ⟨2, ![4, 1024]⟩
abbrev S4096 : Shape := ⟨1, ![4096]⟩
abbrev S4 : Shape := ⟨1, ![4]⟩
abbrev S16x2048x4096 : Shape := ⟨3, ![16, 2048, 4096]⟩
abbrev S16x2048x4x1024 : Shape := ⟨4, ![16, 2048, 4, 1024]⟩
abbrev S16x1x4x1024 : Shape := ⟨4, ![16, 1, 4, 1024]⟩
abbrev S_ : Shape := ⟨0, ![]⟩
abbrev S16x2049x4x1024 : Shape := ⟨4, ![16, 2049, 4, 1024]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S1x2048x4x1 : Shape := ⟨4, ![1, 2048, 4, 1]⟩
abbrev S4x1024x16x2048 : Shape := ⟨4, ![4, 1024, 16, 2048]⟩
abbrev S1x1x4x1024 : Shape := ⟨4, ![1, 1, 4, 1024]⟩
abbrev S1x1x4096 : Shape := ⟨3, ![1, 1, 4096]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x8192, .bf16⟩
  | .hbm, ⟨1, _⟩ => ⟨S4x1024x1024, .f32⟩
  | .hbm, ⟨2, _⟩ => ⟨S4x1024, .f32⟩
  | .hbm, ⟨3, _⟩ => ⟨S4096, .f32⟩
  | .hbm, ⟨4, _⟩ => ⟨S4, .i32⟩
  | .hbm, ⟨5, _⟩ => ⟨S16x2048x8192, .f32⟩
  | .hbm, ⟨6, _⟩ => ⟨S16x2048x4096, .f32⟩
  | .hbm, ⟨7, _⟩ => ⟨S16x2048x4096, .f32⟩
  | .hbm, ⟨8, _⟩ => ⟨S16x2048x4x1024, .f32⟩
  | .hbm, ⟨9, _⟩ => ⟨S16x1x4x1024, .f32⟩
  | .hbm, ⟨10, _⟩ => ⟨S_, .f32⟩
  | .hbm, ⟨11, _⟩ => ⟨S16x1x4x1024, .f32⟩
  | .hbm, ⟨12, _⟩ => ⟨S_, .f32⟩
  | .hbm, ⟨13, _⟩ => ⟨S_, .f32⟩
  | .hbm, ⟨14, _⟩ => ⟨S16x2048x4x1024, .f32⟩
  | .hbm, ⟨15, _⟩ => ⟨S16x2049x4x1024, .f32⟩
  | .hbm, ⟨16, _⟩ => ⟨S2048, .i32⟩
  | .hbm, ⟨17, _⟩ => ⟨S2048x1, .i32⟩
  | .hbm, ⟨18, _⟩ => ⟨S1x4, .i32⟩
  | .hbm, ⟨19, _⟩ => ⟨S2048x4, .i32⟩
  | .hbm, ⟨20, _⟩ => ⟨S2048x4, .i32⟩
  | .hbm, ⟨21, _⟩ => ⟨S2048x4, .i32⟩
  | .hbm, ⟨22, _⟩ => ⟨S_, .i32⟩
  | .hbm, ⟨23, _⟩ => ⟨S2048x4, .i32⟩
  | .hbm, ⟨24, _⟩ => ⟨S2048x4, .i32⟩
  | .hbm, ⟨25, _⟩ => ⟨S_, .i32⟩
  | .hbm, ⟨26, _⟩ => ⟨S2048x4, .i32⟩
  | .hbm, ⟨27, _⟩ => ⟨S2048x4, .i32⟩
  | .hbm, ⟨28, _⟩ => ⟨S2048x1, .i32⟩
  | .hbm, ⟨29, _⟩ => ⟨S2048x4, .i32⟩
  | .hbm, ⟨30, _⟩ => ⟨S2048x4, .i32⟩
  | .hbm, ⟨31, _⟩ => ⟨S_, .i32⟩
  | .hbm, ⟨32, _⟩ => ⟨S2048x4, .i32⟩
  | .hbm, ⟨33, _⟩ => ⟨S2048x4, .i32⟩
  | .hbm, ⟨34, _⟩ => ⟨S2048x4, .f32⟩
  | .hbm, ⟨35, _⟩ => ⟨S4, .i32⟩
  | .hbm, ⟨36, _⟩ => ⟨S_, .i32⟩
  | .hbm, ⟨37, _⟩ => ⟨S2048x4, .i32⟩
  | .hbm, ⟨38, _⟩ => ⟨S2048x4, .i1⟩
  | .hbm, ⟨39, _⟩ => ⟨S_, .i32⟩
  | .hbm, ⟨40, _⟩ => ⟨S2048x4, .i32⟩
  | .hbm, ⟨41, _⟩ => ⟨S2048x4, .i32⟩
  | .hbm, ⟨42, _⟩ => ⟨S2048x4, .i32⟩
  | .hbm, ⟨43, _⟩ => ⟨S_, .i32⟩
  | .hbm, ⟨44, _⟩ => ⟨S4, .i32⟩
  | .hbm, ⟨45, _⟩ => ⟨S4, .i1⟩
  | .hbm, ⟨46, _⟩ => ⟨S_, .i32⟩
  | .hbm, ⟨47, _⟩ => ⟨S4, .i32⟩
  | .hbm, ⟨48, _⟩ => ⟨S4, .i32⟩
  | .hbm, ⟨49, _⟩ => ⟨S4, .i32⟩
  | .hbm, ⟨50, _⟩ => ⟨S2048x4, .i32⟩
  | .hbm, ⟨51, _⟩ => ⟨S2048x4x1, .i32⟩
  | .hbm, ⟨52, _⟩ => ⟨S2048x4x1, .i32⟩
  | .hbm, ⟨53, _⟩ => ⟨S2048x4x2, .i32⟩
  | .hbm, ⟨54, _⟩ => ⟨S16x2048x4x1024, .f32⟩
  | .hbm, ⟨55, _⟩ => ⟨S16x2048x4x1024, .f32⟩
  | .hbm, ⟨56, _⟩ => ⟨S16x2048x4x1024, .f32⟩
  | .hbm, ⟨57, _⟩ => ⟨S1x2048x4x1, .f32⟩
  | .hbm, ⟨58, _⟩ => ⟨S16x2048x4x1024, .f32⟩
  | .hbm, ⟨59, _⟩ => ⟨S16x2048x4x1024, .f32⟩
  | .hbm, ⟨60, _⟩ => ⟨S16x2048x4x1024, .f32⟩
  | .hbm, ⟨61, _⟩ => ⟨S4x1024x16x2048, .f32⟩
  | .hbm, ⟨62, _⟩ => ⟨S16x2048x4x1024, .f32⟩
  | .hbm, ⟨63, _⟩ => ⟨S1x1x4x1024, .f32⟩
  | .hbm, ⟨64, _⟩ => ⟨S16x2048x4x1024, .f32⟩
  | .hbm, ⟨65, _⟩ => ⟨S16x2048x4x1024, .f32⟩
  | .hbm, ⟨66, _⟩ => ⟨S16x2048x4096, .f32⟩
  | .hbm, ⟨67, _⟩ => ⟨S1x1x4096, .f32⟩
  | .hbm, ⟨68, _⟩ => ⟨S16x2048x4096, .f32⟩
  | .hbm, ⟨69, _⟩ => ⟨S16x2048x4096, .f32⟩
  | .hbm, ⟨70, _⟩ => ⟨S16x2048x4096, .f32⟩
  | .hbm, ⟨71, _⟩ => ⟨S16x2048x4096, .f32⟩
  | .hbm, ⟨72, _⟩ => ⟨S_, .f32⟩
  | .hbm, ⟨73, _⟩ => ⟨S16x2048x4096, .f32⟩
  | .hbm, ⟨74, _⟩ => ⟨S16x2048x4096, .f32⟩
  | .hbm, ⟨75, _⟩ => ⟨S_, .f32⟩
  | .hbm, ⟨76, _⟩ => ⟨S16x2048x4096, .f32⟩
  | .hbm, ⟨77, _⟩ => ⟨S16x2048x4096, .f32⟩
  | .hbm, ⟨78, _⟩ => ⟨S16x2048x4096, .f32⟩
  | .hbm, ⟨79, _⟩ => ⟨S16x2048x4096, .f32⟩
  | .hbm, ⟨80, _⟩ => ⟨S16x2048x4096, .bf16⟩
  | _, _ => ⟨S16x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Mask.lean ====
abbrev S16x2048x1024 : Shape := ⟨3, ![16, 2048, 1024]⟩
abbrev S16x2048x128 : Shape := ⟨3, ![16, 2048, 128]⟩
abbrev S16x2048x64 : Shape := ⟨3, ![16, 2048, 64]⟩
abbrev S16x16x16x128x128 : Shape := ⟨5, ![16, 16, 16, 128, 128]⟩
abbrev S1x256x1024 : Shape := ⟨3, ![1, 256, 1024]⟩
abbrev S1x256x128 : Shape := ⟨3, ![1, 256, 128]⟩
abbrev S1x2048x64 : Shape := ⟨3, ![1, 2048, 64]⟩
abbrev S1x2x16x128x128 : Shape := ⟨5, ![1, 2, 16, 128, 128]⟩
abbrev S256x1024 : Shape := ⟨2, ![256, 1024]⟩
abbrev S256x128 : Shape := ⟨2, ![256, 128]⟩
abbrev S256x16 : Shape := ⟨2, ![256, 16]⟩
abbrev S1x256x64 : Shape := ⟨3, ![1, 256, 64]⟩
abbrev S256x64 : Shape := ⟨2, ![256, 64]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S128x256 : Shape := ⟨2, ![128, 256]⟩
abbrev S128x128 : Shape := ⟨2, ![128, 128]⟩
abbrev S1x1x1x128x128 : Shape := ⟨5, ![1, 1, 1, 128, 128]⟩
abbrev S1x256x1 : Shape := ⟨3, ![1, 256, 1]⟩
abbrev S1 : Shape := ⟨1, ![1]⟩
abbrev S1x1x1 : Shape := ⟨3, ![1, 1, 1]⟩
abbrev S1x512x64 : Shape := ⟨3, ![1, 512, 64]⟩
abbrev S512x64 : Shape := ⟨2, ![512, 64]⟩
abbrev S256x512 : Shape := ⟨2, ![256, 512]⟩
abbrev S512x256 : Shape := ⟨2, ![512, 256]⟩
abbrev S1x768x64 : Shape := ⟨3, ![1, 768, 64]⟩
abbrev S768x64 : Shape := ⟨2, ![768, 64]⟩
abbrev S256x768 : Shape := ⟨2, ![256, 768]⟩
abbrev S768x256 : Shape := ⟨2, ![768, 256]⟩
abbrev S1x1024x64 : Shape := ⟨3, ![1, 1024, 64]⟩
abbrev S1024x64 : Shape := ⟨2, ![1024, 64]⟩
abbrev S1024x256 : Shape := ⟨2, ![1024, 256]⟩
abbrev S1x1280x64 : Shape := ⟨3, ![1, 1280, 64]⟩
abbrev S1280x64 : Shape := ⟨2, ![1280, 64]⟩
abbrev S256x1280 : Shape := ⟨2, ![256, 1280]⟩
abbrev S1280x256 : Shape := ⟨2, ![1280, 256]⟩
abbrev S1x1536x64 : Shape := ⟨3, ![1, 1536, 64]⟩
abbrev S1536x64 : Shape := ⟨2, ![1536, 64]⟩
abbrev S256x1536 : Shape := ⟨2, ![256, 1536]⟩
abbrev S1536x256 : Shape := ⟨2, ![1536, 256]⟩
abbrev S1x1792x64 : Shape := ⟨3, ![1, 1792, 64]⟩
abbrev S1792x64 : Shape := ⟨2, ![1792, 64]⟩
abbrev S256x1792 : Shape := ⟨2, ![256, 1792]⟩
abbrev S1792x256 : Shape := ⟨2, ![1792, 256]⟩
abbrev S2048x64 : Shape := ⟨2, ![2048, 64]⟩
abbrev S256x2048 : Shape := ⟨2, ![256, 2048]⟩
abbrev S2048x256 : Shape := ⟨2, ![2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x2048x128, .f32⟩
  | .hbm, ⟨2, _⟩ => ⟨S16x2048x64, .bf16⟩
  | .hbm, ⟨3, _⟩ => ⟨S16x16x16x128x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x128, .f32⟩
  | .local _ .vmem, ⟨3, _⟩ => ⟨S1x256x128, .f32⟩
  | .local _ .vmem, ⟨4, _⟩ => ⟨S1x2048x64, .bf16⟩
  | .local _ .vmem, ⟨5, _⟩ => ⟨S1x2048x64, .bf16⟩
  | .local _ .vmem, ⟨6, _⟩ => ⟨S1x2x16x128x128, .bf16⟩
  | .local _ .vmem, ⟨7, _⟩ => ⟨S1x2x16x128x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![16, 8], ![false, false]⟩

def k0_cond1 (i : grid0.Coords) : BitVec 1 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c256_i32_0 : BitVec 32 := 256#32
  let v2 : BitVec 32 := Scalar.addi v1 c256_i32_0
  let c1_i32_1 : BitVec 32 := 1#32
  let v3 : BitVec 32 := Scalar.subi v2 c1_i32_1
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_8 : BitVec 32 := 1#32
  let v21 : BitVec 1 := Scalar.cmpi .eq v20 c1_i32_8
  let v22 : BitVec 32 := Scalar.extui v21
  let c0_i32_9 : BitVec 32 := 0#32
  let v23 : BitVec 1 := Scalar.cmpi .ne v22 c0_i32_9
  v23

@[reducible] def k0_t1_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond3 (i : grid0.Coords) : BitVec 1 :=
  let arg1 : BitVec 32 := BitVec.ofNat 32 (i 1).val
  let c1_i32_10 : BitVec 32 := 1#32
  let v24 : BitVec 32 := Scalar.addi arg1 c1_i32_10
  let c256_i32_11 : BitVec 32 := 256#32
  let v25 : BitVec 32 := Scalar.muli v24 c256_i32_11
  let c256_i32_12 : BitVec 32 := 256#32
  let v26 : BitVec 32 := Scalar.addi v25 c256_i32_12
  let c1_i32_13 : BitVec 32 := 1#32
  let v27 : BitVec 32 := Scalar.subi v26 c1_i32_13
  let c0_i32_15 : BitVec 32 := 0#32
  let v29 : BitVec 1 := Scalar.cmpi .sgt v27 c0_i32_15
  let v30 : BitVec 32 := Scalar.extui v29
  let c0_i32_16 : BitVec 32 := 0#32
  let v31 : BitVec 1 := Scalar.cmpi .slt v27 c0_i32_16
  let v32 : BitVec 32 := Scalar.extui v31
  let v33 : BitVec 32 := Scalar.subi v30 v32
  let c256_i32_14 : BitVec 32 := 256#32
  let c0_i32_17 : BitVec 32 := 0#32
  let v34 : BitVec 1 := Scalar.cmpi .sgt c256_i32_14 c0_i32_17
  let v35 : BitVec 32 := Scalar.extui v34
  let c0_i32_18 : BitVec 32 := 0#32
  let v36 : BitVec 1 := Scalar.cmpi .slt c256_i32_14 c0_i32_18
  let v37 : BitVec 32 := Scalar.extui v36
  let v38 : BitVec 32 := Scalar.subi v35 v37
  let v39 : BitVec 1 := Scalar.cmpi .ne v33 v38
  let v40 : BitVec 32 := Scalar.remsi v27 c256_i32_14
  let c0_i32_19 : BitVec 32 := 0#32
  let v41 : BitVec 1 := Scalar.cmpi .ne v40 c0_i32_19
  let v42 : BitVec 1 := Scalar.andi v39 v41
  let v28 : BitVec 32 := Scalar.divsi v27 c256_i32_14
  let c1_i32_20 : BitVec 32 := 1#32
  let v43 : BitVec 32 := Scalar.subi v28 c1_i32_20
  let v44 : BitVec 32 := Scalar.select v42 v43 v28
  let c2_i32 : BitVec 32 := 2#32
  let v45 : BitVec 1 := Scalar.cmpi .eq v44 c2_i32
  let v46 : BitVec 32 := Scalar.extui v45
  let c0_i32_21 : BitVec 32 := 0#32
  let v47 : BitVec 1 := Scalar.cmpi .ne v46 c0_i32_21
  v47

@[reducible] def k0_t2_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond5 (i : grid0.Coords) : BitVec 1 :=
  let arg1 : BitVec 32 := BitVec.ofNat 32 (i 1).val
  let c1_i32_22 : BitVec 32 := 1#32
  let v48 : BitVec 32 := Scalar.addi arg1 c1_i32_22
  let c256_i32_23 : BitVec 32 := 256#32
  let v49 : BitVec 32 := Scalar.muli v48 c256_i32_23
  let c256_i32_24 : BitVec 32 := 256#32
  let v50 : BitVec 32 := Scalar.addi v49 c256_i32_24
  let c1_i32_25 : BitVec 32 := 1#32
  let v51 : BitVec 32 := Scalar.subi v50 c1_i32_25
  let c0_i32_27 : BitVec 32 := 0#32
  let v53 : BitVec 1 := Scalar.cmpi .sgt v51 c0_i32_27
  let v54 : BitVec 32 := Scalar.extui v53
  let c0_i32_28 : BitVec 32 := 0#32
  let v55 : BitVec 1 := Scalar.cmpi .slt v51 c0_i32_28
  let v56 : BitVec 32 := Scalar.extui v55
  let v57 : BitVec 32 := Scalar.subi v54 v56
  let c256_i32_26 : BitVec 32 := 256#32
  let c0_i32_29 : BitVec 32 := 0#32
  let v58 : BitVec 1 := Scalar.cmpi .sgt c256_i32_26 c0_i32_29
  let v59 : BitVec 32 := Scalar.extui v58
  let c0_i32_30 : BitVec 32 := 0#32
  let v60 : BitVec 1 := Scalar.cmpi .slt c256_i32_26 c0_i32_30
  let v61 : BitVec 32 := Scalar.extui v60
  let v62 : BitVec 32 := Scalar.subi v59 v61
  let v63 : BitVec 1 := Scalar.cmpi .ne v57 v62
  let v64 : BitVec 32 := Scalar.remsi v51 c256_i32_26
  let c0_i32_31 : BitVec 32 := 0#32
  let v65 : BitVec 1 := Scalar.cmpi .ne v64 c0_i32_31
  let v66 : BitVec 1 := Scalar.andi v63 v65
  let v52 : BitVec 32 := Scalar.divsi v51 c256_i32_26
  let c1_i32_32 : BitVec 32 := 1#32
  let v67 : BitVec 32 := Scalar.subi v52 c1_i32_32
  let v68 : BitVec 32 := Scalar.select v66 v67 v52
  let c3_i32 : BitVec 32 := 3#32
  let v69 : BitVec 1 := Scalar.cmpi .eq v68 c3_i32
  let v70 : BitVec 32 := Scalar.extui v69
  let c0_i32_33 : BitVec 32 := 0#32
  let v71 : BitVec 1 := Scalar.cmpi .ne v70 c0_i32_33
  v71

@[reducible] def k0_t3_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond7 (i : grid0.Coords) : BitVec 1 :=
  let arg1 : BitVec 32 := BitVec.ofNat 32 (i 1).val
  let c1_i32_34 : BitVec 32 := 1#32
  let v72 : BitVec 32 := Scalar.addi arg1 c1_i32_34
  let c256_i32_35 : BitVec 32 := 256#32
  let v73 : BitVec 32 := Scalar.muli v72 c256_i32_35
  let c256_i32_36 : BitVec 32 := 256#32
  let v74 : BitVec 32 := Scalar.addi v73 c256_i32_36
  let c1_i32_37 : BitVec 32 := 1#32
  let v75 : BitVec 32 := Scalar.subi v74 c1_i32_37
  let c0_i32_39 : BitVec 32 := 0#32
  let v77 : BitVec 1 := Scalar.cmpi .sgt v75 c0_i32_39
  let v78 : BitVec 32 := Scalar.extui v77
  let c0_i32_40 : BitVec 32 := 0#32
  let v79 : BitVec 1 := Scalar.cmpi .slt v75 c0_i32_40
  let v80 : BitVec 32 := Scalar.extui v79
  let v81 : BitVec 32 := Scalar.subi v78 v80
  let c256_i32_38 : BitVec 32 := 256#32
  let c0_i32_41 : BitVec 32 := 0#32
  let v82 : BitVec 1 := Scalar.cmpi .sgt c256_i32_38 c0_i32_41
  let v83 : BitVec 32 := Scalar.extui v82
  let c0_i32_42 : BitVec 32 := 0#32
  let v84 : BitVec 1 := Scalar.cmpi .slt c256_i32_38 c0_i32_42
  let v85 : BitVec 32 := Scalar.extui v84
  let v86 : BitVec 32 := Scalar.subi v83 v85
  let v87 : BitVec 1 := Scalar.cmpi .ne v81 v86
  let v88 : BitVec 32 := Scalar.remsi v75 c256_i32_38
  let c0_i32_43 : BitVec 32 := 0#32
  let v89 : BitVec 1 := Scalar.cmpi .ne v88 c0_i32_43
  let v90 : BitVec 1 := Scalar.andi v87 v89
  let v76 : BitVec 32 := Scalar.divsi v75 c256_i32_38
  let c1_i32_44 : BitVec 32 := 1#32
  let v91 : BitVec 32 := Scalar.subi v76 c1_i32_44
  let v92 : BitVec 32 := Scalar.select v90 v91 v76
  let c4_i32 : BitVec 32 := 4#32
  let v93 : BitVec 1 := Scalar.cmpi .eq v92 c4_i32
  let v94 : BitVec 32 := Scalar.extui v93
  let c0_i32_45 : BitVec 32 := 0#32
  let v95 : BitVec 1 := Scalar.cmpi .ne v94 c0_i32_45
  v95

@[reducible] def k0_t4_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond9 (i : grid0.Coords) : BitVec 1 :=
  let arg1 : BitVec 32 := BitVec.ofNat 32 (i 1).val
  let c1_i32_46 : BitVec 32 := 1#32
  let v96 : BitVec 32 := Scalar.addi arg1 c1_i32_46
  let c256_i32_47 : BitVec 32 := 256#32
  let v97 : BitVec 32 := Scalar.muli v96 c256_i32_47
  let c256_i32_48 : BitVec 32 := 256#32
  let v98 : BitVec 32 := Scalar.addi v97 c256_i32_48
  let c1_i32_49 : BitVec 32 := 1#32
  let v99 : BitVec 32 := Scalar.subi v98 c1_i32_49
  let c0_i32_51 : BitVec 32 := 0#32
  let v101 : BitVec 1 := Scalar.cmpi .sgt v99 c0_i32_51
  let v102 : BitVec 32 := Scalar.extui v101
  let c0_i32_52 : BitVec 32 := 0#32
  let v103 : BitVec 1 := Scalar.cmpi .slt v99 c0_i32_52
  let v104 : BitVec 32 := Scalar.extui v103
  let v105 : BitVec 32 := Scalar.subi v102 v104
  let c256_i32_50 : BitVec 32 := 256#32
  let c0_i32_53 : BitVec 32 := 0#32
  let v106 : BitVec 1 := Scalar.cmpi .sgt c256_i32_50 c0_i32_53
  let v107 : BitVec 32 := Scalar.extui v106
  let c0_i32_54 : BitVec 32 := 0#32
  let v108 : BitVec 1 := Scalar.cmpi .slt c256_i32_50 c0_i32_54
  let v109 : BitVec 32 := Scalar.extui v108
  let v110 : BitVec 32 := Scalar.subi v107 v109
  let v111 : BitVec 1 := Scalar.cmpi .ne v105 v110
  let v112 : BitVec 32 := Scalar.remsi v99 c256_i32_50
  let c0_i32_55 : BitVec 32 := 0#32
  let v113 : BitVec 1 := Scalar.cmpi .ne v112 c0_i32_55
  let v114 : BitVec 1 := Scalar.andi v111 v113
  let v100 : BitVec 32 := Scalar.divsi v99 c256_i32_50
  let c1_i32_56 : BitVec 32 := 1#32
  let v115 : BitVec 32 := Scalar.subi v100 c1_i32_56
  let v116 : BitVec 32 := Scalar.select v114 v115 v100
  let c5_i32 : BitVec 32 := 5#32
  let v117 : BitVec 1 := Scalar.cmpi .eq v116 c5_i32
  let v118 : BitVec 32 := Scalar.extui v117
  let c0_i32_57 : BitVec 32 := 0#32
  let v119 : BitVec 1 := Scalar.cmpi .ne v118 c0_i32_57
  v119

@[reducible] def k0_t5_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond11 (i : grid0.Coords) : BitVec 1 :=
  let arg1 : BitVec 32 := BitVec.ofNat 32 (i 1).val
  let c1_i32_58 : BitVec 32 := 1#32
  let v120 : BitVec 32 := Scalar.addi arg1 c1_i32_58
  let c256_i32_59 : BitVec 32 := 256#32
  let v121 : BitVec 32 := Scalar.muli v120 c256_i32_59
  let c256_i32_60 : BitVec 32 := 256#32
  let v122 : BitVec 32 := Scalar.addi v121 c256_i32_60
  let c1_i32_61 : BitVec 32 := 1#32
  let v123 : BitVec 32 := Scalar.subi v122 c1_i32_61
  let c0_i32_63 : BitVec 32 := 0#32
  let v125 : BitVec 1 := Scalar.cmpi .sgt v123 c0_i32_63
  let v126 : BitVec 32 := Scalar.extui v125
  let c0_i32_64 : BitVec 32 := 0#32
  let v127 : BitVec 1 := Scalar.cmpi .slt v123 c0_i32_64
  let v128 : BitVec 32 := Scalar.extui v127
  let v129 : BitVec 32 := Scalar.subi v126 v128
  let c256_i32_62 : BitVec 32 := 256#32
  let c0_i32_65 : BitVec 32 := 0#32
  let v130 : BitVec 1 := Scalar.cmpi .sgt c256_i32_62 c0_i32_65
  let v131 : BitVec 32 := Scalar.extui v130
  let c0_i32_66 : BitVec 32 := 0#32
  let v132 : BitVec 1 := Scalar.cmpi .slt c256_i32_62 c0_i32_66
  let v133 : BitVec 32 := Scalar.extui v132
  let v134 : BitVec 32 := Scalar.subi v131 v133
  let v135 : BitVec 1 := Scalar.cmpi .ne v129 v134
  let v136 : BitVec 32 := Scalar.remsi v123 c256_i32_62
  let c0_i32_67 : BitVec 32 := 0#32
  let v137 : BitVec 1 := Scalar.cmpi .ne v136 c0_i32_67
  let v138 : BitVec 1 := Scalar.andi v135 v137
  let v124 : BitVec 32 := Scalar.divsi v123 c256_i32_62
  let c1_i32_68 : BitVec 32 := 1#32
  let v139 : BitVec 32 := Scalar.subi v124 c1_i32_68
  let v140 : BitVec 32 := Scalar.select v138 v139 v124
  let c6_i32 : BitVec 32 := 6#32
  let v141 : BitVec 1 := Scalar.cmpi .eq v140 c6_i32
  let v142 : BitVec 32 := Scalar.extui v141
  let c0_i32_69 : BitVec 32 := 0#32
  let v143 : BitVec 1 := Scalar.cmpi .ne v142 c0_i32_69
  v143

@[reducible] def k0_t6_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond13 (i : grid0.Coords) : BitVec 1 :=
  let arg1 : BitVec 32 := BitVec.ofNat 32 (i 1).val
  let c1_i32_70 : BitVec 32 := 1#32
  let v144 : BitVec 32 := Scalar.addi arg1 c1_i32_70
  let c256_i32_71 : BitVec 32 := 256#32
  let v145 : BitVec 32 := Scalar.muli v144 c256_i32_71
  let c256_i32_72 : BitVec 32 := 256#32
  let v146 : BitVec 32 := Scalar.addi v145 c256_i32_72
  let c1_i32_73 : BitVec 32 := 1#32
  let v147 : BitVec 32 := Scalar.subi v146 c1_i32_73
  let c0_i32_75 : BitVec 32 := 0#32
  let v149 : BitVec 1 := Scalar.cmpi .sgt v147 c0_i32_75
  let v150 : BitVec 32 := Scalar.extui v149
  let c0_i32_76 : BitVec 32 := 0#32
  let v151 : BitVec 1 := Scalar.cmpi .slt v147 c0_i32_76
  let v152 : BitVec 32 := Scalar.extui v151
  let v153 : BitVec 32 := Scalar.subi v150 v152
  let c256_i32_74 : BitVec 32 := 256#32
  let c0_i32_77 : BitVec 32 := 0#32
  let v154 : BitVec 1 := Scalar.cmpi .sgt c256_i32_74 c0_i32_77
  let v155 : BitVec 32 := Scalar.extui v154
  let c0_i32_78 : BitVec 32 := 0#32
  let v156 : BitVec 1 := Scalar.cmpi .slt c256_i32_74 c0_i32_78
  let v157 : BitVec 32 := Scalar.extui v156
  let v158 : BitVec 32 := Scalar.subi v155 v157
  let v159 : BitVec 1 := Scalar.cmpi .ne v153 v158
  let v160 : BitVec 32 := Scalar.remsi v147 c256_i32_74
  let c0_i32_79 : BitVec 32 := 0#32
  let v161 : BitVec 1 := Scalar.cmpi .ne v160 c0_i32_79
  let v162 : BitVec 1 := Scalar.andi v159 v161
  let v148 : BitVec 32 := Scalar.divsi v147 c256_i32_74
  let c1_i32_80 : BitVec 32 := 1#32
  let v163 : BitVec 32 := Scalar.subi v148 c1_i32_80
  let v164 : BitVec 32 := Scalar.select v162 v163 v148
  let c7_i32 : BitVec 32 := 7#32
  let v165 : BitVec 1 := Scalar.cmpi .eq v164 c7_i32
  let v166 : BitVec 32 := Scalar.extui v165
  let c0_i32_81 : BitVec 32 := 0#32
  let v167 : BitVec 1 := Scalar.cmpi .ne v166 c0_i32_81
  v167

@[reducible] def k0_t7_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def k0_cond15 (i : grid0.Coords) : BitVec 1 :=
  let arg1 : BitVec 32 := BitVec.ofNat 32 (i 1).val
  let c1_i32_82 : BitVec 32 := 1#32
  let v168 : BitVec 32 := Scalar.addi arg1 c1_i32_82
  let c256_i32_83 : BitVec 32 := 256#32
  let v169 : BitVec 32 := Scalar.muli v168 c256_i32_83
  let c256_i32_84 : BitVec 32 := 256#32
  let v170 : BitVec 32 := Scalar.addi v169 c256_i32_84
  let c1_i32_85 : BitVec 32 := 1#32
  let v171 : BitVec 32 := Scalar.subi v170 c1_i32_85
  let c0_i32_87 : BitVec 32 := 0#32
  let v173 : BitVec 1 := Scalar.cmpi .sgt v171 c0_i32_87
  let v174 : BitVec 32 := Scalar.extui v173
  let c0_i32_88 : BitVec 32 := 0#32
  let v175 : BitVec 1 := Scalar.cmpi .slt v171 c0_i32_88
  let v176 : BitVec 32 := Scalar.extui v175
  let v177 : BitVec 32 := Scalar.subi v174 v176
  let c256_i32_86 : BitVec 32 := 256#32
  let c0_i32_89 : BitVec 32 := 0#32
  let v178 : BitVec 1 := Scalar.cmpi .sgt c256_i32_86 c0_i32_89
  let v179 : BitVec 32 := Scalar.extui v178
  let c0_i32_90 : BitVec 32 := 0#32
  let v180 : BitVec 1 := Scalar.cmpi .slt c256_i32_86 c0_i32_90
  let v181 : BitVec 32 := Scalar.extui v180
  let v182 : BitVec 32 := Scalar.subi v179 v181
  let v183 : BitVec 1 := Scalar.cmpi .ne v177 v182
  let v184 : BitVec 32 := Scalar.remsi v171 c256_i32_86
  let c0_i32_91 : BitVec 32 := 0#32
  let v185 : BitVec 1 := Scalar.cmpi .ne v184 c0_i32_91
  let v186 : BitVec 1 := Scalar.andi v183 v185
  let v172 : BitVec 32 := Scalar.divsi v171 c256_i32_86
  let c1_i32_92 : BitVec 32 := 1#32
  let v187 : BitVec 32 := Scalar.subi v172 c1_i32_92
  let v188 : BitVec 32 := Scalar.select v186 v187 v172
  let c8_i32 : BitVec 32 := 8#32
  let v189 : BitVec 1 := Scalar.cmpi .eq v188 c8_i32
  let v190 : BitVec 32 := Scalar.extui v189
  let c0_i32_93 : BitVec 32 := 0#32
  let v191 : BitVec 1 := Scalar.cmpi .ne v190 c0_i32_93
  v191

@[reducible] def k0_t8_loop : Scf.Loop 32 :=
  let c0_i32_145 : BitVec 32 := 0#32
  let c31_i32 : BitVec 32 := 31#32
  let v376 : BitVec 32 := Scalar.addi c0_i32_145 c31_i32
  let c1_i32_146 : BitVec 32 := 1#32
  ⟨c0_i32_145, v376, c1_i32_146⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolSumIdeal.lean ====
abbrev S16x2048x8192 : Shape := ⟨3, ![16, 2048, 8192]⟩
abbrev S4x1024x1024 : Shape := ⟨3, ![4, 1024, 1024]⟩
abbrev S4x1024 : Shape := ⟨2, ![4, 1024]⟩
abbrev S4096 : Shape := ⟨1, ![4096]⟩
abbrev S4 : Shape := ⟨1, ![4]⟩
abbrev S16x2048x4096 : Shape := ⟨3, ![16, 2048, 4096]⟩
abbrev S16x2048x4x1024 : Shape := ⟨4, ![16, 2048, 4, 1024]⟩
abbrev S2048 : Shape := ⟨1, ![2048]⟩
abbrev S2048x1 : Shape := ⟨2, ![2048, 1]⟩
abbrev S1x4 : Shape := ⟨2, ![1, 4]⟩
abbrev S2048x4 : Shape := ⟨2, ![2048, 4]⟩
abbrev S_ : Shape := ⟨0, ![]⟩
abbrev S1x2048x1 : Shape := ⟨3, ![1, 2048, 1]⟩
abbrev S2048x1x4 : Shape := ⟨3, ![2048, 1, 4]⟩
abbrev S2048x2048x4 : Shape := ⟨3, ![2048, 2048, 4]⟩
abbrev S2048x1x1 : Shape := ⟨3, ![2048, 1, 1]⟩
abbrev S2048x2048x1 : Shape := ⟨3, ![2048, 2048, 1]⟩
abbrev S4x16x1024x2048 : Shape := ⟨4, ![4, 16, 1024, 2048]⟩
abbrev S1x2048x4x1 : Shape := ⟨4, ![1, 2048, 4, 1]⟩
abbrev S4x1024x16x2048 : Shape := ⟨4, ![4, 1024, 16, 2048]⟩
abbrev S1x1x4x1024 : Shape := ⟨4, ![1, 1, 4, 1024]⟩
abbrev S1x1x4096 : Shape := ⟨3, ![1, 1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x8192, .bf16⟩
  | .hbm, ⟨1, _⟩ => ⟨S4x1024x1024, .f32⟩
  | .hbm, ⟨2, _⟩ => ⟨S4x1024, .f32⟩
  | .hbm, ⟨3, _⟩ => ⟨S4096, .f32⟩
  | .hbm, ⟨4, _⟩ => ⟨S4, .i32⟩
  | .hbm, ⟨5, _⟩ => ⟨S16x2048x8192, .f32⟩
  | .hbm, ⟨6, _⟩ => ⟨S16x2048x4096, .f32⟩
  | .hbm, ⟨7, _⟩ => ⟨S16x2048x4096, .f32⟩
  | .hbm, ⟨8, _⟩ => ⟨S16x2048x4x1024, .f32⟩
  | .hbm, ⟨9, _⟩ => ⟨S2048, .i32⟩
  | .hbm, ⟨10, _⟩ => ⟨S2048x1, .i32⟩
  | .hbm, ⟨11, _⟩ => ⟨S1x4, .i32⟩
  | .hbm, ⟨12, _⟩ => ⟨S2048x4, .i32⟩
  | .hbm, ⟨13, _⟩ => ⟨S2048x4, .i32⟩
  | .hbm, ⟨14, _⟩ => ⟨S2048x4, .i32⟩
  | .hbm, ⟨15, _⟩ => ⟨S_, .i32⟩
  | .hbm, ⟨16, _⟩ => ⟨S2048x4, .i32⟩
  | .hbm, ⟨17, _⟩ => ⟨S2048x4, .i32⟩
  | .hbm, ⟨18, _⟩ => ⟨S_, .i32⟩
  | .hbm, ⟨19, _⟩ => ⟨S2048x4, .i32⟩
  | .hbm, ⟨20, _⟩ => ⟨S2048x4, .i32⟩
  | .hbm, ⟨21, _⟩ => ⟨S2048x1, .i32⟩
  | .hbm, ⟨22, _⟩ => ⟨S2048x4, .i32⟩
  | .hbm, ⟨23, _⟩ => ⟨S2048x4, .i32⟩
  | .hbm, ⟨24, _⟩ => ⟨S_, .i32⟩
  | .hbm, ⟨25, _⟩ => ⟨S2048x4, .i32⟩
  | .hbm, ⟨26, _⟩ => ⟨S2048x4, .i32⟩
  | .hbm, ⟨27, _⟩ => ⟨S2048x4, .f32⟩
  | .hbm, ⟨28, _⟩ => ⟨S1x2048x1, .i32⟩
  | .hbm, ⟨29, _⟩ => ⟨S2048x1x4, .i32⟩
  | .hbm, ⟨30, _⟩ => ⟨S2048x2048x4, .i32⟩
  | .hbm, ⟨31, _⟩ => ⟨S2048x2048x4, .i32⟩
  | .hbm, ⟨32, _⟩ => ⟨S2048x2048x4, .i1⟩
  | .hbm, ⟨33, _⟩ => ⟨S1x2048x1, .i32⟩
  | .hbm, ⟨34, _⟩ => ⟨S2048x1x1, .i32⟩
  | .hbm, ⟨35, _⟩ => ⟨S2048x2048x1, .i32⟩
  | .hbm, ⟨36, _⟩ => ⟨S2048x2048x1, .i32⟩
  | .hbm, ⟨37, _⟩ => ⟨S2048x2048x1, .i1⟩
  | .hbm, ⟨38, _⟩ => ⟨S2048x2048x4, .i1⟩
  | .hbm, ⟨39, _⟩ => ⟨S2048x2048x4, .i1⟩
  | .hbm, ⟨40, _⟩ => ⟨S2048x2048x4, .f32⟩
  | .hbm, ⟨41, _⟩ => ⟨S4x16x1024x2048, .f32⟩
  | .hbm, ⟨42, _⟩ => ⟨S16x2048x4x1024, .f32⟩
  | .hbm, ⟨43, _⟩ => ⟨S1x2048x4x1, .f32⟩
  | .hbm, ⟨44, _⟩ => ⟨S16x2048x4x1024, .f32⟩
  | .hbm, ⟨45, _⟩ => ⟨S16x2048x4x1024, .f32⟩
  | .hbm, ⟨46, _⟩ => ⟨S16x2048x4x1024, .f32⟩
  | .hbm, ⟨47, _⟩ => ⟨S4x1024x16x2048, .f32⟩
  | .hbm, ⟨48, _⟩ => ⟨S16x2048x4x1024, .f32⟩
  | .hbm, ⟨49, _⟩ => ⟨S1x1x4x1024, .f32⟩
  | .hbm, ⟨50, _⟩ => ⟨S16x2048x4x1024, .f32⟩
  | .hbm, ⟨51, _⟩ => ⟨S16x2048x4x1024, .f32⟩
  | .hbm, ⟨52, _⟩ => ⟨S16x2048x4096, .f32⟩
  | .hbm, ⟨53, _⟩ => ⟨S1x1x4096, .f32⟩
  | .hbm, ⟨54, _⟩ => ⟨S16x2048x4096, .f32⟩
  | .hbm, ⟨55, _⟩ => ⟨S16x2048x4096, .f32⟩
  | .hbm, ⟨56, _⟩ => ⟨S16x2048x4096, .f32⟩
  | .hbm, ⟨57, _⟩ => ⟨S16x2048x4096, .f32⟩
  | .hbm, ⟨58, _⟩ => ⟨S_, .f32⟩
  | .hbm, ⟨59, _⟩ => ⟨S16x2048x4096, .f32⟩
  | .hbm, ⟨60, _⟩ => ⟨S16x2048x4096, .f32⟩
  | .hbm, ⟨61, _⟩ => ⟨S_, .f32⟩
  | .hbm, ⟨62, _⟩ => ⟨S16x2048x4096, .f32⟩
  | .hbm, ⟨63, _⟩ => ⟨S16x2048x4096, .f32⟩
  | .hbm, ⟨64, _⟩ => ⟨S16x2048x4096, .f32⟩
  | .hbm, ⟨65, _⟩ => ⟨S16x2048x4096, .f32⟩
  | .hbm, ⟨66, _⟩ => ⟨S16x2048x4096, .bf16⟩
  | _, _ => ⟨S16x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Spec.lean ====
module

public import Idealize.ShloMosaic.Lib.Pointwise

@[expose] public section

noncomputable section

open Idealize.ShloMosaic

namespace Cert.Spec

/-- Entry `k` of the row `x` divided by its root mean square and scaled by `g`; `d` is the word of the row's
    length. -/
def normRow {n : ℕ} (d : BitVec 32) (x g : Fin n → EReal) (k : Fin n) : EReal :=
  x k * Ideal.rsqrt (Ideal.div (∑ l, x l * x l) (Ideal.ofBits .f32 d) + Ideal.ofBits .f32 0x358637BD#32) * g k

end Cert.Spec

end
-- ==== Proof.QzProj.lean ====
module

public import proofs.«01_k».proof.Proof.Gen.QzProjIdeal.Value
public import Idealize.ShloMosaic.Lib.Pipeline.ValueKit
public import proofs.«01_k».proof.Proof.Spec
public import proofs.«01_k».proof.Proof.Gen.QzProjRefIdeal.Run

@[expose] public section

set_option maxRecDepth 16384

noncomputable section

open Idealize.ShloMosaic Idealize.ShloMosaic.TcCoe Idealize.SL.Sem
open Idealize.ShloMosaic.Pipeline (Dat)

namespace Cert.QzProjIdeal.Value

open Cert.QzProjIdeal Cert.QzProjIdeal.Gen

variable (m : (ℓ : Loc nD τ sig) → Buf (Elt Ideal) ℓ)

/-- Where each window's block lies, at every grid point. -/
theorem idx : ∀ t : Fin cfg0.N, win0_0.index t = ![t.val / 4, 0] ∧ win0_1.index t = ![0, 0]
    ∧ win0_2.index t = ![if t.val % 4 < 2 then t.val % 4 * 2048 else 1360 + t.val % 4 * 2048, 0]
    ∧ win0_3.index t = ![t.val / 4, t.val % 4] :=
  (by decide +kernel : ∀ t : Fin grid0.N, _)

/-- The scratch after a point holds the normalised rows of the point's row block: stored at the first
    point of a row of the grid, kept at the others. -/
theorem scratch (c : Dev nD) (t : Fin cfg0.N) :
    (outsAt0 m c t.val t.isLt).2 = k0_pay1 (iblk m c 0 t) (iblk m c 1 t) := by
  obtain ⟨n, hn⟩ := t
  induction n with
  | zero => rw [outsAt0_A m c ⟨0, hn⟩ rfl]; frame_out
  | succ n ih =>
    by_cases h : (n + 1) % 4 = 0
    · rw [outsAt0_A m c ⟨n + 1, hn⟩ h]; frame_out
    · have h2 := ih (by omega)
      have e0 : iblk m c 0 ⟨n, by omega⟩ = iblk m c 0 ⟨n + 1, hn⟩ := by
        have hd : n / 4 = (n + 1) / 4 := by omega
        blk_ext! [iblk, V, idx ⟨n, by omega⟩, idx ⟨n + 1, hn⟩, hd]
      have e1 : iblk m c 1 ⟨n, by omega⟩ = iblk m c 1 ⟨n + 1, hn⟩ := by
        blk_ext! [iblk, V, idx ⟨n, by omega⟩, idx ⟨n + 1, hn⟩]
      rw [outsAt0_B m c ⟨n + 1, hn⟩ h, ← e0, ← e1, ← h2]
      rfl

theorem entry_x (c : Dev nD) (r : Fin 32768) (k : Fin 2048) :
    V m c main_v0 (ix2 r k) = m ((c : Thread nD τ).loc main_arg0) (ix3 ⟨r.val / 2048, by omega⟩ ⟨r.val % 2048, by omega⟩ k) := by
  entry_read
  pointwise

theorem entry_g (c : Dev nD) (k : Fin 2048) :
    V m c main_v3 (ix2 0 k) = m ((c : Thread nD τ).loc main_arg1) (ix1 k) := by
  entry_read
  pointwise

theorem entry_w (c : Dev nD) (n : Fin 9552) (k : Fin 2048) :
    V m c main_v2 (ix2 n k) = m ((c : Thread nD τ).loc main_arg2) (ix2 k n) := by
  entry_read
  pointwise

theorem block_x (c : Dev nD) (t : Fin cfg0.N) (p : Fin 1024) (k : Fin 2048) (r : Fin 32768)
   (hr : r.val = t.val / 4 * 1024 + p.val) :
    iblk m c 0 t (ix2 p k) = V m c main_v0 (ix2 r k) := by
  blk_ext [iblk, idx t]

theorem block_g (c : Dev nD) (t : Fin cfg0.N) (k : Fin 2048) :
    iblk m c 1 t (ix2 0 k) = V m c main_v3 (ix2 0 k) := by
  blk_ext [iblk, idx t]

theorem block_w (c : Dev nD) (t : Fin cfg0.N) (q : Fin 2048) (k : Fin 2048) (n : Fin 9552)
   (hn : n.val = (if t.val % 4 < 2 then t.val % 4 * 2048 else 1360 + t.val % 4 * 2048) + q.val) :
    iblk m c 2 t (ix2 q k) = V m c main_v2 (ix2 n k) := by
  blk_ext [iblk, idx t]
  · show win0_2.index t 0 + 1 * q.val = n.val
    rw [(idx t).2.2.1, hn]
    simp
  · show win0_2.index t 1 + 1 * k.val = k.val
    rw [(idx t).2.2.1]
    simp

/-- The column of the joint input projection that column `j` of the result is: the queries are its first 4096
    columns, the gates its last 4096. -/
def col (j : Fin 8192) : Fin 9552 := if h : j.val < 4096 then ⟨j.val, by omega⟩ else ⟨j.val + 1360, by omega⟩

theorem col_lo (j : Fin 8192) (h : j.val < 4096) : col j = ⟨j.val, by omega⟩ := by
  unfold col
  rw [dif_pos h]

theorem col_hi (j : Fin 8192) (h : ¬j.val < 4096) : col j = ⟨5456 + (j.val - 4096), by omega⟩ := by
  unfold col
  rw [dif_neg h, Fin.mk.injEq]
  omega

/-- The query and gate projection, entry by entry: normalised row against column. -/
def spec (X : FVec Ideal S16x2048x2048 .f32) (G : FVec Ideal S2048 .f32) (W : FVec Ideal S2048x9552 .f32)
    (r : Fin 32768) (j : Fin 8192) : EReal :=
  ∑ k : Fin 2048, Spec.normRow 0x45000000#32
    (fun k => X (ix3 ⟨r.val / 2048, by omega⟩ ⟨r.val % 2048, by omega⟩ k)) (fun k => G (ix1 k)) k * W (ix2 k (col j))

/-- What the body stores, in terms of the three blocks. -/
theorem payload (x : Vec Ideal S1024x2048 .f32) (g : Vec Ideal S1x2048 .f32) (w : Vec Ideal S2048x2048 .bf16)
    (p : Fin 1024) (q : Fin 2048) :
    k0_pay2 (k0_pay1 x g) w (ix2 p q)
      = ∑ k : Fin 2048, Spec.normRow 0x45000000#32 (fun k => x (ix2 p k)) (fun k => g (ix2 0 k)) k * w (ix2 q k) := by
  pointwise [k0_pay1, k0_pay2, Spec.normRow]

/-- What the body stores at a point is the specification at the place of the block. -/
theorem point (c : Dev nD) (t : Fin cfg0.N) (p : Fin 1024) (q : Fin 2048) (r : Fin 32768) (j : Fin 8192)
    (hr : r.val = t.val / 4 * 1024 + p.val) (hj : j.val = t.val % 4 * 2048 + q.val) :
    k0_pay2 (k0_pay1 (iblk m c 0 t) (iblk m c 1 t)) (iblk m c 2 t) (ix2 p q)
      = spec (m ((c : Thread nD τ).loc main_arg0)) (m ((c : Thread nD τ).loc main_arg1))
          (m ((c : Thread nD τ).loc main_arg2)) r j := by
  refine (payload _ _ _ p q).trans ?_
  have hx := fun k => (block_x m c t p k r hr).trans (entry_x m c r k)
  have hg := fun k => (block_g m c t k).trans (entry_g m c k)
  have hw := fun k => (block_w m c t q k (col j) (by
    unfold col
    split <;> split <;> simp only <;> omega)).trans (entry_w m c (col j) k)
  unfold spec
  simp only [hx, hg, hw]

/-- The array that the pallas_call leaves is the specification. -/
theorem final (c : Dev nD) : (dats m 0 c).arrAt 3 (cfgs 0).N = fun i =>
    spec (m ((c : Thread nD τ).loc main_arg0)) (m ((c : Thread nD τ).loc main_arg1))
      (m ((c : Thread nD τ).loc main_arg2)) (i 0) (i 1) := by
  refine (dats m 0 c).arrAt_eq_of_covers 3 _ (by decide +kernel) fun t hf y => ?_
  blk_simp
  rw [after0_3]
  have hs := scratch m c t
  have key : ∀ y : S1024x2048.Idx, (outsAt0 m c t.val t.isLt).1 y
      = k0_pay2 (k0_pay1 (iblk m c 0 t) (iblk m c 1 t)) (iblk m c 2 t) y := by
    intro y
    by_cases h : t.val % 4 = 0
    · rw [outsAt0_A m c t h]; frame_out
    · rw [outsAt0_B m c t h] at hs ⊢
      have hs' : (outsAt0 m c (t.val - 1) (Nat.lt_of_le_of_lt (Nat.sub_le _ _) t.isLt)).2
          = k0_pay1 (iblk m c 0 t) (iblk m c 1 t) := hs
      rw [hs']
      frame_out
      exact congrArg (fun z => k0_pay2 z (iblk m c 2 t) y) (Memref.IsWhole.read_unread _ _)
  refine (key y).trans ?_
  obtain ⟨p, q, rfl⟩ : ∃ (p : Fin 1024) (q : Fin 2048), y = ix2 p q := ⟨y 0, y 1, eq_ix2 y⟩
  refine point m c t p q _ _ ?_ ?_
  · blk_simp [idx t]
  · blk_simp [idx t]

/-- The kernel's run with the result at the specification. -/
theorem run_spec (ρ : Dev nD → PrngReg) :
    θ_run defs (onTc (τ := τ) (main (F := Ideal))) ⟨m, fun _ => 0, ρ⟩ fun r => ∀ c : Dev nD,
      r.2.mem ((c : Thread nD τ).loc main_v4) = (fun i => spec (m ((c : Thread nD τ).loc main_arg0))
          (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.QzProjIdeal.Value

namespace Cert.QzProjRefIdeal.Value

open Cert.QzProjRefIdeal Cert.QzProjRefIdeal.Gen

variable (m : (ℓ : Loc nD τ sig) → Buf (Elt Ideal) ℓ) (ρ : Dev nD → PrngReg)

/-- The reference leaves the specification. -/
theorem run_spec : θ_run defs (onTc (τ := τ) (main (F := Ideal))) ⟨m, fun _ => 0, ρ⟩ fun r => ∀ c : Dev nD,
      r.2.mem ((c.tc : Thread nD τ).loc main_v18) = (fun i => Cert.QzProjIdeal.Value.spec (m ((c : Thread nD τ).loc main_arg0)) (m ((c : Thread nD τ).loc main_arg1))
      (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [Cert.QzProjIdeal.Value.spec, Spec.normRow]
  by_cases h : i1.val < 4096
  · simp only [h, dite_true, Cert.QzProjIdeal.Value.col_lo i1 h]
  · simp only [h, dite_false, Cert.QzProjIdeal.Value.col_hi i1 h]

end Cert.QzProjRefIdeal.Value

end
-- ==== Proof.InB.lean ====
module

public import proofs.«01_k».proof.Proof.Gen.InBIdeal.Value
public import Idealize.ShloMosaic.Lib.Pipeline.ValueKit
public import proofs.«01_k».proof.Proof.Spec
public import proofs.«01_k».proof.Proof.Gen.InBRefIdeal.Run

@[expose] public section

set_option maxRecDepth 16384

noncomputable section

open Idealize.ShloMosaic Idealize.ShloMosaic.TcCoe Idealize.SL.Sem
open Idealize.ShloMosaic.Pipeline (Dat)

namespace Cert.InBIdeal.Value

open Cert.InBIdeal Cert.InBIdeal.Gen

variable (m : (ℓ : Loc nD τ sig) → Buf (Elt Ideal) ℓ)

/-- Where each window's block lies, at every grid point. -/
theorem idx : ∀ t : Fin cfg0.N, win0_0.index t = ![t.val / 4, 0] ∧ win0_1.index t = ![0, 0]
    ∧ win0_2.index t = ![0, t.val % 4]
    ∧ win0_3.index t = ![t.val / 4, t.val % 4] :=
  (by decide +kernel : ∀ t : Fin grid0.N, _)

/-- The scratch after a point holds the normalised rows of the point's row block: stored at the first
    point of a row of the grid, kept at the others. -/
theorem scratch (c : Dev nD) (t : Fin cfg0.N) :
    (outsAt0 m c t.val t.isLt).2 = k0_pay1 (iblk m c 0 t) (iblk m c 1 t) := by
  obtain ⟨n, hn⟩ := t
  induction n with
  | zero => rw [outsAt0_A m c ⟨0, hn⟩ rfl]; frame_out
  | succ n ih =>
    by_cases h : (n + 1) % 4 = 0
    · rw [outsAt0_A m c ⟨n + 1, hn⟩ h]; frame_out
    · have h2 := ih (by omega)
      have e0 : iblk m c 0 ⟨n, by omega⟩ = iblk m c 0 ⟨n + 1, hn⟩ := by
        have hd : n / 4 = (n + 1) / 4 := by omega
        blk_ext! [iblk, V, idx ⟨n, by omega⟩, idx ⟨n + 1, hn⟩, hd]
      have e1 : iblk m c 1 ⟨n, by omega⟩ = iblk m c 1 ⟨n + 1, hn⟩ := by
        blk_ext! [iblk, V, idx ⟨n, by omega⟩, idx ⟨n + 1, hn⟩]
      rw [outsAt0_B m c ⟨n + 1, hn⟩ h, ← e0, ← e1, ← h2]
      rfl

theorem entry_x (c : Dev nD) (r : Fin 32768) (k : Fin 2048) :
    V m c main_v0 (ix2 r k) = m ((c : Thread nD τ).loc main_arg0) (ix3 ⟨r.val / 2048, by omega⟩ ⟨r.val % 2048, by omega⟩ k) := by
  entry_read
  pointwise

theorem entry_g (c : Dev nD) (k : Fin 2048) :
    V m c main_v2 (ix2 0 k) = m ((c : Thread nD τ).loc main_arg1) (ix1 k) := by
  entry_read
  pointwise

theorem entry_w (c : Dev nD) (n : Fin 8192) (k : Fin 2048) :
    V m c main_v1 (ix2 k n) = m ((c : Thread nD τ).loc main_arg2) (ix2 k n) := by
  entry_read
  pointwise

theorem block_x (c : Dev nD) (t : Fin cfg0.N) (p : Fin 1024) (k : Fin 2048) (r : Fin 32768)
   (hr : r.val = t.val / 4 * 1024 + p.val) :
    iblk m c 0 t (ix2 p k) = V m c main_v0 (ix2 r k) := by
  blk_ext [iblk, idx t]

theorem block_g (c : Dev nD) (t : Fin cfg0.N) (k : Fin 2048) :
    iblk m c 1 t (ix2 0 k) = V m c main_v2 (ix2 0 k) := by
  blk_ext [iblk, idx t]

theorem block_w (c : Dev nD) (t : Fin cfg0.N) (k : Fin 2048) (q : Fin 2048) (n : Fin 8192)
    (hn : n.val = t.val % 4 * 2048 + q.val) :
    iblk m c 2 t (ix2 k q) = V m c main_v1 (ix2 k n) := by
  blk_ext [iblk, idx t]

/-- The projection, entry by entry: normalised row against column. -/
def spec (X : FVec Ideal S16x2048x2048 .f32) (G : FVec Ideal S2048 .f32) (W : FVec Ideal S2048x8192 .f32)
    (r : Fin 32768) (j : Fin 8192) : EReal :=
  ∑ k : Fin 2048, Spec.normRow 0x45000000#32
    (fun k => X (ix3 ⟨r.val / 2048, by omega⟩ ⟨r.val % 2048, by omega⟩ k)) (fun k => G (ix1 k)) k * W (ix2 k j)

/-- What the body stores, in terms of the three blocks. -/
theorem payload (x : Vec Ideal S1024x2048 .f32) (g : Vec Ideal S1x2048 .f32) (w : Vec Ideal S2048x2048 .bf16)
    (p : Fin 1024) (q : Fin 2048) :
    k0_pay2 (k0_pay1 x g) w (ix2 p q)
      = ∑ k : Fin 2048, Spec.normRow 0x45000000#32 (fun k => x (ix2 p k)) (fun k => g (ix2 0 k)) k * w (ix2 k q) := by
  pointwise [k0_pay1, k0_pay2, Spec.normRow]

/-- What the body stores at a point is the specification at the place of the block. -/
theorem point (c : Dev nD) (t : Fin cfg0.N) (p : Fin 1024) (q : Fin 2048) (r : Fin 32768) (j : Fin 8192)
    (hr : r.val = t.val / 4 * 1024 + p.val) (hj : j.val = t.val % 4 * 2048 + q.val) :
    k0_pay2 (k0_pay1 (iblk m c 0 t) (iblk m c 1 t)) (iblk m c 2 t) (ix2 p q)
      = spec (m ((c : Thread nD τ).loc main_arg0)) (m ((c : Thread nD τ).loc main_arg1))
          (m ((c : Thread nD τ).loc main_arg2)) r j := by
  refine (payload _ _ _ p q).trans ?_
  have hx := fun k => (block_x m c t p k r hr).trans (entry_x m c r k)
  have hg := fun k => (block_g m c t k).trans (entry_g m c k)
  have hw := fun k => (block_w m c t k q j hj).trans (entry_w m c j k)
  unfold spec
  simp only [hx, hg, hw]

/-- The array that the pallas_call leaves is the specification. -/
theorem final (c : Dev nD) : (dats m 0 c).arrAt 3 (cfgs 0).N = fun i =>
    spec (m ((c : Thread nD τ).loc main_arg0)) (m ((c : Thread nD τ).loc main_arg1))
      (m ((c : Thread nD τ).loc main_arg2)) (i 0) (i 1) := by
  refine (dats m 0 c).arrAt_eq_of_covers 3 _ (by decide +kernel) fun t hf y => ?_
  blk_simp
  rw [after0_3]
  have hs := scratch m c t
  have key : ∀ y : S1024x2048.Idx, (outsAt0 m c t.val t.isLt).1 y
      = k0_pay2 (k0_pay1 (iblk m c 0 t) (iblk m c 1 t)) (iblk m c 2 t) y := by
    intro y
    by_cases h : t.val % 4 = 0
    · rw [outsAt0_A m c t h]; frame_out
    · rw [outsAt0_B m c t h] at hs ⊢
      have hs' : (outsAt0 m c (t.val - 1) (Nat.lt_of_le_of_lt (Nat.sub_le _ _) t.isLt)).2
          = k0_pay1 (iblk m c 0 t) (iblk m c 1 t) := hs
      rw [hs']
      frame_out
      exact congrArg (fun z => k0_pay2 z (iblk m c 2 t) y) (Memref.IsWhole.read_unread _ _)
  refine (key y).trans ?_
  obtain ⟨p, q, rfl⟩ : ∃ (p : Fin 1024) (q : Fin 2048), y = ix2 p q := ⟨y 0, y 1, eq_ix2 y⟩
  refine point m c t p q _ _ ?_ ?_
  · blk_simp [idx t]
  · blk_simp [idx t]

/-- The kernel's run with the result at the specification. -/
theorem run_spec (ρ : Dev nD → PrngReg) :
    θ_run defs (onTc (τ := τ) (main (F := Ideal))) ⟨m, fun _ => 0, ρ⟩ fun r => ∀ c : Dev nD,
      r.2.mem ((c : Thread nD τ).loc main_v3) = (fun i => spec (m ((c : Thread nD τ).loc main_arg0))
          (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.InBIdeal.Value

namespace Cert.InBRefIdeal.Value

open Cert.InBRefIdeal Cert.InBRefIdeal.Gen

variable (m : (ℓ : Loc nD τ sig) → Buf (Elt Ideal) ℓ) (ρ : Dev nD → PrngReg)

/-- The reference leaves the specification. -/
theorem run_spec : θ_run defs (onTc (τ := τ) (main (F := Ideal))) ⟨m, fun _ => 0, ρ⟩ fun r => ∀ c : Dev nD,
      r.2.mem ((c.tc : Thread nD τ).loc main_v15) = (fun i => Cert.InBIdeal.Value.spec (m ((c : Thread nD τ).loc main_arg0)) (m ((c : Thread nD τ).loc main_arg1))
      (m ((c : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run (F := Ideal) m ρ)
  funext i
  idx_vars i
  pointwise [Cert.InBIdeal.Value.spec, Spec.normRow]

end Cert.InBRefIdeal.Value

end
-- ==== Proof.Safe.lean ====
module

public import Idealize.ShloMosaic.Lib.Pipeline.FrameBody
public import Idealize.ShloMosaic.Lib.Pipeline.Frame
public import Idealize.ShloMosaic.Lib.Tactic

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels}

/-- The resources of the launch. -/
abbrev Res (nD : Nat) (τ : Topo) (sig : RefSig) (Val : EltTy → Type) : Type := sProp (MT nD τ sig Unit Val ℕ (UR sig nD τ) ℕ)

/-- A program that, started with the resource `R`, runs to its end and gives `R` back. -/
def Keeps (defs : Defs nD τ sig Val Λ) (c : Dev nD) (R : Res nD τ sig Val) {α : Type} (p : Prog (TpuEff nD τ sig Val Λ .tc) α) : Prop :=
  R ⊢ wp frame (wpE (Ix := Unit) (Name := ℕ) (U := UR sig nD τ) (Lvl := ℕ) defs Variants.none (c : Thread nD τ) none) Set.univ p (fun _ => R)

/-- The resource `R` holds the buffer of `b`, and takes it back as it was. -/
def Reads (c : Dev nD) (R : Res nD τ sig Val) {sp : Space} {s : Shape} {e : EltTy} (b : Memref sig .tc sp s e) : Prop :=
  R ⊢ (iprop(∃ f, (b.view.loc (c : Thread nD τ) ↦[b.view.set]{fullShare} f)
    ∗ ((b.view.loc (c : Thread nD τ) ↦[b.view.set]{fullShare} f) -∗ R)) : Res nD τ sig Val)

/-- The resource `R` holds the buffer of `b`, and takes it back at any contents. -/
def Writes (c : Dev nD) (R : Res nD τ sig Val) {sp : Space} {s : Shape} {e : EltTy} (b : Memref sig .tc sp s e) : Prop :=
  R ⊢ (iprop(∃ f, (b.view.loc (c : Thread nD τ) ↦[b.view.set]{fullShare} f)
    ∗ (∀ g, (b.view.loc (c : Thread nD τ) ↦[b.view.set]{fullShare} g) -∗ R)) : Res nD τ sig Val)

/-- What takes a buffer back at any contents takes it back as it was. -/
theorem Writes.reads {c : Dev nD} {R : Res nD τ sig Val} {sp : Space} {s : Shape} {e : EltTy} {b : Memref sig .tc sp s e} (h : Writes c R b) : Reads c R b := by
  unfold Reads
  refine h.trans ?_
  iintro ⟨%f, H, HR⟩
  iexists f
  isplitl [H]; · iexact H
  iintro H
  iapply HR; iexact H

/-- A program that ends at once keeps everything. -/
theorem keeps_pure {defs : Defs nD τ sig Val Λ} {c : Dev nD} {R : Res nD τ sig Val}
    {α : Type} (a : α) : Keeps defs c R (pure a) := by
  unfold Keeps
  rw [wp_pure]
  iintro H; imodintro; iexact H

/-- One program after another. -/
theorem keeps_bind {defs : Defs nD τ sig Val Λ} {c : Dev nD} {R : Res nD τ sig Val}
    {α β : Type} {p : Prog (TpuEff nD τ sig Val Λ .tc) α} {k : α → Prog (TpuEff nD τ sig Val Λ .tc) β}
    (hp : Keeps defs c R p) (hk : ∀ a, Keeps defs c R (k a)) : Keeps defs c R (p >>= k) := by
  unfold Keeps at *
  rw [wp_bind]
  exact hp.trans (wp_mono _ _ _ hk)

/-- A load from a buffer the resource holds. -/
theorem keeps_load {defs : Defs nD τ sig Val Λ} {c : Dev nD} {R : Res nD τ sig Val}
    {cs : CoreSpace} {s : Shape} {e : EltTy} {b : Memref sig .tc cs s e} {r : LoadRect s} {hl : b.view.LoadsAt r}
    (h : Reads c R b) : Keeps defs c R (Prog.lift (.load b r hl)) := by
  unfold Keeps
  refine h.trans ?_
  iintro ⟨%f, H, HR⟩
  iapply (wp_load (defs := defs) Variants.none (c : Thread nD τ) none Set.univ (m := b) (r := r) (hl := hl) (k := Prog.ret)
    (q := fullShare) (f := f) (S := b.view.set) (View.setOn_subset_set _ _)) $$ H
  iintro H
  rw [wp_ret]
  imodintro
  iapply HR; iexact H

/-- A store to a buffer the resource holds and takes back at any contents. -/
theorem keeps_store {defs : Defs nD τ sig Val Λ} {c : Dev nD} {R : Res nD τ sig Val}
    {cs : CoreSpace} {s : Shape} {e : EltTy} {b : Memref sig .tc cs s e} {r : Rect s} {w : r.shape.Idx → Val e}
    {Mk : Finset r.shape.Idx} {hx : (b.access r).Stores Mk} {hm : Mk = Finset.univ ∨ ∀ a, r.stride a = 1}
    (h : Writes c R b) : Keeps defs c R (Prog.lift (.store b r w Mk hx hm)) := by
  unfold Keeps
  refine h.trans ?_
  iintro ⟨%f, H, HR⟩
  iapply (wp_store (defs := defs) Variants.none (c : Thread nD τ) none Set.univ (m := b) (r := r) (w := w) (Mk := Mk) (hx := hx)
    (hm := hm) (k := Prog.ret) (f := f) (S := b.view.set)
    ((View.setOn_subset_set _ _).trans (View.set_slice_subset _ _))) $$ H
  iintro H
  rw [wp_ret]
  imodintro
  iapply HR; iexact H

/-- A counted loop each of whose trips keeps the resource. -/
theorem keeps_for {defs : Defs nD τ sig Val Λ} {c : Dev nD} {R : Res nD τ sig Val}
    {w : Nat} {σ : Type} (l : Scf.Loop w) (hok : l.OK) (init : σ)
    (body : Fin l.trips → σ → Prog (TpuEff nD τ sig Val Λ .tc) σ) (h : ∀ k a, Keeps defs c R (body k a)) :
    Keeps defs c R (Scf.Loop.for l hok init body) := by
  unfold Keeps
  refine BIBase.Entails.trans ?_ (Scf.wp_for frame (wpE defs Variants.none (c : Thread nD τ) none) Set.univ l.lb l.ub l.st hok init body
    (fun _ _ => R) h)
  iintro H
  isplitl [H]; · iexact H
  iintro %a H; iexact H

/-- A branch both of whose arms keep the resource. -/
theorem keeps_dite {defs : Defs nD τ sig Val Λ} {c : Dev nD} {R : Res nD τ sig Val}
    {α : Type} {P : Prop} [Decidable P] {p : P → Prog (TpuEff nD τ sig Val Λ .tc) α}
    {q : ¬P → Prog (TpuEff nD τ sig Val Λ .tc) α} (hp : ∀ h, Keeps defs c R (p h)) (hq : ∀ h, Keeps defs c R (q h)) :
    Keeps defs c R (if h : P then p h else q h) := by
  split
  · exact hp _
  · exact hq _

/-- Owning a buffer at named contents allows reading it. -/
theorem reads_owns {c : Dev nD} {sp : Space} {s : Shape} {e : EltTy} {b : Memref sig .tc sp s e} {X : s.Idx → Val e} :
    Reads c (owns (c : Thread nD τ) b fullShare X : Res nD τ sig Val) b := by
  unfold Reads owns
  iintro ⟨%f, %hf, H⟩
  iexists f
  isplitl [H]; · iexact H
  iintro H
  iexists f
  isplitr; · ipureintro; exact hf
  iexact H

/-- Owning a buffer at some contents allows writing it. -/
theorem writes_some {c : Dev nD} {sp : Space} {s : Shape} {e : EltTy} {b : Memref sig .tc sp s e} :
    Writes c (iprop(∃ X, owns (c : Thread nD τ) b fullShare X) : Res nD τ sig Val) b := by
  unfold Writes owns
  iintro ⟨%X, %f, %hf, H⟩
  iexists f
  isplitl [H]; · iexact H
  iintro %g H
  iexists (b.view.read Val g), g
  isplitr; · ipureintro; rfl
  iexact H

/-- What the left part of a resource allows to read, the whole does. -/
theorem Reads.left {c : Dev nD} {R S : Res nD τ sig Val} {sp : Space} {s : Shape} {e : EltTy} {b : Memref sig .tc sp s e}
    (h : Reads c R b) : Reads c (iprop(R ∗ S) : Res nD τ sig Val) b := by
  unfold Reads at *
  iintro ⟨HR, HS⟩
  ihave HR := h $$ HR
  icases HR with ⟨%f, H, HR⟩
  iexists f
  isplitl [H]; · iexact H
  iintro H
  isplitl [HR H]
  · iapply HR; iexact H
  iexact HS

/-- What the right part of a resource allows to read, the whole does. -/
theorem Reads.right {c : Dev nD} {R S : Res nD τ sig Val} {sp : Space} {s : Shape} {e : EltTy} {b : Memref sig .tc sp s e}
    (h : Reads c S b) : Reads c (iprop(R ∗ S) : Res nD τ sig Val) b := by
  unfold Reads at *
  iintro ⟨HR, HS⟩
  ihave HS := h $$ HS
  icases HS with ⟨%f, H, HS⟩
  iexists f
  isplitl [H]; · iexact H
  iintro H
  isplitl [HR]; · iexact HR
  iapply HS; iexact H

/-- What the left part of a resource allows to write, the whole does. -/
theorem Writes.left {c : Dev nD} {R S : Res nD τ sig Val} {sp : Space} {s : Shape} {e : EltTy} {b : Memref sig .tc sp s e}
    (h : Writes c R b) : Writes c (iprop(R ∗ S) : Res nD τ sig Val) b := by
  unfold Writes at *
  iintro ⟨HR, HS⟩
  ihave HR := h $$ HR
  icases HR with ⟨%f, H, HR⟩
  iexists f
  isplitl [H]; · iexact H
  iintro %g H
  isplitl [HR H]
  · iapply HR; iexact H
  iexact HS

/-- What the right part of a resource allows to write, the whole does. -/
theorem Writes.right {c : Dev nD} {R S : Res nD τ sig Val} {sp : Space} {s : Shape} {e : EltTy} {b : Memref sig .tc sp s e}
    (h : Writes c S b) : Writes c (iprop(R ∗ S) : Res nD τ sig Val) b := by
  unfold Writes at *
  iintro ⟨HR, HS⟩
  ihave HS := h $$ HS
  icases HS with ⟨%f, H, HS⟩
  iexists f
  isplitl [H]; · iexact H
  iintro %g H
  isplitl [HR]; · iexact HR
  iapply HS; iexact H

end Cert.Safe

end
-- ==== Proof.MaskKeepA.lean ====
module

public import proofs.«01_k».proof.Proof.Gen.Mask
public import proofs.«01_k».proof.Proof.Safe

@[expose] public section

set_option maxRecDepth 65536

noncomputable section

namespace Cert.Mask.Keep

open Idealize.ShloMosaic Idealize.ShloMosaic.TcCoe Idealize.SL.Sem Cert.Safe Cert.Mask.Gen

variable {F : FTy → Type} [BitOps F]

/-- The resource `R` holds the four buffers the indexer body works on: the staged inputs to be read, the output block to be written. -/
structure Held (c : Dev nD) (R : Res nD τ sig (Elt F)) (arg2 : Memref sig .tc .vmem S1x256x1024 .f32) (arg3 : Memref sig .tc .vmem S1x256x128 .f32)
    (arg4 : Memref sig .tc .vmem S1x2048x64 .bf16) (arg5 : Memref sig .tc .vmem S1x2x16x128x128 .bf16) : Prop where
  r2 : Reads c R arg2
  r3 : Reads c R arg3
  r4 : Reads c R arg4
  w5 : Writes c R arg5

/-- A branch on a bit both of whose arms keep the resource. -/
theorem keeps_ite {defs : Defs nD τ sig (Elt F) Λ₀} {c : Dev nD} {R : Res nD τ sig (Elt F)} {α : Type} {P : Prop} [Decidable P]
    {p q : Prog (TpuEff nD τ sig (Elt F) Λ₀ .tc) α} (hp : P → Keeps defs c R p) (hq : ¬P → Keeps defs c R q) :
    Keeps defs c R (if P then p else q) := by
  split
  · exact hp ‹_›
  · exact hq ‹_›

variable {defs : Defs nD τ sig (Elt F) Λ₀} {c : Dev nD} {R : Res nD τ sig (Elt F)} {i : grid0.Coords}
  {arg2 : Memref sig .tc .vmem S1x256x1024 .f32} {harg2 : arg2.IsWhole} {arg3 : Memref sig .tc .vmem S1x256x128 .f32} {harg3 : arg3.IsWhole}
  {arg4 : Memref sig .tc .vmem S1x2048x64 .bf16} {harg4 : arg4.IsWhole} {arg5 : Memref sig .tc .vmem S1x2x16x128x128 .bf16} {harg5 : arg5.IsWhole}
  (h : Held c R arg2 arg3 arg4 arg5)

include h

/-- A stretch of the indexer body keeps what it holds. -/
theorem keeps_1 (v361 v381 v388 v554 : _) :
    Keeps defs c R (k0_part1 (F := F) i arg2 harg2 arg3 harg3 arg4 harg4 arg5 harg5 v361 v381 v388 v554) := by
  unfold k0_part1
  exact keeps_pure _

/-- A stretch of the indexer body keeps what it holds. -/
theorem keeps_2 :
    Keeps defs c R (k0_part2 (F := F) i arg2 harg2 arg3 harg3 arg4 harg4 arg5 harg5) := by
  unfold k0_part2
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_3 (v193 v198 v200 v228 v231 v232 cst_110 : _) :
    Keeps defs c R (k0_part3 (F := F) i arg2 harg2 arg3 harg3 arg4 harg4 arg5 harg5 v193 v198 v200 v228 v231 v232 cst_110) := by
  unfold k0_part3
  exact keeps_pure _

/-- A stretch of the indexer body keeps what it holds. -/
theorem keeps_4 (v193 v198 v200 v282 : _) :
    Keeps defs c R (k0_part4 (F := F) i arg2 harg2 arg3 harg3 arg4 harg4 arg5 harg5 v193 v198 v200 v282) := by
  unfold k0_part4
  exact keeps_pure _

/-- A stretch of the indexer body keeps what it holds. -/
theorem keeps_5 (arg1 v193 v198 v200 v327 v330 v331 : _) :
    Keeps defs c R (k0_part5 (F := F) i arg2 harg2 arg3 harg3 arg4 harg4 arg5 harg5 arg1 v193 v198 v200 v327 v330 v331) := by
  unfold k0_part5
  exact keeps_pure _

/-- A stretch of the indexer body keeps what it holds. -/
theorem keeps_6 (k0_h1 v359 v361 v362 v375 c0_i32_145 : _) :
    Keeps defs c R (k0_part6 (F := F) i arg2 harg2 arg3 harg3 arg4 harg4 arg5 harg5 k0_h1 v359 v361 v362 v375 c0_i32_145) := by
  unfold k0_part6
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_7 (v410 v411 : _) :
    Keeps defs c R (k0_part7 (F := F) i arg2 harg2 arg3 harg3 arg4 harg4 arg5 harg5 v410 v411) := by
  unfold k0_part7
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_8 (v433 v434 : _) :
    Keeps defs c R (k0_part8 (F := F) i arg2 harg2 arg3 harg3 arg4 harg4 arg5 harg5 v433 v434) := by
  unfold k0_part8
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_9 (v460 : _) :
    Keeps defs c R (k0_part9 (F := F) i arg2 harg2 arg3 harg3 arg4 harg4 arg5 harg5 v460) := by
  unfold k0_part9
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_10 (v482 v483 : _) :
    Keeps defs c R (k0_part10 (F := F) i arg2 harg2 arg3 harg3 arg4 harg4 arg5 harg5 v482 v483) := by
  unfold k0_part10
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_11 (cst_276 : _) :
    Keeps defs c R (k0_part11 (F := F) i arg2 harg2 arg3 harg3 arg4 harg4 arg5 harg5 cst_276) := by
  unfold k0_part11
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_12 (arg1 k0_h1 : _) :
    Keeps defs c R (k0_part12 (F := F) i arg2 harg2 arg3 harg3 arg4 harg4 arg5 harg5 arg1 k0_h1) := by
  unfold k0_part12
  refine keeps_bind (keeps_2 h) fun ⟨_, _, _, _, _, _, _⟩ => ?_
  refine keeps_bind (keeps_3 h _ _ _ _ _ _ _) fun _ => ?_
  refine keeps_bind (keeps_4 h _ _ _ _) fun ⟨_, _, _⟩ => ?_
  refine keeps_bind (keeps_5 h _ _ _ _ _ _ _) fun ⟨_, _, _, _, _⟩ => ?_
  refine keeps_bind (keeps_6 h _ _ _ _ _ _) fun ⟨_, _, _, _, _⟩ => ?_
  refine keeps_bind (keeps_7 h _ _) fun ⟨_, _⟩ => ?_
  refine keeps_bind (keeps_8 h _ _) fun _ => ?_
  refine keeps_bind (keeps_9 h _) fun ⟨_, _⟩ => ?_
  refine keeps_bind (keeps_10 h _ _) fun _ => ?_
  refine keeps_bind (keeps_11 h _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_13 (v361 v381 v388 v566 : _) :
    Keeps defs c R (k0_part13 (F := F) i arg2 harg2 arg3 harg3 arg4 harg4 arg5 harg5 v361 v381 v388 v566) := by
  unfold k0_part13
  exact keeps_pure _

/-- A stretch of the indexer body keeps what it holds. -/
theorem keeps_14 (v578 v580 v587 v594 v617 v619 cst_345 v620 : _) :
    Keeps defs c R (k0_part14 (F := F) i arg2 harg2 arg3 harg3 arg4 harg4 arg5 harg5 v578 v580 v587 v594 v617 v619 cst_345 v620) := by
  unfold k0_part14
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_15 (v388 v566 v645 v650 v652 cst_369 : _) :
    Keeps defs c R (k0_part15 (F := F) i arg2 harg2 arg3 harg3 arg4 harg4 arg5 harg5 v388 v566 v645 v650 v652 cst_369) := by
  unfold k0_part15
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_16 :
    Keeps defs c R (k0_part16 (F := F) i arg2 harg2 arg3 harg3 arg4 harg4 arg5 harg5) := by
  unfold k0_part16
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_17 (v193 v198 v200 v228 v231 v232 cst_110 : _) :
    Keeps defs c R (k0_part17 (F := F) i arg2 harg2 arg3 harg3 arg4 harg4 arg5 harg5 v193 v198 v200 v228 v231 v232 cst_110) := by
  unfold k0_part17
  exact keeps_pure _

/-- A stretch of the indexer body keeps what it holds. -/
theorem keeps_18 (v193 v198 v200 v282 : _) :
    Keeps defs c R (k0_part18 (F := F) i arg2 harg2 arg3 harg3 arg4 harg4 arg5 harg5 v193 v198 v200 v282) := by
  unfold k0_part18
  exact keeps_pure _

/-- A stretch of the indexer body keeps what it holds. -/
theorem keeps_19 (arg1 v193 v198 v200 v327 v330 v331 : _) :
    Keeps defs c R (k0_part19 (F := F) i arg2 harg2 arg3 harg3 arg4 harg4 arg5 harg5 arg1 v193 v198 v200 v327 v330 v331) := by
  unfold k0_part19
  exact keeps_pure _

/-- A stretch of the indexer body keeps what it holds. -/
theorem keeps_20 (k0_h3 v359 v361 v362 v375 c0_i32_145 : _) :
    Keeps defs c R (k0_part20 (F := F) i arg2 harg2 arg3 harg3 arg4 harg4 arg5 harg5 k0_h3 v359 v361 v362 v375 c0_i32_145) := by
  unfold k0_part20
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_21 (v388 v410 v411 : _) :
    Keeps defs c R (k0_part21 (F := F) i arg2 harg2 arg3 harg3 arg4 harg4 arg5 harg5 v388 v410 v411) := by
  unfold k0_part21
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_22 (v440 v441 : _) :
    Keeps defs c R (k0_part22 (F := F) i arg2 harg2 arg3 harg3 arg4 harg4 arg5 harg5 v440 v441) := by
  unfold k0_part22
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_23 (v463 v464 : _) :
    Keeps defs c R (k0_part23 (F := F) i arg2 harg2 arg3 harg3 arg4 harg4 arg5 harg5 v463 v464) := by
  unfold k0_part23
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_24 (v490 : _) :
    Keeps defs c R (k0_part24 (F := F) i arg2 harg2 arg3 harg3 arg4 harg4 arg5 harg5 v490) := by
  unfold k0_part24
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_25 (v512 v513 : _) :
    Keeps defs c R (k0_part25 (F := F) i arg2 harg2 arg3 harg3 arg4 harg4 arg5 harg5 v512 v513) := by
  unfold k0_part25
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_26 (v381 v383 cst_300 : _) :
    Keeps defs c R (k0_part26 (F := F) i arg2 harg2 arg3 harg3 arg4 harg4 arg5 harg5 v381 v383 cst_300) := by
  unfold k0_part26
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_27 (v361 v381 v388 v578 : _) :
    Keeps defs c R (k0_part27 (F := F) i arg2 harg2 arg3 harg3 arg4 harg4 arg5 harg5 v361 v381 v388 v578) := by
  unfold k0_part27
  exact keeps_pure _

/-- A stretch of the indexer body keeps what it holds. -/
theorem keeps_28 (v590 v592 v599 v606 v629 v631 cst_349 v632 : _) :
    Keeps defs c R (k0_part28 (F := F) i arg2 harg2 arg3 harg3 arg4 harg4 arg5 harg5 v590 v592 v599 v606 v629 v631 cst_349 v632) := by
  unfold k0_part28
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_29 (v388 v578 v629 v657 v662 v664 cst_373 : _) :
    Keeps defs c R (k0_part29 (F := F) i arg2 harg2 arg3 harg3 arg4 harg4 arg5 harg5 v388 v578 v629 v657 v662 v664 cst_373) := by
  unfold k0_part29
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_30 (v388 v578 v590 v592 v599 v606 v675 v696 : _) :
    Keeps defs c R (k0_part30 (F := F) i arg2 harg2 arg3 harg3 arg4 harg4 arg5 harg5 v388 v578 v590 v592 v599 v606 v675 v696) := by
  unfold k0_part30
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_31 :
    Keeps defs c R (k0_part31 (F := F) i arg2 harg2 arg3 harg3 arg4 harg4 arg5 harg5) := by
  unfold k0_part31
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_32 (v193 v198 v200 v228 v231 v232 cst_110 : _) :
    Keeps defs c R (k0_part32 (F := F) i arg2 harg2 arg3 harg3 arg4 harg4 arg5 harg5 v193 v198 v200 v228 v231 v232 cst_110) := by
  unfold k0_part32
  exact keeps_pure _

/-- A stretch of the indexer body keeps what it holds. -/
theorem keeps_33 (v193 v198 v200 v282 : _) :
    Keeps defs c R (k0_part33 (F := F) i arg2 harg2 arg3 harg3 arg4 harg4 arg5 harg5 v193 v198 v200 v282) := by
  unfold k0_part33
  exact keeps_pure _

/-- A stretch of the indexer body keeps what it holds. -/
theorem keeps_34 (arg1 v193 v198 v200 v327 v330 v331 : _) :
    Keeps defs c R (k0_part34 (F := F) i arg2 harg2 arg3 harg3 arg4 harg4 arg5 harg5 arg1 v193 v198 v200 v327 v330 v331) := by
  unfold k0_part34
  exact keeps_pure _

/-- A stretch of the indexer body keeps what it holds. -/
theorem keeps_35 (k0_h5 v359 v361 v362 v375 c0_i32_145 : _) :
    Keeps defs c R (k0_part35 (F := F) i arg2 harg2 arg3 harg3 arg4 harg4 arg5 harg5 k0_h5 v359 v361 v362 v375 c0_i32_145) := by
  unfold k0_part35
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_36 (v388 v410 v411 : _) :
    Keeps defs c R (k0_part36 (F := F) i arg2 harg2 arg3 harg3 arg4 harg4 arg5 harg5 v388 v410 v411) := by
  unfold k0_part36
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_37 (v388 v440 v441 : _) :
    Keeps defs c R (k0_part37 (F := F) i arg2 harg2 arg3 harg3 arg4 harg4 arg5 harg5 v388 v440 v441) := by
  unfold k0_part37
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

end Cert.Mask.Keep

end
-- ==== Proof.MaskKeepB.lean ====
module

public import proofs.«01_k».proof.Proof.MaskKeepA
public import proofs.«01_k».proof.Proof.Safe

@[expose] public section

set_option maxRecDepth 65536

noncomputable section

namespace Cert.Mask.Keep

open Idealize.ShloMosaic Idealize.ShloMosaic.TcCoe Idealize.SL.Sem Cert.Safe Cert.Mask.Gen

variable {F : FTy → Type} [BitOps F]

variable {defs : Defs nD τ sig (Elt F) Λ₀} {c : Dev nD} {R : Res nD τ sig (Elt F)} {i : grid0.Coords}
  {arg2 : Memref sig .tc .vmem S1x256x1024 .f32} {harg2 : arg2.IsWhole} {arg3 : Memref sig .tc .vmem S1x256x128 .f32} {harg3 : arg3.IsWhole}
  {arg4 : Memref sig .tc .vmem S1x2048x64 .bf16} {harg4 : arg4.IsWhole} {arg5 : Memref sig .tc .vmem S1x2x16x128x128 .bf16} {harg5 : arg5.IsWhole}
  (h : Held c R arg2 arg3 arg4 arg5)

include h

/-- A stretch of the indexer body keeps what it holds. -/
theorem keeps_38 (v470 v471 : _) :
    Keeps defs c R (k0_part38 (F := F) i arg2 harg2 arg3 harg3 arg4 harg4 arg5 harg5 v470 v471) := by
  unfold k0_part38
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_39 (v493 v494 : _) :
    Keeps defs c R (k0_part39 (F := F) i arg2 harg2 arg3 harg3 arg4 harg4 arg5 harg5 v493 v494) := by
  unfold k0_part39
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_40 (v520 : _) :
    Keeps defs c R (k0_part40 (F := F) i arg2 harg2 arg3 harg3 arg4 harg4 arg5 harg5 v520) := by
  unfold k0_part40
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_41 (v542 v543 : _) :
    Keeps defs c R (k0_part41 (F := F) i arg2 harg2 arg3 harg3 arg4 harg4 arg5 harg5 v542 v543) := by
  unfold k0_part41
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_42 (v361 v381 v388 v590 : _) :
    Keeps defs c R (k0_part42 (F := F) i arg2 harg2 arg3 harg3 arg4 harg4 arg5 harg5 v361 v381 v388 v590) := by
  unfold k0_part42
  exact keeps_pure _

/-- A stretch of the indexer body keeps what it holds. -/
theorem keeps_43 (v602 v604 v611 v618 v641 v643 cst_353 v644 : _) :
    Keeps defs c R (k0_part43 (F := F) i arg2 harg2 arg3 harg3 arg4 harg4 arg5 harg5 v602 v604 v611 v618 v641 v643 cst_353 v644) := by
  unfold k0_part43
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_44 (v388 v590 v641 v669 v674 v676 cst_377 : _) :
    Keeps defs c R (k0_part44 (F := F) i arg2 harg2 arg3 harg3 arg4 harg4 arg5 harg5 v388 v590 v641 v669 v674 v676 cst_377) := by
  unfold k0_part44
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_45 (v388 v590 v602 v604 v611 v618 v687 v708 : _) :
    Keeps defs c R (k0_part45 (F := F) i arg2 harg2 arg3 harg3 arg4 harg4 arg5 harg5 v388 v590 v602 v604 v611 v618 v687 v708) := by
  unfold k0_part45
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_46 (v388 v590 v602 v604 v611 v618 v733 v739 v745 : _) :
    Keeps defs c R (k0_part46 (F := F) i arg2 harg2 arg3 harg3 arg4 harg4 arg5 harg5 v388 v590 v602 v604 v611 v618 v733 v739 v745) := by
  unfold k0_part46
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_47 :
    Keeps defs c R (k0_part47 (F := F) i arg2 harg2 arg3 harg3 arg4 harg4 arg5 harg5) := by
  unfold k0_part47
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_48 (v193 v198 v200 v228 v231 v232 cst_110 : _) :
    Keeps defs c R (k0_part48 (F := F) i arg2 harg2 arg3 harg3 arg4 harg4 arg5 harg5 v193 v198 v200 v228 v231 v232 cst_110) := by
  unfold k0_part48
  exact keeps_pure _

/-- A stretch of the indexer body keeps what it holds. -/
theorem keeps_49 (v193 v198 v200 v282 : _) :
    Keeps defs c R (k0_part49 (F := F) i arg2 harg2 arg3 harg3 arg4 harg4 arg5 harg5 v193 v198 v200 v282) := by
  unfold k0_part49
  exact keeps_pure _

/-- A stretch of the indexer body keeps what it holds. -/
theorem keeps_50 (arg1 v193 v198 v200 v327 v330 v331 : _) :
    Keeps defs c R (k0_part50 (F := F) i arg2 harg2 arg3 harg3 arg4 harg4 arg5 harg5 arg1 v193 v198 v200 v327 v330 v331) := by
  unfold k0_part50
  exact keeps_pure _

/-- A stretch of the indexer body keeps what it holds. -/
theorem keeps_51 (k0_h7 v359 v361 v362 v375 c0_i32_145 : _) :
    Keeps defs c R (k0_part51 (F := F) i arg2 harg2 arg3 harg3 arg4 harg4 arg5 harg5 k0_h7 v359 v361 v362 v375 c0_i32_145) := by
  unfold k0_part51
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_52 (v388 v410 v411 : _) :
    Keeps defs c R (k0_part52 (F := F) i arg2 harg2 arg3 harg3 arg4 harg4 arg5 harg5 v388 v410 v411) := by
  unfold k0_part52
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_53 (v388 v440 v441 : _) :
    Keeps defs c R (k0_part53 (F := F) i arg2 harg2 arg3 harg3 arg4 harg4 arg5 harg5 v388 v440 v441) := by
  unfold k0_part53
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_54 (v388 v470 v471 : _) :
    Keeps defs c R (k0_part54 (F := F) i arg2 harg2 arg3 harg3 arg4 harg4 arg5 harg5 v388 v470 v471) := by
  unfold k0_part54
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_55 (v500 v501 : _) :
    Keeps defs c R (k0_part55 (F := F) i arg2 harg2 arg3 harg3 arg4 harg4 arg5 harg5 v500 v501) := by
  unfold k0_part55
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_56 (v523 v524 : _) :
    Keeps defs c R (k0_part56 (F := F) i arg2 harg2 arg3 harg3 arg4 harg4 arg5 harg5 v523 v524) := by
  unfold k0_part56
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_57 (v550 : _) :
    Keeps defs c R (k0_part57 (F := F) i arg2 harg2 arg3 harg3 arg4 harg4 arg5 harg5 v550) := by
  unfold k0_part57
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_58 (v361 v381 v388 v602 : _) :
    Keeps defs c R (k0_part58 (F := F) i arg2 harg2 arg3 harg3 arg4 harg4 arg5 harg5 v361 v381 v388 v602) := by
  unfold k0_part58
  exact keeps_pure _

/-- A stretch of the indexer body keeps what it holds. -/
theorem keeps_59 (v614 v616 v623 v630 v653 v655 cst_357 v656 : _) :
    Keeps defs c R (k0_part59 (F := F) i arg2 harg2 arg3 harg3 arg4 harg4 arg5 harg5 v614 v616 v623 v630 v653 v655 cst_357 v656) := by
  unfold k0_part59
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_60 (v388 v602 v653 v681 v686 v688 cst_381 : _) :
    Keeps defs c R (k0_part60 (F := F) i arg2 harg2 arg3 harg3 arg4 harg4 arg5 harg5 v388 v602 v653 v681 v686 v688 cst_381) := by
  unfold k0_part60
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_61 (v388 v602 v614 v616 v623 v630 v699 v720 : _) :
    Keeps defs c R (k0_part61 (F := F) i arg2 harg2 arg3 harg3 arg4 harg4 arg5 harg5 v388 v602 v614 v616 v623 v630 v699 v720) := by
  unfold k0_part61
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_62 (v388 v602 v614 v616 v623 v630 v745 v751 v757 : _) :
    Keeps defs c R (k0_part62 (F := F) i arg2 harg2 arg3 harg3 arg4 harg4 arg5 harg5 v388 v602 v614 v616 v623 v630 v745 v751 v757) := by
  unfold k0_part62
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_63 (v614 v616 v623 v630 v791 v797 : _) :
    Keeps defs c R (k0_part63 (F := F) i arg2 harg2 arg3 harg3 arg4 harg4 arg5 harg5 v614 v616 v623 v630 v791 v797) := by
  unfold k0_part63
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_64 (v361 v381 v388 v602 : _) :
    Keeps defs c R (k0_part64 (F := F) i arg2 harg2 arg3 harg3 arg4 harg4 arg5 harg5 v361 v381 v388 v602) := by
  unfold k0_part64
  refine keeps_bind (keeps_58 h _ _ _ _) fun ⟨_, _, _, _, _, _, _, _⟩ => ?_
  refine keeps_bind (keeps_59 h _ _ _ _ _ _ _ _) fun ⟨_, _, _, _⟩ => ?_
  refine keeps_bind (keeps_60 h _ _ _ _ _ _ _) fun ⟨_, _⟩ => ?_
  refine keeps_bind (keeps_61 h _ _ _ _ _ _ _ _) fun ⟨_, _, _⟩ => ?_
  refine keeps_bind (keeps_62 h _ _ _ _ _ _ _ _ _) fun ⟨_, _⟩ => ?_
  refine keeps_bind (keeps_63 h _ _ _ _ _ _) fun ⟨_, _, _⟩ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_65 :
    Keeps defs c R (k0_part65 (F := F) i arg2 harg2 arg3 harg3 arg4 harg4 arg5 harg5) := by
  unfold k0_part65
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_66 (v193 v198 v200 v228 v231 v232 cst_110 : _) :
    Keeps defs c R (k0_part66 (F := F) i arg2 harg2 arg3 harg3 arg4 harg4 arg5 harg5 v193 v198 v200 v228 v231 v232 cst_110) := by
  unfold k0_part66
  exact keeps_pure _

/-- A stretch of the indexer body keeps what it holds. -/
theorem keeps_67 (v193 v198 v200 v282 : _) :
    Keeps defs c R (k0_part67 (F := F) i arg2 harg2 arg3 harg3 arg4 harg4 arg5 harg5 v193 v198 v200 v282) := by
  unfold k0_part67
  exact keeps_pure _

/-- A stretch of the indexer body keeps what it holds. -/
theorem keeps_68 (arg1 v193 v198 v200 v327 v330 v331 : _) :
    Keeps defs c R (k0_part68 (F := F) i arg2 harg2 arg3 harg3 arg4 harg4 arg5 harg5 arg1 v193 v198 v200 v327 v330 v331) := by
  unfold k0_part68
  exact keeps_pure _

/-- A stretch of the indexer body keeps what it holds. -/
theorem keeps_69 (k0_h9 v359 v361 v362 v375 c0_i32_145 : _) :
    Keeps defs c R (k0_part69 (F := F) i arg2 harg2 arg3 harg3 arg4 harg4 arg5 harg5 k0_h9 v359 v361 v362 v375 c0_i32_145) := by
  unfold k0_part69
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_70 (v388 v410 v411 : _) :
    Keeps defs c R (k0_part70 (F := F) i arg2 harg2 arg3 harg3 arg4 harg4 arg5 harg5 v388 v410 v411) := by
  unfold k0_part70
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_71 (v388 v440 v441 : _) :
    Keeps defs c R (k0_part71 (F := F) i arg2 harg2 arg3 harg3 arg4 harg4 arg5 harg5 v388 v440 v441) := by
  unfold k0_part71
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_72 (v388 v470 v471 : _) :
    Keeps defs c R (k0_part72 (F := F) i arg2 harg2 arg3 harg3 arg4 harg4 arg5 harg5 v388 v470 v471) := by
  unfold k0_part72
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_73 (v388 v500 v501 : _) :
    Keeps defs c R (k0_part73 (F := F) i arg2 harg2 arg3 harg3 arg4 harg4 arg5 harg5 v388 v500 v501) := by
  unfold k0_part73
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_74 (v530 v531 : _) :
    Keeps defs c R (k0_part74 (F := F) i arg2 harg2 arg3 harg3 arg4 harg4 arg5 harg5 v530 v531) := by
  unfold k0_part74
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

end Cert.Mask.Keep

end
-- ==== Proof.MaskKeepC.lean ====
module

public import proofs.«01_k».proof.Proof.MaskKeepB
public import proofs.«01_k».proof.Proof.Safe

@[expose] public section

set_option maxRecDepth 65536

noncomputable section

namespace Cert.Mask.Keep

open Idealize.ShloMosaic Idealize.ShloMosaic.TcCoe Idealize.SL.Sem Cert.Safe Cert.Mask.Gen

variable {F : FTy → Type} [BitOps F]

variable {defs : Defs nD τ sig (Elt F) Λ₀} {c : Dev nD} {R : Res nD τ sig (Elt F)} {i : grid0.Coords}
  {arg2 : Memref sig .tc .vmem S1x256x1024 .f32} {harg2 : arg2.IsWhole} {arg3 : Memref sig .tc .vmem S1x256x128 .f32} {harg3 : arg3.IsWhole}
  {arg4 : Memref sig .tc .vmem S1x2048x64 .bf16} {harg4 : arg4.IsWhole} {arg5 : Memref sig .tc .vmem S1x2x16x128x128 .bf16} {harg5 : arg5.IsWhole}
  (h : Held c R arg2 arg3 arg4 arg5)

include h

/-- A stretch of the indexer body keeps what it holds. -/
theorem keeps_75 (v553 v554 : _) :
    Keeps defs c R (k0_part75 (F := F) i arg2 harg2 arg3 harg3 arg4 harg4 arg5 harg5 v553 v554) := by
  unfold k0_part75
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_76 (v381 v383 v580 : _) :
    Keeps defs c R (k0_part76 (F := F) i arg2 harg2 arg3 harg3 arg4 harg4 arg5 harg5 v381 v383 v580) := by
  unfold k0_part76
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_77 (v361 v381 v388 v614 : _) :
    Keeps defs c R (k0_part77 (F := F) i arg2 harg2 arg3 harg3 arg4 harg4 arg5 harg5 v361 v381 v388 v614) := by
  unfold k0_part77
  exact keeps_pure _

/-- A stretch of the indexer body keeps what it holds. -/
theorem keeps_78 (v626 v628 v635 v642 v665 v667 cst_361 v668 : _) :
    Keeps defs c R (k0_part78 (F := F) i arg2 harg2 arg3 harg3 arg4 harg4 arg5 harg5 v626 v628 v635 v642 v665 v667 cst_361 v668) := by
  unfold k0_part78
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_79 (v388 v614 v665 v693 v698 v700 cst_385 : _) :
    Keeps defs c R (k0_part79 (F := F) i arg2 harg2 arg3 harg3 arg4 harg4 arg5 harg5 v388 v614 v665 v693 v698 v700 cst_385) := by
  unfold k0_part79
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_80 (v388 v614 v626 v628 v635 v642 v711 v732 : _) :
    Keeps defs c R (k0_part80 (F := F) i arg2 harg2 arg3 harg3 arg4 harg4 arg5 harg5 v388 v614 v626 v628 v635 v642 v711 v732) := by
  unfold k0_part80
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_81 (v388 v614 v626 v628 v635 v642 v757 v763 v769 : _) :
    Keeps defs c R (k0_part81 (F := F) i arg2 harg2 arg3 harg3 arg4 harg4 arg5 harg5 v388 v614 v626 v628 v635 v642 v757 v763 v769) := by
  unfold k0_part81
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_82 (v626 v628 v635 v642 v803 v809 : _) :
    Keeps defs c R (k0_part82 (F := F) i arg2 harg2 arg3 harg3 arg4 harg4 arg5 harg5 v626 v628 v635 v642 v803 v809) := by
  unfold k0_part82
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_83 (v388 v614 v803 v831 v836 v840 cst_473 : _) :
    Keeps defs c R (k0_part83 (F := F) i arg2 harg2 arg3 harg3 arg4 harg4 arg5 harg5 v388 v614 v803 v831 v836 v840 cst_473) := by
  unfold k0_part83
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_84 (v388 v614 v626 v628 v635 v642 v849 v873 : _) :
    Keeps defs c R (k0_part84 (F := F) i arg2 harg2 arg3 harg3 arg4 harg4 arg5 harg5 v388 v614 v626 v628 v635 v642 v849 v873) := by
  unfold k0_part84
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_85 :
    Keeps defs c R (k0_part85 (F := F) i arg2 harg2 arg3 harg3 arg4 harg4 arg5 harg5) := by
  unfold k0_part85
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_86 (v193 v198 v200 v228 v231 v232 cst_110 : _) :
    Keeps defs c R (k0_part86 (F := F) i arg2 harg2 arg3 harg3 arg4 harg4 arg5 harg5 v193 v198 v200 v228 v231 v232 cst_110) := by
  unfold k0_part86
  exact keeps_pure _

/-- A stretch of the indexer body keeps what it holds. -/
theorem keeps_87 (v193 v198 v200 v282 : _) :
    Keeps defs c R (k0_part87 (F := F) i arg2 harg2 arg3 harg3 arg4 harg4 arg5 harg5 v193 v198 v200 v282) := by
  unfold k0_part87
  exact keeps_pure _

/-- A stretch of the indexer body keeps what it holds. -/
theorem keeps_88 (arg1 v193 v198 v200 v327 v330 v331 : _) :
    Keeps defs c R (k0_part88 (F := F) i arg2 harg2 arg3 harg3 arg4 harg4 arg5 harg5 arg1 v193 v198 v200 v327 v330 v331) := by
  unfold k0_part88
  exact keeps_pure _

/-- A stretch of the indexer body keeps what it holds. -/
theorem keeps_89 (k0_h11 v359 v361 v362 v375 c0_i32_145 : _) :
    Keeps defs c R (k0_part89 (F := F) i arg2 harg2 arg3 harg3 arg4 harg4 arg5 harg5 k0_h11 v359 v361 v362 v375 c0_i32_145) := by
  unfold k0_part89
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_90 (v388 v410 v411 : _) :
    Keeps defs c R (k0_part90 (F := F) i arg2 harg2 arg3 harg3 arg4 harg4 arg5 harg5 v388 v410 v411) := by
  unfold k0_part90
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_91 (v388 v440 v441 : _) :
    Keeps defs c R (k0_part91 (F := F) i arg2 harg2 arg3 harg3 arg4 harg4 arg5 harg5 v388 v440 v441) := by
  unfold k0_part91
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_92 (v388 v470 v471 : _) :
    Keeps defs c R (k0_part92 (F := F) i arg2 harg2 arg3 harg3 arg4 harg4 arg5 harg5 v388 v470 v471) := by
  unfold k0_part92
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_93 (v388 v500 v501 : _) :
    Keeps defs c R (k0_part93 (F := F) i arg2 harg2 arg3 harg3 arg4 harg4 arg5 harg5 v388 v500 v501) := by
  unfold k0_part93
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_94 (v388 v530 v531 : _) :
    Keeps defs c R (k0_part94 (F := F) i arg2 harg2 arg3 harg3 arg4 harg4 arg5 harg5 v388 v530 v531) := by
  unfold k0_part94
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_95 (v560 v561 : _) :
    Keeps defs c R (k0_part95 (F := F) i arg2 harg2 arg3 harg3 arg4 harg4 arg5 harg5 v560 v561) := by
  unfold k0_part95
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_96 (v383 v583 v584 : _) :
    Keeps defs c R (k0_part96 (F := F) i arg2 harg2 arg3 harg3 arg4 harg4 arg5 harg5 v383 v583 v584) := by
  unfold k0_part96
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_97 (v361 v381 v388 v626 : _) :
    Keeps defs c R (k0_part97 (F := F) i arg2 harg2 arg3 harg3 arg4 harg4 arg5 harg5 v361 v381 v388 v626) := by
  unfold k0_part97
  exact keeps_pure _

/-- A stretch of the indexer body keeps what it holds. -/
theorem keeps_98 (v638 v640 v647 v654 v677 v679 cst_365 v680 : _) :
    Keeps defs c R (k0_part98 (F := F) i arg2 harg2 arg3 harg3 arg4 harg4 arg5 harg5 v638 v640 v647 v654 v677 v679 cst_365 v680) := by
  unfold k0_part98
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_99 (v388 v626 v677 v705 v710 v712 cst_389 : _) :
    Keeps defs c R (k0_part99 (F := F) i arg2 harg2 arg3 harg3 arg4 harg4 arg5 harg5 v388 v626 v677 v705 v710 v712 cst_389) := by
  unfold k0_part99
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_100 (v388 v626 v638 v640 v647 v654 v723 v744 : _) :
    Keeps defs c R (k0_part100 (F := F) i arg2 harg2 arg3 harg3 arg4 harg4 arg5 harg5 v388 v626 v638 v640 v647 v654 v723 v744) := by
  unfold k0_part100
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_101 (v388 v626 v638 v640 v647 v654 v769 v775 v781 : _) :
    Keeps defs c R (k0_part101 (F := F) i arg2 harg2 arg3 harg3 arg4 harg4 arg5 harg5 v388 v626 v638 v640 v647 v654 v769 v775 v781) := by
  unfold k0_part101
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_102 (v638 v640 v647 v654 v815 v821 : _) :
    Keeps defs c R (k0_part102 (F := F) i arg2 harg2 arg3 harg3 arg4 harg4 arg5 harg5 v638 v640 v647 v654 v815 v821) := by
  unfold k0_part102
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_103 (v388 v626 v815 v843 v848 v852 cst_477 : _) :
    Keeps defs c R (k0_part103 (F := F) i arg2 harg2 arg3 harg3 arg4 harg4 arg5 harg5 v388 v626 v815 v843 v848 v852 cst_477) := by
  unfold k0_part103
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_104 (v388 v626 v638 v640 v647 v654 v861 v885 : _) :
    Keeps defs c R (k0_part104 (F := F) i arg2 harg2 arg3 harg3 arg4 harg4 arg5 harg5 v388 v626 v638 v640 v647 v654 v861 v885) := by
  unfold k0_part104
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_105 (v388 v626 v638 v640 v647 v654 v907 v923 : _) :
    Keeps defs c R (k0_part105 (F := F) i arg2 harg2 arg3 harg3 arg4 harg4 arg5 harg5 v388 v626 v638 v640 v647 v654 v907 v923) := by
  unfold k0_part105
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_106 :
    Keeps defs c R (k0_part106 (F := F) i arg2 harg2 arg3 harg3 arg4 harg4 arg5 harg5) := by
  unfold k0_part106
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_107 (v193 v198 v200 v228 v231 v232 cst_110 : _) :
    Keeps defs c R (k0_part107 (F := F) i arg2 harg2 arg3 harg3 arg4 harg4 arg5 harg5 v193 v198 v200 v228 v231 v232 cst_110) := by
  unfold k0_part107
  exact keeps_pure _

/-- A stretch of the indexer body keeps what it holds. -/
theorem keeps_108 (v193 v198 v200 v282 : _) :
    Keeps defs c R (k0_part108 (F := F) i arg2 harg2 arg3 harg3 arg4 harg4 arg5 harg5 v193 v198 v200 v282) := by
  unfold k0_part108
  exact keeps_pure _

/-- A stretch of the indexer body keeps what it holds. -/
theorem keeps_109 (arg1 v193 v198 v200 v327 v330 v331 : _) :
    Keeps defs c R (k0_part109 (F := F) i arg2 harg2 arg3 harg3 arg4 harg4 arg5 harg5 arg1 v193 v198 v200 v327 v330 v331) := by
  unfold k0_part109
  exact keeps_pure _

/-- A stretch of the indexer body keeps what it holds. -/
theorem keeps_110 (k0_h13 v359 v361 v362 v375 c0_i32_145 : _) :
    Keeps defs c R (k0_part110 (F := F) i arg2 harg2 arg3 harg3 arg4 harg4 arg5 harg5 k0_h13 v359 v361 v362 v375 c0_i32_145) := by
  unfold k0_part110
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_111 (v388 v410 v411 : _) :
    Keeps defs c R (k0_part111 (F := F) i arg2 harg2 arg3 harg3 arg4 harg4 arg5 harg5 v388 v410 v411) := by
  unfold k0_part111
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

end Cert.Mask.Keep

end
-- ==== Proof.MaskKeepD.lean ====
module

public import proofs.«01_k».proof.Proof.MaskKeepC
public import proofs.«01_k».proof.Proof.Safe

@[expose] public section

set_option maxRecDepth 65536

noncomputable section

namespace Cert.Mask.Keep

open Idealize.ShloMosaic Idealize.ShloMosaic.TcCoe Idealize.SL.Sem Cert.Safe Cert.Mask.Gen

variable {F : FTy → Type} [BitOps F]

variable {defs : Defs nD τ sig (Elt F) Λ₀} {c : Dev nD} {R : Res nD τ sig (Elt F)} {i : grid0.Coords}
  {arg2 : Memref sig .tc .vmem S1x256x1024 .f32} {harg2 : arg2.IsWhole} {arg3 : Memref sig .tc .vmem S1x256x128 .f32} {harg3 : arg3.IsWhole}
  {arg4 : Memref sig .tc .vmem S1x2048x64 .bf16} {harg4 : arg4.IsWhole} {arg5 : Memref sig .tc .vmem S1x2x16x128x128 .bf16} {harg5 : arg5.IsWhole}
  (h : Held c R arg2 arg3 arg4 arg5)

include h

/-- A stretch of the indexer body keeps what it holds. -/
theorem keeps_112 (v388 v440 v441 : _) :
    Keeps defs c R (k0_part112 (F := F) i arg2 harg2 arg3 harg3 arg4 harg4 arg5 harg5 v388 v440 v441) := by
  unfold k0_part112
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_113 (v388 v470 v471 : _) :
    Keeps defs c R (k0_part113 (F := F) i arg2 harg2 arg3 harg3 arg4 harg4 arg5 harg5 v388 v470 v471) := by
  unfold k0_part113
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_114 (v388 v500 v501 : _) :
    Keeps defs c R (k0_part114 (F := F) i arg2 harg2 arg3 harg3 arg4 harg4 arg5 harg5 v388 v500 v501) := by
  unfold k0_part114
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_115 (v388 v530 v531 : _) :
    Keeps defs c R (k0_part115 (F := F) i arg2 harg2 arg3 harg3 arg4 harg4 arg5 harg5 v388 v530 v531) := by
  unfold k0_part115
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_116 (v388 v560 v561 : _) :
    Keeps defs c R (k0_part116 (F := F) i arg2 harg2 arg3 harg3 arg4 harg4 arg5 harg5 v388 v560 v561) := by
  unfold k0_part116
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_117 (v590 v591 : _) :
    Keeps defs c R (k0_part117 (F := F) i arg2 harg2 arg3 harg3 arg4 harg4 arg5 harg5 v590 v591) := by
  unfold k0_part117
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_118 (v361 v381 v388 v638 : _) :
    Keeps defs c R (k0_part118 (F := F) i arg2 harg2 arg3 harg3 arg4 harg4 arg5 harg5 v361 v381 v388 v638) := by
  unfold k0_part118
  exact keeps_pure _

/-- A stretch of the indexer body keeps what it holds. -/
theorem keeps_119 (v650 v652 v659 v666 v689 v691 cst_369 v692 : _) :
    Keeps defs c R (k0_part119 (F := F) i arg2 harg2 arg3 harg3 arg4 harg4 arg5 harg5 v650 v652 v659 v666 v689 v691 cst_369 v692) := by
  unfold k0_part119
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_120 (v388 v638 v689 v717 v722 v724 cst_393 : _) :
    Keeps defs c R (k0_part120 (F := F) i arg2 harg2 arg3 harg3 arg4 harg4 arg5 harg5 v388 v638 v689 v717 v722 v724 cst_393) := by
  unfold k0_part120
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_121 (v388 v638 v650 v652 v659 v666 v735 v756 : _) :
    Keeps defs c R (k0_part121 (F := F) i arg2 harg2 arg3 harg3 arg4 harg4 arg5 harg5 v388 v638 v650 v652 v659 v666 v735 v756) := by
  unfold k0_part121
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_122 (v388 v638 v650 v652 v659 v666 v781 v787 v793 : _) :
    Keeps defs c R (k0_part122 (F := F) i arg2 harg2 arg3 harg3 arg4 harg4 arg5 harg5 v388 v638 v650 v652 v659 v666 v781 v787 v793) := by
  unfold k0_part122
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_123 (v650 v652 v659 v666 v827 v833 : _) :
    Keeps defs c R (k0_part123 (F := F) i arg2 harg2 arg3 harg3 arg4 harg4 arg5 harg5 v650 v652 v659 v666 v827 v833) := by
  unfold k0_part123
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_124 (v388 v638 v827 v855 v860 v864 cst_481 : _) :
    Keeps defs c R (k0_part124 (F := F) i arg2 harg2 arg3 harg3 arg4 harg4 arg5 harg5 v388 v638 v827 v855 v860 v864 cst_481) := by
  unfold k0_part124
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  exact keeps_pure _

/-- A stretch of the indexer body keeps what it holds. -/
theorem keeps_125 (v388 v638 v650 v652 v659 v666 v873 v897 : _) :
    Keeps defs c R (k0_part125 (F := F) i arg2 harg2 arg3 harg3 arg4 harg4 arg5 harg5 v388 v638 v650 v652 v659 v666 v873 v897) := by
  unfold k0_part125
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_126 (v388 v638 v650 v652 v659 v666 v919 v935 : _) :
    Keeps defs c R (k0_part126 (F := F) i arg2 harg2 arg3 harg3 arg4 harg4 arg5 harg5 v388 v638 v650 v652 v659 v666 v919 v935) := by
  unfold k0_part126
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_127 (v388 v650 v652 v659 v666 v965 v971 v972 v973 : _) :
    Keeps defs c R (k0_part127 (F := F) i arg2 harg2 arg3 harg3 arg4 harg4 arg5 harg5 v388 v650 v652 v659 v666 v965 v971 v972 v973) := by
  unfold k0_part127
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_128 (v361 v381 v388 v638 : _) :
    Keeps defs c R (k0_part128 (F := F) i arg2 harg2 arg3 harg3 arg4 harg4 arg5 harg5 v361 v381 v388 v638) := by
  unfold k0_part128
  refine keeps_bind (keeps_118 h _ _ _ _) fun ⟨_, _, _, _, _, _, _, _⟩ => ?_
  refine keeps_bind (keeps_119 h _ _ _ _ _ _ _ _) fun ⟨_, _, _, _⟩ => ?_
  refine keeps_bind (keeps_120 h _ _ _ _ _ _ _) fun ⟨_, _⟩ => ?_
  refine keeps_bind (keeps_121 h _ _ _ _ _ _ _ _) fun ⟨_, _, _⟩ => ?_
  refine keeps_bind (keeps_122 h _ _ _ _ _ _ _ _ _) fun ⟨_, _⟩ => ?_
  refine keeps_bind (keeps_123 h _ _ _ _ _ _) fun ⟨_, _, _, _⟩ => ?_
  refine keeps_bind (keeps_124 h _ _ _ _ _ _ _) fun ⟨_, _⟩ => ?_
  refine keeps_bind (keeps_125 h _ _ _ _ _ _ _ _) fun ⟨_, _⟩ => ?_
  refine keeps_bind (keeps_126 h _ _ _ _ _ _ _ _) fun ⟨_, _, _, _⟩ => ?_
  refine keeps_bind (keeps_127 h _ _ _ _ _ _ _ _ _) fun ⟨_, _⟩ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_129 :
    Keeps defs c R (k0_part129 (F := F) i arg2 harg2 arg3 harg3 arg4 harg4 arg5 harg5) := by
  unfold k0_part129
  refine keeps_bind (keeps_load h.r2) fun _ => ?_
  refine keeps_bind (keeps_load h.r3) fun _ => ?_
  refine keeps_bind (keeps_load h.r4) fun _ => ?_
  exact keeps_pure _

/-- A stretch of the indexer body keeps what it holds. -/
theorem keeps_130 (v193 v198 v200 v228 v231 v232 cst_110 : _) :
    Keeps defs c R (k0_part130 (F := F) i arg2 harg2 arg3 harg3 arg4 harg4 arg5 harg5 v193 v198 v200 v228 v231 v232 cst_110) := by
  unfold k0_part130
  exact keeps_pure _

/-- A stretch of the indexer body keeps what it holds. -/
theorem keeps_131 (v193 v198 v200 v282 : _) :
    Keeps defs c R (k0_part131 (F := F) i arg2 harg2 arg3 harg3 arg4 harg4 arg5 harg5 v193 v198 v200 v282) := by
  unfold k0_part131
  exact keeps_pure _

/-- A stretch of the indexer body keeps what it holds. -/
theorem keeps_132 (arg1 v193 v198 v200 v327 v330 v331 : _) :
    Keeps defs c R (k0_part132 (F := F) i arg2 harg2 arg3 harg3 arg4 harg4 arg5 harg5 arg1 v193 v198 v200 v327 v330 v331) := by
  unfold k0_part132
  exact keeps_pure _

/-- A stretch of the indexer body keeps what it holds. -/
theorem keeps_133 (k0_h15 v359 v361 v362 v375 c0_i32_145 : _) :
    Keeps defs c R (k0_part133 (F := F) i arg2 harg2 arg3 harg3 arg4 harg4 arg5 harg5 k0_h15 v359 v361 v362 v375 c0_i32_145) := by
  unfold k0_part133
  refine keeps_bind (keeps_for _ _ _ _ fun _ _ => keeps_pure _) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_134 (v388 v410 v411 : _) :
    Keeps defs c R (k0_part134 (F := F) i arg2 harg2 arg3 harg3 arg4 harg4 arg5 harg5 v388 v410 v411) := by
  unfold k0_part134
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_135 (v388 v440 v441 : _) :
    Keeps defs c R (k0_part135 (F := F) i arg2 harg2 arg3 harg3 arg4 harg4 arg5 harg5 v388 v440 v441) := by
  unfold k0_part135
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_136 (v388 v470 v471 : _) :
    Keeps defs c R (k0_part136 (F := F) i arg2 harg2 arg3 harg3 arg4 harg4 arg5 harg5 v388 v470 v471) := by
  unfold k0_part136
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_137 (v388 v500 v501 : _) :
    Keeps defs c R (k0_part137 (F := F) i arg2 harg2 arg3 harg3 arg4 harg4 arg5 harg5 v388 v500 v501) := by
  unfold k0_part137
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_138 (v388 v530 v531 : _) :
    Keeps defs c R (k0_part138 (F := F) i arg2 harg2 arg3 harg3 arg4 harg4 arg5 harg5 v388 v530 v531) := by
  unfold k0_part138
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_139 (v388 v560 v561 : _) :
    Keeps defs c R (k0_part139 (F := F) i arg2 harg2 arg3 harg3 arg4 harg4 arg5 harg5 v388 v560 v561) := by
  unfold k0_part139
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_140 (v388 v590 v591 : _) :
    Keeps defs c R (k0_part140 (F := F) i arg2 harg2 arg3 harg3 arg4 harg4 arg5 harg5 v388 v590 v591) := by
  unfold k0_part140
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_141 (arg1 k0_h15 : _) :
    Keeps defs c R (k0_part141 (F := F) i arg2 harg2 arg3 harg3 arg4 harg4 arg5 harg5 arg1 k0_h15) := by
  unfold k0_part141
  refine keeps_bind (keeps_129 h) fun ⟨_, _, _, _, _, _, _⟩ => ?_
  refine keeps_bind (keeps_130 h _ _ _ _ _ _ _) fun _ => ?_
  refine keeps_bind (keeps_131 h _ _ _ _) fun ⟨_, _, _⟩ => ?_
  refine keeps_bind (keeps_132 h _ _ _ _ _ _ _) fun ⟨_, _, _, _, _⟩ => ?_
  refine keeps_bind (keeps_133 h _ _ _ _ _ _) fun ⟨_, _, _, _, _⟩ => ?_
  refine keeps_bind (keeps_134 h _ _ _) fun ⟨_, _⟩ => ?_
  refine keeps_bind (keeps_135 h _ _ _) fun ⟨_, _⟩ => ?_
  refine keeps_bind (keeps_136 h _ _ _) fun ⟨_, _⟩ => ?_
  refine keeps_bind (keeps_137 h _ _ _) fun ⟨_, _⟩ => ?_
  refine keeps_bind (keeps_138 h _ _ _) fun ⟨_, _⟩ => ?_
  refine keeps_bind (keeps_139 h _ _ _) fun ⟨_, _⟩ => ?_
  refine keeps_bind (keeps_140 h _ _ _) fun ⟨_, _⟩ => ?_
  refine keeps_bind (keeps_load h.w5.reads) fun _ => ?_
  refine keeps_bind (keeps_store h.w5) fun _ => ?_
  refine keeps_bind (keeps_load h.w5.reads) fun _ => ?_
  refine keeps_bind (keeps_store h.w5) fun _ => ?_
  exact keeps_pure _

/-- A stretch of the indexer body keeps what it holds. -/
theorem keeps_142 :
    Keeps defs c R (k0_part142 (F := F) i arg2 harg2 arg3 harg3 arg4 harg4 arg5 harg5) := by
  unfold k0_part142
  refine keeps_dite (fun _ => ?_) (fun _ => ?_)
  · refine keeps_bind (keeps_12 h _ _) fun ⟨_, _, _, _, _⟩ => ?_
    refine keeps_ite (fun _ => ?_) (fun _ => ?_)
    · refine keeps_bind (keeps_1 h _ _ _ _) fun ⟨_, _, _⟩ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      exact keeps_pure _
    · exact keeps_pure _
  · exact keeps_pure _

/-- A stretch of the indexer body keeps what it holds. -/
theorem keeps_143 (arg1 v27 c256_i32_14 v28 v33 v35 : _) :
    Keeps defs c R (k0_part143 (F := F) i arg2 harg2 arg3 harg3 arg4 harg4 arg5 harg5 arg1 v27 c256_i32_14 v28 v33 v35) := by
  unfold k0_part143
  refine keeps_dite (fun _ => ?_) (fun _ => ?_)
  · refine keeps_bind (keeps_16 h) fun ⟨_, _, _, _, _, _, _⟩ => ?_
    refine keeps_bind (keeps_17 h _ _ _ _ _ _ _) fun _ => ?_
    refine keeps_bind (keeps_18 h _ _ _ _) fun ⟨_, _, _⟩ => ?_
    refine keeps_bind (keeps_19 h _ _ _ _ _ _ _) fun ⟨_, _, _, _, _⟩ => ?_
    refine keeps_bind (keeps_20 h _ _ _ _ _ _) fun ⟨_, _, _, _, _⟩ => ?_
    refine keeps_bind (keeps_21 h _ _ _) fun ⟨_, _⟩ => ?_
    refine keeps_bind (keeps_22 h _ _) fun ⟨_, _⟩ => ?_
    refine keeps_bind (keeps_23 h _ _) fun _ => ?_
    refine keeps_bind (keeps_24 h _) fun ⟨_, _⟩ => ?_
    refine keeps_bind (keeps_25 h _ _) fun _ => ?_
    refine keeps_bind (keeps_26 h _ _ _) fun ⟨_, _, _⟩ => ?_
    refine keeps_ite (fun _ => ?_) (fun _ => ?_)
    · refine keeps_bind (keeps_13 h _ _ _ _) fun ⟨_, _, _, _, _, _, _, _⟩ => ?_
      refine keeps_bind (keeps_14 h _ _ _ _ _ _ _ _) fun ⟨_, _, _, _⟩ => ?_
      refine keeps_bind (keeps_15 h _ _ _ _ _ _) fun _ => ?_
      refine keeps_dite (fun _ => ?_) (fun _ => ?_)
      · refine keeps_bind (keeps_31 h) fun ⟨_, _, _, _, _, _, _⟩ => ?_
        refine keeps_bind (keeps_32 h _ _ _ _ _ _ _) fun _ => ?_
        refine keeps_bind (keeps_33 h _ _ _ _) fun ⟨_, _, _⟩ => ?_
        refine keeps_bind (keeps_34 h _ _ _ _ _ _ _) fun ⟨_, _, _, _, _⟩ => ?_
        refine keeps_bind (keeps_35 h _ _ _ _ _ _) fun ⟨_, _, _, _, _⟩ => ?_
        refine keeps_bind (keeps_36 h _ _ _) fun ⟨_, _⟩ => ?_
        refine keeps_bind (keeps_37 h _ _ _) fun ⟨_, _⟩ => ?_
        refine keeps_bind (keeps_38 h _ _) fun ⟨_, _⟩ => ?_
        refine keeps_bind (keeps_39 h _ _) fun _ => ?_
        refine keeps_bind (keeps_40 h _) fun ⟨_, _⟩ => ?_
        refine keeps_bind (keeps_41 h _ _) fun _ => ?_
        refine keeps_ite (fun _ => ?_) (fun _ => ?_)
        · refine keeps_bind (keeps_27 h _ _ _ _) fun ⟨_, _, _, _, _, _, _, _⟩ => ?_
          refine keeps_bind (keeps_28 h _ _ _ _ _ _ _ _) fun ⟨_, _, _, _⟩ => ?_
          refine keeps_bind (keeps_29 h _ _ _ _ _ _ _) fun ⟨_, _⟩ => ?_
          refine keeps_bind (keeps_30 h _ _ _ _ _ _ _ _) fun ⟨_, _⟩ => ?_
          refine keeps_bind (keeps_load h.w5.reads) fun _ => ?_
          refine keeps_bind (keeps_store h.w5) fun _ => ?_
          refine keeps_bind (keeps_load h.w5.reads) fun _ => ?_
          refine keeps_bind (keeps_store h.w5) fun _ => ?_
          exact keeps_pure _
        · exact keeps_pure _
      · exact keeps_pure _
    · refine keeps_dite (fun _ => ?_) (fun _ => ?_)
      · refine keeps_bind (keeps_31 h) fun ⟨_, _, _, _, _, _, _⟩ => ?_
        refine keeps_bind (keeps_32 h _ _ _ _ _ _ _) fun _ => ?_
        refine keeps_bind (keeps_33 h _ _ _ _) fun ⟨_, _, _⟩ => ?_
        refine keeps_bind (keeps_34 h _ _ _ _ _ _ _) fun ⟨_, _, _, _, _⟩ => ?_
        refine keeps_bind (keeps_35 h _ _ _ _ _ _) fun ⟨_, _, _, _, _⟩ => ?_
        refine keeps_bind (keeps_36 h _ _ _) fun ⟨_, _⟩ => ?_
        refine keeps_bind (keeps_37 h _ _ _) fun ⟨_, _⟩ => ?_
        refine keeps_bind (keeps_38 h _ _) fun ⟨_, _⟩ => ?_
        refine keeps_bind (keeps_39 h _ _) fun _ => ?_
        refine keeps_bind (keeps_40 h _) fun ⟨_, _⟩ => ?_
        refine keeps_bind (keeps_41 h _ _) fun _ => ?_
        refine keeps_ite (fun _ => ?_) (fun _ => ?_)
        · refine keeps_bind (keeps_27 h _ _ _ _) fun ⟨_, _, _, _, _, _, _, _⟩ => ?_
          refine keeps_bind (keeps_28 h _ _ _ _ _ _ _ _) fun ⟨_, _, _, _⟩ => ?_
          refine keeps_bind (keeps_29 h _ _ _ _ _ _ _) fun ⟨_, _⟩ => ?_
          refine keeps_bind (keeps_30 h _ _ _ _ _ _ _ _) fun ⟨_, _⟩ => ?_
          refine keeps_bind (keeps_load h.w5.reads) fun _ => ?_
          refine keeps_bind (keeps_store h.w5) fun _ => ?_
          refine keeps_bind (keeps_load h.w5.reads) fun _ => ?_
          refine keeps_bind (keeps_store h.w5) fun _ => ?_
          exact keeps_pure _
        · exact keeps_pure _
      · exact keeps_pure _
  · refine keeps_dite (fun _ => ?_) (fun _ => ?_)
    · refine keeps_bind (keeps_31 h) fun ⟨_, _, _, _, _, _, _⟩ => ?_
      refine keeps_bind (keeps_32 h _ _ _ _ _ _ _) fun _ => ?_
      refine keeps_bind (keeps_33 h _ _ _ _) fun ⟨_, _, _⟩ => ?_
      refine keeps_bind (keeps_34 h _ _ _ _ _ _ _) fun ⟨_, _, _, _, _⟩ => ?_
      refine keeps_bind (keeps_35 h _ _ _ _ _ _) fun ⟨_, _, _, _, _⟩ => ?_
      refine keeps_bind (keeps_36 h _ _ _) fun ⟨_, _⟩ => ?_
      refine keeps_bind (keeps_37 h _ _ _) fun ⟨_, _⟩ => ?_
      refine keeps_bind (keeps_38 h _ _) fun ⟨_, _⟩ => ?_
      refine keeps_bind (keeps_39 h _ _) fun _ => ?_
      refine keeps_bind (keeps_40 h _) fun ⟨_, _⟩ => ?_
      refine keeps_bind (keeps_41 h _ _) fun _ => ?_
      refine keeps_ite (fun _ => ?_) (fun _ => ?_)
      · refine keeps_bind (keeps_27 h _ _ _ _) fun ⟨_, _, _, _, _, _, _, _⟩ => ?_
        refine keeps_bind (keeps_28 h _ _ _ _ _ _ _ _) fun ⟨_, _, _, _⟩ => ?_
        refine keeps_bind (keeps_29 h _ _ _ _ _ _ _) fun ⟨_, _⟩ => ?_
        refine keeps_bind (keeps_30 h _ _ _ _ _ _ _ _) fun ⟨_, _⟩ => ?_
        refine keeps_bind (keeps_load h.w5.reads) fun _ => ?_
        refine keeps_bind (keeps_store h.w5) fun _ => ?_
        refine keeps_bind (keeps_load h.w5.reads) fun _ => ?_
        refine keeps_bind (keeps_store h.w5) fun _ => ?_
        exact keeps_pure _
      · exact keeps_pure _
    · exact keeps_pure _

/-- A stretch of the indexer body keeps what it holds. -/
theorem keeps_144 (arg1 v73 : _) :
    Keeps defs c R (k0_part144 (F := F) i arg2 harg2 arg3 harg3 arg4 harg4 arg5 harg5 arg1 v73) := by
  unfold k0_part144
  refine keeps_dite (fun _ => ?_) (fun _ => ?_)
  · refine keeps_bind (keeps_47 h) fun ⟨_, _, _, _, _, _, _⟩ => ?_
    refine keeps_bind (keeps_48 h _ _ _ _ _ _ _) fun _ => ?_
    refine keeps_bind (keeps_49 h _ _ _ _) fun ⟨_, _, _⟩ => ?_
    refine keeps_bind (keeps_50 h _ _ _ _ _ _ _) fun ⟨_, _, _, _, _⟩ => ?_
    refine keeps_bind (keeps_51 h _ _ _ _ _ _) fun ⟨_, _, _, _, _⟩ => ?_
    refine keeps_bind (keeps_52 h _ _ _) fun ⟨_, _⟩ => ?_
    refine keeps_bind (keeps_53 h _ _ _) fun ⟨_, _⟩ => ?_
    refine keeps_bind (keeps_54 h _ _ _) fun ⟨_, _⟩ => ?_
    refine keeps_bind (keeps_55 h _ _) fun ⟨_, _⟩ => ?_
    refine keeps_bind (keeps_56 h _ _) fun _ => ?_
    refine keeps_bind (keeps_57 h _) fun ⟨_, _⟩ => ?_
    refine keeps_bind (keeps_load h.w5.reads) fun _ => ?_
    refine keeps_bind (keeps_store h.w5) fun _ => ?_
    refine keeps_bind (keeps_load h.w5.reads) fun _ => ?_
    refine keeps_bind (keeps_store h.w5) fun _ => ?_
    refine keeps_ite (fun _ => ?_) (fun _ => ?_)
    · refine keeps_bind (keeps_42 h _ _ _ _) fun ⟨_, _, _, _, _, _, _, _⟩ => ?_
      refine keeps_bind (keeps_43 h _ _ _ _ _ _ _ _) fun ⟨_, _, _, _⟩ => ?_
      refine keeps_bind (keeps_44 h _ _ _ _ _ _ _) fun ⟨_, _⟩ => ?_
      refine keeps_bind (keeps_45 h _ _ _ _ _ _ _ _) fun ⟨_, _, _⟩ => ?_
      refine keeps_bind (keeps_46 h _ _ _ _ _ _ _ _ _) fun ⟨_, _, _⟩ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      exact keeps_pure _
    · exact keeps_pure _
  · exact keeps_pure _

/-- A stretch of the indexer body keeps what it holds. -/
theorem keeps_145 (arg1 v100 v111 v112 : _) :
    Keeps defs c R (k0_part145 (F := F) i arg2 harg2 arg3 harg3 arg4 harg4 arg5 harg5 arg1 v100 v111 v112) := by
  unfold k0_part145
  refine keeps_dite (fun _ => ?_) (fun _ => ?_)
  · refine keeps_bind (keeps_65 h) fun ⟨_, _, _, _, _, _, _⟩ => ?_
    refine keeps_bind (keeps_66 h _ _ _ _ _ _ _) fun _ => ?_
    refine keeps_bind (keeps_67 h _ _ _ _) fun ⟨_, _, _⟩ => ?_
    refine keeps_bind (keeps_68 h _ _ _ _ _ _ _) fun ⟨_, _, _, _, _⟩ => ?_
    refine keeps_bind (keeps_69 h _ _ _ _ _ _) fun ⟨_, _, _, _, _⟩ => ?_
    refine keeps_bind (keeps_70 h _ _ _) fun ⟨_, _⟩ => ?_
    refine keeps_bind (keeps_71 h _ _ _) fun ⟨_, _⟩ => ?_
    refine keeps_bind (keeps_72 h _ _ _) fun ⟨_, _⟩ => ?_
    refine keeps_bind (keeps_73 h _ _ _) fun ⟨_, _⟩ => ?_
    refine keeps_bind (keeps_74 h _ _) fun ⟨_, _⟩ => ?_
    refine keeps_bind (keeps_75 h _ _) fun _ => ?_
    refine keeps_bind (keeps_76 h _ _ _) fun ⟨_, _, _⟩ => ?_
    refine keeps_ite (fun _ => ?_) (fun _ => ?_)
    · refine keeps_bind (keeps_64 h _ _ _ _) fun ⟨_, _⟩ => ?_
      refine keeps_bind (keeps_store h.w5) fun _ => ?_
      refine keeps_dite (fun _ => ?_) (fun _ => ?_)
      · refine keeps_bind (keeps_85 h) fun ⟨_, _, _, _, _, _, _⟩ => ?_
        refine keeps_bind (keeps_86 h _ _ _ _ _ _ _) fun _ => ?_
        refine keeps_bind (keeps_87 h _ _ _ _) fun ⟨_, _, _⟩ => ?_
        refine keeps_bind (keeps_88 h _ _ _ _ _ _ _) fun ⟨_, _, _, _, _⟩ => ?_
        refine keeps_bind (keeps_89 h _ _ _ _ _ _) fun ⟨_, _, _, _, _⟩ => ?_
        refine keeps_bind (keeps_90 h _ _ _) fun ⟨_, _⟩ => ?_
        refine keeps_bind (keeps_91 h _ _ _) fun ⟨_, _⟩ => ?_
        refine keeps_bind (keeps_92 h _ _ _) fun ⟨_, _⟩ => ?_
        refine keeps_bind (keeps_93 h _ _ _) fun ⟨_, _⟩ => ?_
        refine keeps_bind (keeps_94 h _ _ _) fun ⟨_, _⟩ => ?_
        refine keeps_bind (keeps_95 h _ _) fun ⟨_, _⟩ => ?_
        refine keeps_bind (keeps_96 h _ _ _) fun ⟨_, _⟩ => ?_
        refine keeps_ite (fun _ => ?_) (fun _ => ?_)
        · refine keeps_bind (keeps_77 h _ _ _ _) fun ⟨_, _, _, _, _, _, _, _⟩ => ?_
          refine keeps_bind (keeps_78 h _ _ _ _ _ _ _ _) fun ⟨_, _, _, _⟩ => ?_
          refine keeps_bind (keeps_79 h _ _ _ _ _ _ _) fun ⟨_, _⟩ => ?_
          refine keeps_bind (keeps_80 h _ _ _ _ _ _ _ _) fun ⟨_, _, _⟩ => ?_
          refine keeps_bind (keeps_81 h _ _ _ _ _ _ _ _ _) fun ⟨_, _⟩ => ?_
          refine keeps_bind (keeps_82 h _ _ _ _ _ _) fun ⟨_, _, _, _⟩ => ?_
          refine keeps_bind (keeps_83 h _ _ _ _ _ _ _) fun ⟨_, _⟩ => ?_
          refine keeps_bind (keeps_84 h _ _ _ _ _ _ _ _) fun ⟨_, _⟩ => ?_
          refine keeps_bind (keeps_load h.w5.reads) fun _ => ?_
          refine keeps_bind (keeps_store h.w5) fun _ => ?_
          refine keeps_bind (keeps_load h.w5.reads) fun _ => ?_
          refine keeps_bind (keeps_store h.w5) fun _ => ?_
          exact keeps_pure _
        · exact keeps_pure _
      · exact keeps_pure _
    · refine keeps_dite (fun _ => ?_) (fun _ => ?_)
      · refine keeps_bind (keeps_85 h) fun ⟨_, _, _, _, _, _, _⟩ => ?_
        refine keeps_bind (keeps_86 h _ _ _ _ _ _ _) fun _ => ?_
        refine keeps_bind (keeps_87 h _ _ _ _) fun ⟨_, _, _⟩ => ?_
        refine keeps_bind (keeps_88 h _ _ _ _ _ _ _) fun ⟨_, _, _, _, _⟩ => ?_
        refine keeps_bind (keeps_89 h _ _ _ _ _ _) fun ⟨_, _, _, _, _⟩ => ?_
        refine keeps_bind (keeps_90 h _ _ _) fun ⟨_, _⟩ => ?_
        refine keeps_bind (keeps_91 h _ _ _) fun ⟨_, _⟩ => ?_
        refine keeps_bind (keeps_92 h _ _ _) fun ⟨_, _⟩ => ?_
        refine keeps_bind (keeps_93 h _ _ _) fun ⟨_, _⟩ => ?_
        refine keeps_bind (keeps_94 h _ _ _) fun ⟨_, _⟩ => ?_
        refine keeps_bind (keeps_95 h _ _) fun ⟨_, _⟩ => ?_
        refine keeps_bind (keeps_96 h _ _ _) fun ⟨_, _⟩ => ?_
        refine keeps_ite (fun _ => ?_) (fun _ => ?_)
        · refine keeps_bind (keeps_77 h _ _ _ _) fun ⟨_, _, _, _, _, _, _, _⟩ => ?_
          refine keeps_bind (keeps_78 h _ _ _ _ _ _ _ _) fun ⟨_, _, _, _⟩ => ?_
          refine keeps_bind (keeps_79 h _ _ _ _ _ _ _) fun ⟨_, _⟩ => ?_
          refine keeps_bind (keeps_80 h _ _ _ _ _ _ _ _) fun ⟨_, _, _⟩ => ?_
          refine keeps_bind (keeps_81 h _ _ _ _ _ _ _ _ _) fun ⟨_, _⟩ => ?_
          refine keeps_bind (keeps_82 h _ _ _ _ _ _) fun ⟨_, _, _, _⟩ => ?_
          refine keeps_bind (keeps_83 h _ _ _ _ _ _ _) fun ⟨_, _⟩ => ?_
          refine keeps_bind (keeps_84 h _ _ _ _ _ _ _ _) fun ⟨_, _⟩ => ?_
          refine keeps_bind (keeps_load h.w5.reads) fun _ => ?_
          refine keeps_bind (keeps_store h.w5) fun _ => ?_
          refine keeps_bind (keeps_load h.w5.reads) fun _ => ?_
          refine keeps_bind (keeps_store h.w5) fun _ => ?_
          exact keeps_pure _
        · exact keeps_pure _
      · exact keeps_pure _
  · refine keeps_dite (fun _ => ?_) (fun _ => ?_)
    · refine keeps_bind (keeps_85 h) fun ⟨_, _, _, _, _, _, _⟩ => ?_
      refine keeps_bind (keeps_86 h _ _ _ _ _ _ _) fun _ => ?_
      refine keeps_bind (keeps_87 h _ _ _ _) fun ⟨_, _, _⟩ => ?_
      refine keeps_bind (keeps_88 h _ _ _ _ _ _ _) fun ⟨_, _, _, _, _⟩ => ?_
      refine keeps_bind (keeps_89 h _ _ _ _ _ _) fun ⟨_, _, _, _, _⟩ => ?_
      refine keeps_bind (keeps_90 h _ _ _) fun ⟨_, _⟩ => ?_
      refine keeps_bind (keeps_91 h _ _ _) fun ⟨_, _⟩ => ?_
      refine keeps_bind (keeps_92 h _ _ _) fun ⟨_, _⟩ => ?_
      refine keeps_bind (keeps_93 h _ _ _) fun ⟨_, _⟩ => ?_
      refine keeps_bind (keeps_94 h _ _ _) fun ⟨_, _⟩ => ?_
      refine keeps_bind (keeps_95 h _ _) fun ⟨_, _⟩ => ?_
      refine keeps_bind (keeps_96 h _ _ _) fun ⟨_, _⟩ => ?_
      refine keeps_ite (fun _ => ?_) (fun _ => ?_)
      · refine keeps_bind (keeps_77 h _ _ _ _) fun ⟨_, _, _, _, _, _, _, _⟩ => ?_
        refine keeps_bind (keeps_78 h _ _ _ _ _ _ _ _) fun ⟨_, _, _, _⟩ => ?_
        refine keeps_bind (keeps_79 h _ _ _ _ _ _ _) fun ⟨_, _⟩ => ?_
        refine keeps_bind (keeps_80 h _ _ _ _ _ _ _ _) fun ⟨_, _, _⟩ => ?_
        refine keeps_bind (keeps_81 h _ _ _ _ _ _ _ _ _) fun ⟨_, _⟩ => ?_
        refine keeps_bind (keeps_82 h _ _ _ _ _ _) fun ⟨_, _, _, _⟩ => ?_
        refine keeps_bind (keeps_83 h _ _ _ _ _ _ _) fun ⟨_, _⟩ => ?_
        refine keeps_bind (keeps_84 h _ _ _ _ _ _ _ _) fun ⟨_, _⟩ => ?_
        refine keeps_bind (keeps_load h.w5.reads) fun _ => ?_
        refine keeps_bind (keeps_store h.w5) fun _ => ?_
        refine keeps_bind (keeps_load h.w5.reads) fun _ => ?_
        refine keeps_bind (keeps_store h.w5) fun _ => ?_
        exact keeps_pure _
      · exact keeps_pure _
    · exact keeps_pure _

/-- A stretch of the indexer body keeps what it holds. -/
theorem keeps_146 (arg1 v147 c256_i32_74 v148 : _) :
    Keeps defs c R (k0_part146 (F := F) i arg2 harg2 arg3 harg3 arg4 harg4 arg5 harg5 arg1 v147 c256_i32_74 v148) := by
  unfold k0_part146
  refine keeps_dite (fun _ => ?_) (fun _ => ?_)
  · refine keeps_bind (keeps_106 h) fun ⟨_, _, _, _, _, _, _⟩ => ?_
    refine keeps_bind (keeps_107 h _ _ _ _ _ _ _) fun _ => ?_
    refine keeps_bind (keeps_108 h _ _ _ _) fun ⟨_, _, _⟩ => ?_
    refine keeps_bind (keeps_109 h _ _ _ _ _ _ _) fun ⟨_, _, _, _, _⟩ => ?_
    refine keeps_bind (keeps_110 h _ _ _ _ _ _) fun ⟨_, _, _, _, _⟩ => ?_
    refine keeps_bind (keeps_111 h _ _ _) fun ⟨_, _⟩ => ?_
    refine keeps_bind (keeps_112 h _ _ _) fun ⟨_, _⟩ => ?_
    refine keeps_bind (keeps_113 h _ _ _) fun ⟨_, _⟩ => ?_
    refine keeps_bind (keeps_114 h _ _ _) fun ⟨_, _⟩ => ?_
    refine keeps_bind (keeps_115 h _ _ _) fun ⟨_, _⟩ => ?_
    refine keeps_bind (keeps_116 h _ _ _) fun ⟨_, _⟩ => ?_
    refine keeps_bind (keeps_117 h _ _) fun ⟨_, _⟩ => ?_
    refine keeps_bind (keeps_store h.w5) fun _ => ?_
    refine keeps_ite (fun _ => ?_) (fun _ => ?_)
    · refine keeps_bind (keeps_97 h _ _ _ _) fun ⟨_, _, _, _, _, _, _, _⟩ => ?_
      refine keeps_bind (keeps_98 h _ _ _ _ _ _ _ _) fun ⟨_, _, _, _⟩ => ?_
      refine keeps_bind (keeps_99 h _ _ _ _ _ _ _) fun ⟨_, _⟩ => ?_
      refine keeps_bind (keeps_100 h _ _ _ _ _ _ _ _) fun ⟨_, _, _⟩ => ?_
      refine keeps_bind (keeps_101 h _ _ _ _ _ _ _ _ _) fun ⟨_, _⟩ => ?_
      refine keeps_bind (keeps_102 h _ _ _ _ _ _) fun ⟨_, _, _, _⟩ => ?_
      refine keeps_bind (keeps_103 h _ _ _ _ _ _ _) fun ⟨_, _⟩ => ?_
      refine keeps_bind (keeps_104 h _ _ _ _ _ _ _ _) fun ⟨_, _⟩ => ?_
      refine keeps_bind (keeps_105 h _ _ _ _ _ _ _ _) fun ⟨_, _, _⟩ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      refine keeps_bind (keeps_load h.w5.reads) fun _ => ?_
      refine keeps_bind (keeps_store h.w5) fun _ => ?_
      exact keeps_pure _
    · exact keeps_pure _
  · exact keeps_pure _

/-- A stretch of the indexer body keeps what it holds. -/
theorem keeps_body :
    Keeps defs c R (cc0_indexer_mask (F := F) i arg2 harg2 arg3 harg3 arg4 harg4 arg5 harg5) := by
  unfold cc0_indexer_mask
  refine keeps_bind (keeps_142 h) fun ⟨_, _, _, _, _, _⟩ => ?_
  refine keeps_bind (keeps_143 h _ _ _ _ _ _) fun _ => ?_
  refine keeps_bind (keeps_144 h _ _) fun ⟨_, _, _⟩ => ?_
  refine keeps_bind (keeps_145 h _ _ _ _) fun ⟨_, _, _⟩ => ?_
  refine keeps_bind (keeps_146 h _ _ _ _) fun _ => ?_
  refine keeps_dite (fun _ => ?_) (fun _ => ?_)
  · refine keeps_bind (keeps_141 h _ _) fun ⟨_, _, _, _, _, _⟩ => ?_
    refine keeps_ite (fun _ => ?_) (fun _ => ?_)
    · refine keeps_bind (keeps_128 h _ _ _ _) fun _ => ?_
      refine keeps_bind (keeps_load h.w5.reads) fun _ => ?_
      refine keeps_bind (keeps_store h.w5) fun _ => ?_
      exact keeps_pure _
    · exact keeps_pure _
  · exact keeps_pure _

end Cert.Mask.Keep

end
-- ==== Proof.MaskFrame.lean ====
module

public import proofs.«01_k».proof.Proof.Gen.Mask.Frame
public import proofs.«01_k».proof.Proof.MaskKeepD

@[expose] public section

set_option maxRecDepth 16384

noncomputable section

namespace Cert.Mask.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose RDat)
open Cert.Safe Cert.Mask.Gen

variable {F : FTy → Type} [BitOps F]

variable (m : (ℓ : Loc nD τ sig) → Buf (Elt F) ℓ) (ρ : Dev nD → PrngReg)

/-- The pipeline's data on a core: the arrays as the region finds them, the input buffers left at their blocks, nothing said of
    the output buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed 3 t
  Φ _ := Pipeline.ΦA spec0 c
  q _ := fullShare
  owed _ := 0

/-- The output window is the forgotten one. -/
def forgets (w : Fin 4) : Bool := decide (w = 3)

/-- The arrays of the data are what the region finds. -/
theorem A_eq (c : Dev nD) (w : Fin cfg0.W) : (dats m 0 c).A w = V m c (Pipeline.arrRef spec0 w) := by
  dsimp only [dats]

/-- The input buffer 0 is left at its block. -/
theorem after_0 (c : Dev nD) (t : Fin cfg0.N) : (dats m 0 c).after 0 t = iblk m c 0 t := by dsimp only [dats]
/-- The input buffer 1 is left at its block. -/
theorem after_1 (c : Dev nD) (t : Fin cfg0.N) : (dats m 0 c).after 1 t = iblk m c 1 t := by dsimp only [dats]
/-- The input buffer 2 is left at its block. -/
theorem after_2 (c : Dev nD) (t : Fin cfg0.N) : (dats m 0 c).after 2 t = iblk m c 2 t := by dsimp only [dats]

/-- The body at a point: it keeps the input blocks, and the output block and the scratch at some contents. -/
theorem body_keeps (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ X, owns (c : Thread nD τ) (st0_3 t) fullShare X))
    ⊢ wp frame (wpE (Ix := Unit) (Name := ℕ) (U := UR sig nD τ) (Lvl := ℕ) (defs₀ (F := F)) Variants.none (c : Thread nD τ) none) Set.univ (bodyAt0 t)
      (fun _ => iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ (∃ X, owns (c : Thread nD τ) (st0_3 t) fullShare X))) := by
  unfold bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).owesAt () t.succ = (dats m 0 c).owesAt () t.castSucc from rfl, after_0 m c, after_1 m c, after_2 m c]
  rw [show (dats m 0 c).Φ t.succ = Pipeline.ΦA spec0 c from rfl, show (dats m 0 c).Φ t.castSucc = Pipeline.ΦA spec0 c from rfl]
  have hk := keeps_body (defs := defs₀ (F := F)) (c := c) (i := grid0.coords t) (harg2 := hstage0_0 ((cfg0.slots t 0).cast nbuf0_0))
    (harg3 := hstage0_1 ((cfg0.slots t 1).cast nbuf0_1)) (harg4 := hstage0_2 ((cfg0.slots t 2).cast nbuf0_2))
    (harg5 := hstage0_3 ((cfg0.slots t 3).cast nbuf0_3))
    (R := iprop(Pipeline.ΦA spec0 c ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ (∃ X, owns (c : Thread nD τ) (st0_3 t) fullShare X)))
    { r2 := reads_owns.left.right.right
      r3 := reads_owns.left.right.right.right
      r4 := reads_owns.left.right.right.right.right
      w5 := writes_some.right.right.right.right.right }
  unfold Keeps at hk
  iintro ⟨HΦ, Ho, ⟨%d0, H0⟩, ⟨%d1, H1⟩, ⟨%d2, H2⟩, H3⟩
  iapply hk
  isplitl [HΦ]; · iexact HΦ
  isplitl [Ho]; · iexact Ho
  isplitl [H0]; · iexact H0
  isplitl [H1]; · iexact H1
  isplitl [H2]; · iexact H2
  iexact H3

/-- The pipeline's row at a point is the body at that point. -/
theorem row_eq (t : Fin cfg0.N) :
    defs₀ (F := F) .tc cfg0.body (cfg0.bodyArgs t (cfg0.slots t)) = bodyAt0 t := by
  unfold defs₀; rw [Defs.onTc_tc]

/-- The body obligation of the pipeline, the output forgotten. -/
theorem obligation (c : Dev nD) : BodyObligationLoose (dats (F := F) m 0 c) (defs₀ (F := F)) Variants.none () Set.univ forgets := fun t => by
  rw [bigSep_W0, bigSep_W0, row_eq]
  exact triple_restated (body_keeps m c t) rfl .rfl fun _ => .rfl

/-- No two windows name one array, so each holds its array whole. -/
theorem share_full (c : Dev nD) (w : Fin cfg0.W) : (dats m 0 c).share w = fullShare := (dats m 0 c).share_full (fun _ => rfl) w

set_option backward.isDefEq.respectTransparency.types false in
/-- The run: it ends, the arrays that are only read and all buffers outside the region end unchanged, and no counter is left raised. -/
theorem run : θ_run defs (onTc (τ := τ) (main (F := F))) (s₀ m ρ)
    (fun r => RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => obligation m c) (hshare := share_full m)
    (howed := fun _ _ => rfl) (V := V m) (hmain := hmain m Variants.none) (hA := A_eq m) (hΦ := fun _ _ => rfl)

/-- An input array ends as the region found it. -/
theorem in_kept {r : PUnit × MemSt nD τ sig (Elt F)} (h : RDat.FramePost (cfgs 0) (fun c => (dats m 0 c).toRForget forgets) (V m) r) (c : Dev nD)
    (w : Fin cfg0.W) (hw : (cfg0.win w).isOut = false) :
    r.2.mem ((cfg0.spec w).arr.view.loc (c.tc : Thread nD τ)) = V m c (Pipeline.arrRef spec0 w) := by
  have h1 := (h c).1 w
  rw [RDat.ArrAt_in _ w hw] at h1
  exact h1.trans (A_eq m c w)

/-- The indexer call ends from every state with zero counters, leaves its arguments as they were and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(in_kept m h.1 c 0 rfl).trans (V_main_arg0 m c), (in_kept m h.1 c 1 rfl).trans (V_main_arg1 m c),
      (in_kept m h.1 c 2 rfl).trans (V_main_arg2 m c)⟩, h.2⟩) (run m ρ)

end Cert.Mask.Keep

end
-- ==== Proof.OutB.lean ====
module

public import proofs.«01_k».proof.Proof.Gen.OutBIdeal.Value
public import Idealize.ShloMosaic.Lib.Pipeline.ValueKit
public import proofs.«01_k».proof.Proof.Spec
public import proofs.«01_k».proof.Proof.Gen.OutBRefIdeal.Run

@[expose] public section

set_option maxRecDepth 16384

noncomputable section

open Idealize.ShloMosaic Idealize.ShloMosaic.TcCoe Idealize.SL.Sem
open Idealize.ShloMosaic.Pipeline (Dat)

namespace Cert.OutBIdeal.Value

open Cert.OutBIdeal Cert.OutBIdeal.Gen

variable (m : (ℓ : Loc nD τ sig) → Buf (Elt Ideal) ℓ)

/-- Where each window's block lies, at every grid point. -/
theorem idx : ∀ t : Fin cfg0.N, win0_0.index t = ![t.val, 0] ∧ win0_1.index t = ![0, 0]
    ∧ win0_2.index t = ![t.val, 0] ∧ win0_3.index t = ![0, 0] ∧ win0_4.index t = ![t.val, 0] :=
  (by decide +kernel : ∀ t : Fin grid0.N, _)

/-- The rows entering the product. -/
theorem entry_y (c : Dev nD) (r : Fin 32768) (k : Fin 4096) :
    V m c main_v1 (ix2 r k) = m ((c : Thread nD τ).loc main_arg0) (ix3 ⟨r.val / 2048, by omega⟩ ⟨r.val % 2048, by omega⟩ k) := by
  entry_read
  pointwise

/-- The matrix. -/
theorem entry_w (c : Dev nD) (k : Fin 4096) (n : Fin 2048) :
    V m c main_v2 (ix2 k n) = m ((c : Thread nD τ).loc main_arg1) (ix2 k n) := by
  entry_read
  pointwise

/-- The residual rows. -/
theorem entry_h (c : Dev nD) (r : Fin 32768) (n : Fin 2048) :
    V m c main_v0 (ix2 r n) = m ((c : Thread nD τ).loc main_arg2) (ix3 ⟨r.val / 2048, by omega⟩ ⟨r.val % 2048, by omega⟩ n) := by
  entry_read
  pointwise

/-- The scales of the norm. -/
theorem entry_g (c : Dev nD) (n : Fin 2048) :
    V m c main_v3 (ix2 0 n) = m ((c : Thread nD τ).loc main_arg3) (ix1 n) := by
  entry_read
  pointwise

/-- The block of rows at a point. -/
theorem block_y (c : Dev nD) (t : Fin cfg0.N) (p : Fin 512) (k : Fin 4096) (r : Fin 32768)
    (hr : r.val = t.val * 512 + p.val) : iblk m c 0 t (ix2 p k) = V m c main_v1 (ix2 r k) := by
  blk_ext [iblk, idx t]

/-- The matrix is staged whole. -/
theorem block_w (c : Dev nD) (t : Fin cfg0.N) (k : Fin 4096) (n : Fin 2048) :
    iblk m c 1 t (ix2 k n) = V m c main_v2 (ix2 k n) := by
  blk_ext [iblk, idx t]

/-- The residual block at a point. -/
theorem block_h (c : Dev nD) (t : Fin cfg0.N) (p : Fin 512) (n : Fin 2048) (r : Fin 32768)
    (hr : r.val = t.val * 512 + p.val) : iblk m c 2 t (ix2 p n) = V m c main_v0 (ix2 r n) := by
  blk_ext [iblk, idx t]

/-- The scales are staged whole. -/
theorem block_g (c : Dev nD) (t : Fin cfg0.N) (n : Fin 2048) :
    iblk m c 3 t (ix2 0 n) = V m c main_v3 (ix2 0 n) := by
  blk_ext [iblk, idx t]

/-- A row of the last layer before the norm: the residual and the projection. -/
def row (Y : FVec Ideal S16x2048x4096 .bf16) (W : FVec Ideal S4096x2048 .f32) (H : FVec Ideal S16x2048x2048 .f32)
    (r : Fin 32768) (j : Fin 2048) : EReal :=
  (∑ k : Fin 4096, Y (ix3 ⟨r.val / 2048, by omega⟩ ⟨r.val % 2048, by omega⟩ k) * W (ix2 k j))
    + H (ix3 ⟨r.val / 2048, by omega⟩ ⟨r.val % 2048, by omega⟩ j)

/-- The model's result, entry by entry: the normalised row. -/
def spec (Y : FVec Ideal S16x2048x4096 .bf16) (W : FVec Ideal S4096x2048 .f32) (H : FVec Ideal S16x2048x2048 .f32)
    (G : FVec Ideal S2048 .f32) (r : Fin 32768) (j : Fin 2048) : EReal :=
  Spec.normRow 0x45000000#32 (fun k => row Y W H r k) (fun k => G (ix1 k)) j

/-- What the body stores, in terms of the four blocks. -/
theorem payload (y : Vec Ideal S512x4096 .bf16) (w : Vec Ideal S4096x2048 .bf16) (h : Vec Ideal S512x2048 .f32)
    (g : Vec Ideal S1x2048 .f32) (p : Fin 512) (q : Fin 2048) :
    k0_pay1 y w h g (ix2 p q) = Spec.normRow 0x45000000#32
      (fun n => (∑ k : Fin 4096, y (ix2 p k) * w (ix2 k n)) + h (ix2 p n)) (fun n => g (ix2 0 n)) q := by
  pointwise [k0_pay1, Spec.normRow]

/-- What the body stores at a point is the specification at the place of the block. -/
theorem point (c : Dev nD) (t : Fin cfg0.N) (p : Fin 512) (q : Fin 2048) (r : Fin 32768) (j : Fin 2048)
    (hr : r.val = t.val * 512 + p.val) (hj : j.val = q.val) :
    k0_pay1 (iblk m c 0 t) (iblk m c 1 t) (iblk m c 2 t) (iblk m c 3 t) (ix2 p q)
      = spec (m ((c : Thread nD τ).loc main_arg0)) (m ((c : Thread nD τ).loc main_arg1))
          (m ((c : Thread nD τ).loc main_arg2)) (m ((c : Thread nD τ).loc main_arg3)) r j := by
  obtain rfl : j = q := Fin.ext hj
  refine (payload _ _ _ _ p j).trans ?_
  have hy := fun k => (block_y m c t p k r hr).trans (entry_y m c r k)
  have hw := fun k n => (block_w m c t k n).trans (entry_w m c k n)
  have hh := fun n => (block_h m c t p n r hr).trans (entry_h m c r n)
  have hg := fun n => (block_g m c t n).trans (entry_g m c n)
  unfold spec row
  simp only [hy, hw, hh, hg]

/-- The array that the pallas_call leaves is the specification. -/
theorem final4 (c : Dev nD) : (dats m 0 c).arrAt 4 (cfgs 0).N = fun i =>
    spec (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  frame_out
  obtain ⟨p, q, rfl⟩ : ∃ (p : Fin 512) (q : Fin 2048), y = ix2 p q := ⟨y 0, y 1, eq_ix2 y⟩
  refine point m c t p q _ _ ?_ ?_
  · blk_simp [idx t]
  · blk_simp [idx t]

/-- The kernel's run with the result at the specification. -/
theorem run_spec (ρ : Dev nD → PrngReg) :
    θ_run defs (onTc (τ := τ) (main (F := Ideal))) ⟨m, fun _ => 0, ρ⟩ fun r => ∀ c : Dev nD,
      r.2.mem ((c : Thread nD τ).loc main_v4) = (fun i => spec (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.OutBIdeal.Value

namespace Cert.OutBRefIdeal.Value

open Cert.OutBRefIdeal Cert.OutBRefIdeal.Gen

variable (m : (ℓ : Loc nD τ sig) → Buf (Elt Ideal) ℓ) (ρ : Dev nD → PrngReg)

/-- A row of the reference before the norm. -/
theorem row_read (Y : FVec Ideal S16x2048x4096 .bf16) (W : FVec Ideal S4096x2048 .f32) (H : FVec Ideal S16x2048x2048 .f32)
    (r : Fin 32768) (j : Fin 2048) :
    (addf H (Host.dotGeneral dot_S16x2048x4096_S4096x2048_S16x2048x2048_2_0_01_1_n_n none (extf .f32 Y bitsLt_bf16_f32) W)
      : FVec Ideal S16x2048x2048 .f32) (ix3 ⟨r.val / 2048, by omega⟩ ⟨r.val % 2048, by omega⟩ j)
      = Cert.OutBIdeal.Value.row Y W H r j := by
  refine Eq.trans ?_ (add_comm _ _)
  pointwise

/-- The reference's norm, entry by entry. -/
theorem norm_read (X : FVec Ideal S16x2048x2048 .f32) (G : FVec Ideal S2048 .f32) (r : Fin 32768) (j : Fin 2048) :
    shapeCast S32768x2048 (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 G))) shapeCasts_S16x2048x2048_S32768x2048 (ix2 r j)
      = Spec.normRow 0x45000000#32 (fun k => X (ix3 ⟨r.val / 2048, by omega⟩ ⟨r.val % 2048, by omega⟩ k)) (fun k => G (ix1 k)) j := by
  pointwise [Spec.normRow]

/-- The reference leaves the specification. -/
theorem run_spec : θ_run defs (onTc (τ := τ) (main (F := Ideal))) ⟨m, fun _ => 0, ρ⟩ fun r => ∀ c : Dev nD,
      r.2.mem ((c : Thread nD τ).loc main_v16) = (fun i => Cert.OutBIdeal.Value.spec (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (run (F := Ideal) m ρ)
  funext i
  idx_vars i
  refine (norm_read _ _ _ _).trans ?_
  simp only [row_read]
  rfl

end Cert.OutBRefIdeal.Value

end
-- ==== Proof.OutA.lean ====
module

public import proofs.«01_k».proof.Proof.Gen.OutAIdeal.Value
public import Idealize.ShloMosaic.Lib.Pipeline.ValueKit
public import proofs.«01_k».proof.Proof.Spec
public import proofs.«01_k».proof.Proof.Gen.OutARefIdeal.Run

@[expose] public section

set_option maxRecDepth 16384

noncomputable section

open Idealize.ShloMosaic Idealize.ShloMosaic.TcCoe Idealize.SL.Sem
open Idealize.ShloMosaic.Pipeline (Dat)

namespace Cert.OutAIdeal.Value

open Cert.OutAIdeal Cert.OutAIdeal.Gen

variable (m : (ℓ : Loc nD τ sig) → Buf (Elt Ideal) ℓ)

/-- Where each window's block lies, at every grid point. -/
theorem idx : ∀ t : Fin cfg0.N, win0_0.index t = ![t.val % 32, 0] ∧ win0_1.index t = ![0, t.val / 32]
    ∧ win0_2.index t = ![t.val % 32, t.val / 32] ∧ win0_3.index t = ![t.val % 32, t.val / 32] :=
  (by decide +kernel : ∀ t : Fin grid0.N, _)

/-- The rows entering the product. -/
theorem entry_y (c : Dev nD) (r : Fin 32768) (k : Fin 4096) :
    V m c main_v1 (ix2 r k) = m ((c : Thread nD τ).loc main_arg0) (ix3 ⟨r.val / 2048, by omega⟩ ⟨r.val % 2048, by omega⟩ k) := by
  entry_read
  pointwise

/-- The matrix. -/
theorem entry_w (c : Dev nD) (k : Fin 4096) (n : Fin 2048) :
    V m c main_v2 (ix2 k n) = m ((c : Thread nD τ).loc main_arg1) (ix2 k n) := by
  entry_read
  pointwise

/-- The residual rows. -/
theorem entry_h (c : Dev nD) (r : Fin 32768) (n : Fin 2048) :
    V m c main_v0 (ix2 r n) = m ((c : Thread nD τ).loc main_arg2) (ix3 ⟨r.val / 2048, by omega⟩ ⟨r.val % 2048, by omega⟩ n) := by
  entry_read
  pointwise

/-- The block of rows at a point. -/
theorem block_y (c : Dev nD) (t : Fin cfg0.N) (p : Fin 1024) (k : Fin 4096) (r : Fin 32768)
    (hr : r.val = t.val % 32 * 1024 + p.val) : iblk m c 0 t (ix2 p k) = V m c main_v1 (ix2 r k) := by
  blk_ext [iblk, idx t]

/-- The block of columns at a point. -/
theorem block_w (c : Dev nD) (t : Fin cfg0.N) (k : Fin 4096) (q : Fin 1024) (n : Fin 2048)
    (hn : n.val = t.val / 32 * 1024 + q.val) : iblk m c 1 t (ix2 k q) = V m c main_v2 (ix2 k n) := by
  blk_ext [iblk, idx t]

/-- The residual block at a point. -/
theorem block_h (c : Dev nD) (t : Fin cfg0.N) (p : Fin 1024) (q : Fin 1024) (r : Fin 32768) (n : Fin 2048)
    (hr : r.val = t.val % 32 * 1024 + p.val) (hn : n.val = t.val / 32 * 1024 + q.val) :
    iblk m c 2 t (ix2 p q) = V m c main_v0 (ix2 r n) := by
  blk_ext [iblk, idx t]

/-- The output projection with its residual, entry by entry. -/
def spec (Y : FVec Ideal S16x2048x4096 .bf16) (W : FVec Ideal S4096x2048 .f32) (H : FVec Ideal S16x2048x2048 .f32)
    (r : Fin 32768) (j : Fin 2048) : EReal :=
  H (ix3 ⟨r.val / 2048, by omega⟩ ⟨r.val % 2048, by omega⟩ j)
    + ∑ k : Fin 4096, Y (ix3 ⟨r.val / 2048, by omega⟩ ⟨r.val % 2048, by omega⟩ k) * W (ix2 k j)

/-- What the body stores, in terms of the three blocks. -/
theorem payload (y : Vec Ideal S1024x4096 .bf16) (w : Vec Ideal S4096x1024 .bf16) (h : Vec Ideal S1024x1024 .f32)
    (p : Fin 1024) (q : Fin 1024) :
    k0_pay1 y w h (ix2 p q) = (∑ k : Fin 4096, y (ix2 p k) * w (ix2 k q)) + h (ix2 p q) := by
  pointwise [k0_pay1]

/-- What the body stores at a point is the specification at the place of the block. -/
theorem point (c : Dev nD) (t : Fin cfg0.N) (p : Fin 1024) (q : Fin 1024) (r : Fin 32768) (j : Fin 2048)
    (hr : r.val = t.val % 32 * 1024 + p.val) (hj : j.val = t.val / 32 * 1024 + q.val) :
    k0_pay1 (iblk m c 0 t) (iblk m c 1 t) (iblk m c 2 t) (ix2 p q)
      = spec (m ((c : Thread nD τ).loc main_arg0)) (m ((c : Thread nD τ).loc main_arg1))
          (m ((c : Thread nD τ).loc main_arg2)) r j := by
  refine (payload _ _ _ p q).trans ?_
  have hy := fun k => (block_y m c t p k r hr).trans (entry_y m c r k)
  have hw := fun k => (block_w m c t k q j hj).trans (entry_w m c k j)
  have hh := (block_h m c t p q r j hr hj).trans (entry_h m c r j)
  unfold spec
  simp only [hy, hw, hh]
  exact add_comm _ _

/-- The array that the pallas_call leaves is the specification. -/
theorem final3 (c : Dev nD) : (dats m 0 c).arrAt 3 (cfgs 0).N = fun i =>
    spec (m ((c : Thread nD τ).loc main_arg0)) (m ((c : Thread nD τ).loc main_arg1))
      (m ((c : Thread nD τ).loc main_arg2)) (i 0) (i 1) := by
  refine (dats m 0 c).arrAt_eq_of_covers 3 _ (by decide +kernel) fun t hf y => ?_
  blk_simp
  rw [after0_3]
  frame_out
  obtain ⟨p, q, rfl⟩ : ∃ (p : Fin 1024) (q : Fin 1024), y = ix2 p q := ⟨y 0, y 1, eq_ix2 y⟩
  refine point m c t p q _ _ ?_ ?_
  · blk_simp [idx t]
  · blk_simp [idx t]

/-- The kernel's run with the result at the specification. -/
theorem run_spec (ρ : Dev nD → PrngReg) :
    θ_run defs (onTc (τ := τ) (main (F := Ideal))) ⟨m, fun _ => 0, ρ⟩ fun r => ∀ c : Dev nD,
      r.2.mem ((c : Thread nD τ).loc main_v3) = (fun i => spec (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.OutAIdeal.Value

namespace Cert.OutARefIdeal.Value

open Cert.OutARefIdeal Cert.OutARefIdeal.Gen

variable (m : (ℓ : Loc nD τ sig) → Buf (Elt Ideal) ℓ) (ρ : Dev nD → PrngReg)

/-- The reference's term, entry by entry. -/
theorem read (Y : FVec Ideal S16x2048x4096 .bf16) (W : FVec Ideal S4096x2048 .f32) (H : FVec Ideal S16x2048x2048 .f32) :
    shapeCast S32768x2048 (addf H (Host.dotGeneral dot_S16x2048x4096_S4096x2048_S16x2048x2048_2_0_01_1_n_n none
      (extf .f32 Y bitsLt_bf16_f32) W)) shapeCasts_S16x2048x2048_S32768x2048
      = fun i => Cert.OutAIdeal.Value.spec Y W H (i 0) (i 1) := by
  funext i
  idx_vars i
  pointwise [Cert.OutAIdeal.Value.spec]

/-- The reference leaves the specification. -/
theorem run_spec : θ_run defs (onTc (τ := τ) (main (F := Ideal))) ⟨m, fun _ => 0, ρ⟩ fun r => ∀ c : Dev nD,
      r.2.mem ((c : Thread nD τ).loc main_v3) = (fun i => Cert.OutAIdeal.Value.spec (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (run (F := Ideal) m ρ)
  exact read _ _ _

end Cert.OutARefIdeal.Value

end
-- ==== Proof.Idx.lean ====
module

public import proofs.«01_k».proof.Proof.Gen.IdxIdeal.Value
public import Idealize.ShloMosaic.Lib.Pipeline.ValueKit
public import proofs.«01_k».proof.Proof.Spec
public import proofs.«01_k».proof.Proof.Gen.IdxRefIdeal.Run

@[expose] public section

set_option maxRecDepth 16384

noncomputable section

open Idealize.ShloMosaic Idealize.ShloMosaic.TcCoe Idealize.SL.Sem
open Idealize.ShloMosaic.Pipeline (Dat)

namespace Cert.IdxIdeal.Value

open Cert.IdxIdeal Cert.IdxIdeal.Gen

variable (m : (ℓ : Loc nD τ sig) → Buf (Elt Ideal) ℓ)

/-- Where each window's block lies, at every grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The rows entering the projection. -/
theorem entry_x (c : Dev nD) (r : Fin 32768) (k : Fin 2048) :
    V m c main_v0 (ix2 r k) = m ((c : Thread nD τ).loc main_arg0) (ix3 ⟨r.val / 2048, by omega⟩ ⟨r.val % 2048, by omega⟩ k) := by
  entry_read
  pointwise

/-- The scales of the first norm. -/
theorem entry_g (c : Dev nD) (k : Fin 2048) :
    V m c main_v8 (ix2 0 k) = m ((c : Thread nD τ).loc main_arg1) (ix1 k) := by
  entry_read
  pointwise

/-- The scales of the latent's norm. -/
theorem entry_kv (c : Dev nD) (k : Fin 256) :
    V m c main_v9 (ix2 0 k) = m ((c : Thread nD τ).loc main_arg3) (ix1 k) := by
  entry_read
  pointwise

/-- The scales of the index key's norm. -/
theorem entry_ki (c : Dev nD) (k : Fin 64) :
    V m c main_v10 (ix2 0 k) = m ((c : Thread nD τ).loc main_arg4) (ix1 k) := by
  entry_read
  pointwise

/-- Row `n` of the gathered matrix is a column of the joint input projection, or zero at the padding. -/
def wcol (W : FVec Ideal S2048x9552 .f32) (n : Fin 1408) (k : Fin 2048) : EReal :=
  if h : n.val < 1024 then W (ix2 k ⟨4352 + n.val, by omega⟩)
  else if h : n.val - 1024 < 256 then W (ix2 k ⟨4096 + (n.val - 1024), by omega⟩)
  else if h : n.val - 1024 - 256 < 80 then W (ix2 k ⟨5376 + (n.val - 1024 - 256), by omega⟩)
  else 0

/-- The gathered matrix as the host makes it. -/
def gathered (W : FVec Ideal S2048x9552 .f32) : FVec Ideal S1408x2048 .bf16 :=
  let T : FVec Ideal S9552x2048 .bf16 := truncf .bf16 (transpose S9552x2048 [1, 0] W transposes_S2048x9552_S9552x2048_1_0) bitsLt_bf16_f32
  concatenate S1408x2048 0 [⟨S1024x2048, extractStridedSlice S1024x2048 ![4352, 0] T slices_S9552x2048_S1024x2048_4352_0⟩,
    ⟨S256x2048, extractStridedSlice S256x2048 ![4096, 0] T slices_S9552x2048_S256x2048_4096_0⟩,
    ⟨S80x2048, extractStridedSlice S80x2048 ![5376, 0] T slices_S9552x2048_S80x2048_5376_0⟩,
    ⟨S48x2048, broadcastInDim S48x2048 ![] bcast_S_S48x2048 (constant (F := Ideal) S_ .bf16 0x0000#16)⟩] concatenates_S1024x2048_S256x2048_S80x2048_S48x2048_S1408x2048_d0

/-- The gathered matrix at the region. -/
theorem V_w (c : Dev nD) : V m c main_v7 = gathered (m ((c : Thread nD τ).loc main_arg2)) := by
  unfold V
  after_results_simp <;> (try dsimp only [Matrix.cons_val]) <;> (try after_results_simp) <;> rfl

/-- The gathered matrix, entry by entry. -/
theorem gathered_read (W : FVec Ideal S2048x9552 .f32) (n : Fin 1408) (k : Fin 2048) :
    gathered W (ix2 n k) = wcol W n k := by
  pointwise [gathered, wcol]

/-- The gathered matrix. -/
theorem entry_w (c : Dev nD) (n : Fin 1408) (k : Fin 2048) :
    V m c main_v7 (ix2 n k) = wcol (m ((c : Thread nD τ).loc main_arg2)) n k :=
  (congrFun (V_w m c) _).trans (gathered_read _ n k)

/-- The block of rows at a point. -/
theorem block_x (c : Dev nD) (t : Fin cfg0.N) (p : Fin 1024) (k : Fin 2048) (r : Fin 32768)
    (hr : r.val = t.val * 1024 + p.val) : iblk m c 0 t (ix2 p k) = V m c main_v0 (ix2 r k) := by
  blk_ext [iblk, idx t]

/-- The scales are staged whole. -/
theorem block_g (c : Dev nD) (t : Fin cfg0.N) (k : Fin 2048) :
    iblk m c 1 t (ix2 0 k) = V m c main_v8 (ix2 0 k) := by
  blk_ext [iblk, idx t]

/-- The gathered matrix is staged whole. -/
theorem block_w (c : Dev nD) (t : Fin cfg0.N) (n : Fin 1408) (k : Fin 2048) :
    iblk m c 2 t (ix2 n k) = V m c main_v7 (ix2 n k) := by
  blk_ext [iblk, idx t]

/-- The scales are staged whole. -/
theorem block_kv (c : Dev nD) (t : Fin cfg0.N) (k : Fin 256) :
    iblk m c 3 t (ix2 0 k) = V m c main_v9 (ix2 0 k) := by
  blk_ext [iblk, idx t]

/-- The scales are staged whole. -/
theorem block_ki (c : Dev nD) (t : Fin cfg0.N) (k : Fin 64) :
    iblk m c 4 t (ix2 0 k) = V m c main_v10 (ix2 0 k) := by
  blk_ext [iblk, idx t]

/-- The joint input projection, entry by entry. -/
def proj (X : FVec Ideal S16x2048x2048 .f32) (G : FVec Ideal S2048 .f32) (W : FVec Ideal S2048x9552 .f32)
    (r : Fin 32768) (j : Fin 9552) : EReal :=
  ∑ k : Fin 2048, Spec.normRow 0x45000000#32
    (fun k => X (ix3 ⟨r.val / 2048, by omega⟩ ⟨r.val % 2048, by omega⟩ k)) (fun k => G (ix1 k)) k * W (ix2 k j)

/-- The index queries. -/
def specQ (X : FVec Ideal S16x2048x2048 .f32) (G : FVec Ideal S2048 .f32) (W : FVec Ideal S2048x9552 .f32)
    (KV : FVec Ideal S256 .f32) (KI : FVec Ideal S64 .f32) (r : Fin 32768) (j : Fin 1024) : EReal :=
  proj X G W r ⟨4352 + j.val, by omega⟩

/-- The normalised latent. -/
def specC (X : FVec Ideal S16x2048x2048 .f32) (G : FVec Ideal S2048 .f32) (W : FVec Ideal S2048x9552 .f32)
    (KV : FVec Ideal S256 .f32) (KI : FVec Ideal S64 .f32) (r : Fin 32768) (j : Fin 256) : EReal :=
  Spec.normRow 0x43800000#32 (fun k => proj X G W r ⟨4096 + k.val, by omega⟩) (fun k => KV (ix1 k)) j

/-- The normalised index key. -/
def specK (X : FVec Ideal S16x2048x2048 .f32) (G : FVec Ideal S2048 .f32) (W : FVec Ideal S2048x9552 .f32)
    (KV : FVec Ideal S256 .f32) (KI : FVec Ideal S64 .f32) (r : Fin 32768) (j : Fin 64) : EReal :=
  Spec.normRow 0x42800000#32 (fun k => proj X G W r ⟨5376 + k.val, by omega⟩) (fun k => KI (ix1 k)) j

/-- The index key before its norm and the index weights, with zeros after them. -/
def specS (X : FVec Ideal S16x2048x2048 .f32) (G : FVec Ideal S2048 .f32) (W : FVec Ideal S2048x9552 .f32)
    (KV : FVec Ideal S256 .f32) (KI : FVec Ideal S64 .f32) (r : Fin 32768) (j : Fin 128) : EReal :=
  if h : j.val < 80 then proj X G W r ⟨5376 + j.val, by omega⟩ else 0

/-- The product the body forms, in terms of its blocks. -/
theorem pay3 (x : Vec Ideal S1024x2048 .f32) (g : Vec Ideal S1x2048 .f32) (w : Vec Ideal S1408x2048 .bf16)
    (p : Fin 1024) (q : Fin 1408) :
    k0_pay3 x g w (ix2 p q)
      = ∑ k : Fin 2048, Spec.normRow 0x45000000#32 (fun k => x (ix2 p k)) (fun k => g (ix2 0 k)) k * w (ix2 q k) := by
  pointwise [k0_pay3, Spec.normRow]

/-- The product at a point is the projection at the place of the block. -/
theorem prod (c : Dev nD) (t : Fin cfg0.N) (p : Fin 1024) (q : Fin 1408) (r : Fin 32768) (hr : r.val = t.val * 1024 + p.val) :
    k0_pay3 (iblk m c 0 t) (iblk m c 1 t) (iblk m c 2 t) (ix2 p q)
      = ∑ k : Fin 2048, Spec.normRow 0x45000000#32
        (fun k => m ((c : Thread nD τ).loc main_arg0) (ix3 ⟨r.val / 2048, by omega⟩ ⟨r.val % 2048, by omega⟩ k))
        (fun k => m ((c : Thread nD τ).loc main_arg1) (ix1 k)) k * wcol (m ((c : Thread nD τ).loc main_arg2)) q k := by
  refine (pay3 _ _ _ p q).trans ?_
  have hx := fun k => (block_x m c t p k r hr).trans (entry_x m c r k)
  have hg := fun k => (block_g m c t k).trans (entry_g m c k)
  have hw := fun k => (block_w m c t q k).trans (entry_w m c q k)
  simp only [hx, hg, hw]

/-- The product's first columns are the index queries. -/
theorem prodQ (c : Dev nD) (t : Fin cfg0.N) (p : Fin 1024) (q : Fin 1408) (r : Fin 32768) (hr : r.val = t.val * 1024 + p.val)
    (j : Fin 9552) (h : q.val < 1024) (hj : j.val = 4352 + q.val) :
    k0_pay3 (iblk m c 0 t) (iblk m c 1 t) (iblk m c 2 t) (ix2 p q) = proj (m ((c : Thread nD τ).loc main_arg0))
      (m ((c : Thread nD τ).loc main_arg1)) (m ((c : Thread nD τ).loc main_arg2)) r j := by
  obtain rfl : j = ⟨4352 + q.val, by clear hj; omega⟩ := Fin.ext hj
  refine (prod m c t p q r hr).trans (Finset.sum_congr rfl fun k _ => congrArg _ ?_)
  unfold wcol
  rw [dif_pos h]

/-- The next columns are the latent. -/
theorem prodC (c : Dev nD) (t : Fin cfg0.N) (p : Fin 1024) (q : Fin 1408) (r : Fin 32768) (hr : r.val = t.val * 1024 + p.val)
    (j : Fin 9552) (h : ¬q.val < 1024) (h' : q.val < 1280) (hj : j.val = 4096 + (q.val - 1024)) :
    k0_pay3 (iblk m c 0 t) (iblk m c 1 t) (iblk m c 2 t) (ix2 p q) = proj (m ((c : Thread nD τ).loc main_arg0))
      (m ((c : Thread nD τ).loc main_arg1)) (m ((c : Thread nD τ).loc main_arg2)) r j := by
  obtain rfl : j = ⟨4096 + (q.val - 1024), by clear hj; omega⟩ := Fin.ext hj
  refine (prod m c t p q r hr).trans (Finset.sum_congr rfl fun k _ => congrArg _ ?_)
  unfold wcol
  rw [dif_neg h, dif_pos (by omega)]

/-- The next are the index key and the index weights. -/
theorem prodK (c : Dev nD) (t : Fin cfg0.N) (p : Fin 1024) (q : Fin 1408) (r : Fin 32768) (hr : r.val = t.val * 1024 + p.val)
    (j : Fin 9552) (h : ¬q.val < 1280) (h' : q.val < 1360) (hj : j.val = 5376 + (q.val - 1024 - 256)) :
    k0_pay3 (iblk m c 0 t) (iblk m c 1 t) (iblk m c 2 t) (ix2 p q) = proj (m ((c : Thread nD τ).loc main_arg0))
      (m ((c : Thread nD τ).loc main_arg1)) (m ((c : Thread nD τ).loc main_arg2)) r j := by
  obtain rfl : j = ⟨5376 + (q.val - 1024 - 256), by clear hj; omega⟩ := Fin.ext hj
  refine (prod m c t p q r hr).trans (Finset.sum_congr rfl fun k _ => congrArg _ ?_)
  unfold wcol
  rw [dif_neg (by omega), dif_neg (by omega), dif_pos (by omega)]

/-- The last are zero. -/
theorem prodZ (c : Dev nD) (t : Fin cfg0.N) (p : Fin 1024) (q : Fin 1408) (r : Fin 32768) (hr : r.val = t.val * 1024 + p.val)
    (h : ¬q.val < 1360) : k0_pay3 (iblk m c 0 t) (iblk m c 1 t) (iblk m c 2 t) (ix2 p q) = 0 := by
  refine (prod m c t p q r hr).trans (Finset.sum_eq_zero fun k _ => ?_)
  unfold wcol
  rw [dif_neg (by omega), dif_neg (by omega), dif_neg (by omega)]
  exact mul_zero _

/-- The first store, in terms of the product: the index queries. -/
theorem payQ (x : Vec Ideal S1024x2048 .f32) (g : Vec Ideal S1x2048 .f32) (w : Vec Ideal S1408x2048 .bf16)
    (p : Fin 1024) (q : Fin 1024) : k0_pay4 x g w (ix2 p q) = k0_pay3 x g w (ix2 p ⟨q.val, by omega⟩) := by
  pointwise [k0_pay4]

/-- The second store: the normalised latent. -/
theorem payC (x : Vec Ideal S1024x2048 .f32) (g : Vec Ideal S1x2048 .f32) (w : Vec Ideal S1408x2048 .bf16)
    (n : Vec Ideal S1x256 .f32) (p : Fin 1024) (q : Fin 256) : k0_pay1 (k0_pay7 x g w n) (ix2 p q)
      = Spec.normRow 0x43800000#32 (fun k => k0_pay3 x g w (ix2 p ⟨1024 + k.val, by omega⟩)) (fun k => n (ix2 0 k)) q := by
  pointwise [k0_pay1, k0_pay7, Spec.normRow]

/-- The third: the normalised index key. -/
theorem payK (x : Vec Ideal S1024x2048 .f32) (g : Vec Ideal S1x2048 .f32) (w : Vec Ideal S1408x2048 .bf16)
    (n : Vec Ideal S1x64 .f32) (p : Fin 1024) (q : Fin 64) : k0_pay2 (k0_pay6 x g w) (k0_pay8 x g w) n (ix2 p q)
      = Spec.normRow 0x42800000#32 (fun k => k0_pay3 x g w (ix2 p ⟨1280 + k.val, by omega⟩)) (fun k => n (ix2 0 k)) q := by
  pointwise [k0_pay2, k0_pay6, k0_pay8, k0_pay5, Spec.normRow]

/-- The fourth: the index key and the index weights. -/
theorem payS (x : Vec Ideal S1024x2048 .f32) (g : Vec Ideal S1x2048 .f32) (w : Vec Ideal S1408x2048 .bf16)
    (p : Fin 1024) (q : Fin 128) : k0_pay5 x g w (ix2 p q) = k0_pay3 x g w (ix2 p ⟨1280 + q.val, by omega⟩) := by
  pointwise [k0_pay5]

/-- What the body stores at a point is the specification at the place of the block. -/
theorem point5 (c : Dev nD) (t : Fin cfg0.N) (p : Fin 1024) (q : Fin 1024) (r : Fin 32768) (j : Fin 1024)
    (hr : r.val = t.val * 1024 + p.val) (hj : j.val = q.val) :
    k0_pay4 (iblk m c 0 t) (iblk m c 1 t) (iblk m c 2 t) (ix2 p q)
      = specQ (m ((c : Thread nD τ).loc main_arg0)) (m ((c : Thread nD τ).loc main_arg1)) (m ((c : Thread nD τ).loc main_arg2)) (m ((c : Thread nD τ).loc main_arg3)) (m ((c : Thread nD τ).loc main_arg4)) r j := by
  obtain rfl : j = q := Fin.ext hj
  exact (payQ _ _ _ p j).trans (prodQ m c t p _ r hr _ j.isLt rfl)

/-- The array is the specification. -/
theorem final5 (c : Dev nD) : (dats m 0 c).arrAt 5 (cfgs 0).N = fun i =>
    specQ (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  frame_out
  obtain ⟨p, q, rfl⟩ : ∃ (p : Fin 1024) (q : Fin 1024), y = ix2 p q := ⟨y 0, y 1, eq_ix2 y⟩
  refine point5 m c t p q _ _ ?_ ?_
  · blk_simp [idx t]
  · blk_simp [idx t]

/-- What the body stores at a point is the specification at the place of the block. -/
theorem point6 (c : Dev nD) (t : Fin cfg0.N) (p : Fin 1024) (q : Fin 256) (r : Fin 32768) (j : Fin 256)
    (hr : r.val = t.val * 1024 + p.val) (hj : j.val = q.val) :
    k0_pay1 (k0_pay7 (iblk m c 0 t) (iblk m c 1 t) (iblk m c 2 t) (iblk m c 3 t)) (ix2 p q)
      = specC (m ((c : Thread nD τ).loc main_arg0)) (m ((c : Thread nD τ).loc main_arg1)) (m ((c : Thread nD τ).loc main_arg2)) (m ((c : Thread nD τ).loc main_arg3)) (m ((c : Thread nD τ).loc main_arg4)) r j := by
  obtain rfl : j = q := Fin.ext hj
  refine (payC _ _ _ _ p j).trans ?_
  have hp := fun k : Fin 256 => prodC m c t p ⟨1024 + k.val, by omega⟩ r hr ⟨4096 + k.val, by omega⟩ (by simp)
    (by simp only; omega) (by simp)
  have hn := fun k => (block_kv m c t k).trans (entry_kv m c k)
  unfold specC
  simp only [hp, hn]

/-- The array is the specification. -/
theorem final6 (c : Dev nD) : (dats m 0 c).arrAt 6 (cfgs 0).N = fun i =>
    specC (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  frame_out
  obtain ⟨p, q, rfl⟩ : ∃ (p : Fin 1024) (q : Fin 256), y = ix2 p q := ⟨y 0, y 1, eq_ix2 y⟩
  refine point6 m c t p q _ _ ?_ ?_
  · blk_simp [idx t]
  · blk_simp [idx t]

/-- What the body stores at a point is the specification at the place of the block. -/
theorem point7 (c : Dev nD) (t : Fin cfg0.N) (p : Fin 1024) (q : Fin 64) (r : Fin 32768) (j : Fin 64)
    (hr : r.val = t.val * 1024 + p.val) (hj : j.val = q.val) :
    k0_pay2 (k0_pay6 (iblk m c 0 t) (iblk m c 1 t) (iblk m c 2 t)) (k0_pay8 (iblk m c 0 t) (iblk m c 1 t) (iblk m c 2 t)) (iblk m c 4 t) (ix2 p q)
      = specK (m ((c : Thread nD τ).loc main_arg0)) (m ((c : Thread nD τ).loc main_arg1)) (m ((c : Thread nD τ).loc main_arg2)) (m ((c : Thread nD τ).loc main_arg3)) (m ((c : Thread nD τ).loc main_arg4)) r j := by
  obtain rfl : j = q := Fin.ext hj
  refine (payK _ _ _ _ p j).trans ?_
  have hp := fun k : Fin 64 => prodK m c t p ⟨1280 + k.val, by omega⟩ r hr ⟨5376 + k.val, by omega⟩ (by simp)
    (by simp only; omega) (by simp only; omega)
  have hn := fun k => (block_ki m c t k).trans (entry_ki m c k)
  unfold specK
  simp only [hp, hn]

/-- The array is the specification. -/
theorem final7 (c : Dev nD) : (dats m 0 c).arrAt 7 (cfgs 0).N = fun i =>
    specK (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  blk_simp
  rw [after0_7]
  frame_out
  obtain ⟨p, q, rfl⟩ : ∃ (p : Fin 1024) (q : Fin 64), y = ix2 p q := ⟨y 0, y 1, eq_ix2 y⟩
  refine point7 m c t p q _ _ ?_ ?_
  · blk_simp [idx t]
  · blk_simp [idx t]

/-- What the body stores at a point is the specification at the place of the block. -/
theorem point8 (c : Dev nD) (t : Fin cfg0.N) (p : Fin 1024) (q : Fin 128) (r : Fin 32768) (j : Fin 128)
    (hr : r.val = t.val * 1024 + p.val) (hj : j.val = q.val) :
    k0_pay5 (iblk m c 0 t) (iblk m c 1 t) (iblk m c 2 t) (ix2 p q)
      = specS (m ((c : Thread nD τ).loc main_arg0)) (m ((c : Thread nD τ).loc main_arg1)) (m ((c : Thread nD τ).loc main_arg2)) (m ((c : Thread nD τ).loc main_arg3)) (m ((c : Thread nD τ).loc main_arg4)) r j := by
  obtain rfl : j = q := Fin.ext hj
  refine (payS _ _ _ p j).trans ?_
  unfold specS
  by_cases h : j.val < 80
  · rw [dif_pos h]
    exact prodK m c t p _ r hr _ (by simp) (by simp only; omega) (by simp only; omega)
  · rw [dif_neg h]
    exact prodZ m c t p _ r hr (by simp only; omega)

/-- The array is the specification. -/
theorem final8 (c : Dev nD) : (dats m 0 c).arrAt 8 (cfgs 0).N = fun i =>
    specS (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 8 _ (by decide +kernel) fun t hf y => ?_
  blk_simp
  rw [after0_8]
  frame_out
  obtain ⟨p, q, rfl⟩ : ∃ (p : Fin 1024) (q : Fin 128), y = ix2 p q := ⟨y 0, y 1, eq_ix2 y⟩
  refine point8 m c t p q _ _ ?_ ?_
  · blk_simp [idx t]
  · blk_simp [idx t]

/-- The kernel's run with the results at their specifications. -/
theorem run_spec (ρ : Dev nD → PrngReg) :
    θ_run defs (onTc (τ := τ) (main (F := Ideal))) ⟨m, fun _ => 0, ρ⟩ fun r => ∀ c : Dev nD,
      r.2.mem ((c : Thread nD τ).loc main_v11_0) = (fun i => specQ (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v11_1) = (fun i => specC (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v11_2) = (fun i => specK (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v11_3) = (fun i => specS (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
    (h c).2.2.1.trans (final7 m c), (h c).2.2.2.1.trans (final8 m c), (h c).2.2.2.2⟩) (run_blocks m ρ)

end Cert.IdxIdeal.Value

namespace Cert.IdxRefIdeal.Value

open Cert.IdxRefIdeal Cert.IdxRefIdeal.Gen
open Cert.IdxIdeal.Value (proj specQ specC specK specS)

/-- The reference's joint input projection. -/
def joint (X : FVec Ideal S16x2048x2048 .f32) (G : FVec Ideal S2048 .f32) (W : FVec Ideal S2048x9552 .f32) : FVec Ideal S32768x9552 .f32 :=
  shapeCast S32768x9552 (Host.dotGeneral dot_S16x2048x2048_S2048x9552_S16x2048x9552_2_0_01_1_n_n none (mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 G))) W) shapeCasts_S16x2048x9552_S32768x9552

/-- The joint projection, entry by entry. -/
theorem joint_read (X : FVec Ideal S16x2048x2048 .f32) (G : FVec Ideal S2048 .f32) (W : FVec Ideal S2048x9552 .f32)
    (r : Fin 32768) (j : Fin 9552) : joint X G W (ix2 r j) = proj X G W r j := by
  pointwise [joint, proj, Spec.normRow]

/-- The reference's index queries, read from the joint projection. -/
theorem readQ (J : FVec Ideal S32768x9552 .f32) (r : Fin 32768) (j : Fin 1024) :
    (extractStridedSlice S32768x1024 ![0, 4352] J slices_S32768x9552_S32768x1024_0_4352) (ix2 r j)
      = J (ix2 r ⟨4352 + j.val, by omega⟩) := by
  pointwise [Spec.normRow]

/-- The reference's normalised latent, read from the joint projection. -/
theorem readC (J : FVec Ideal S32768x9552 .f32) (N : FVec Ideal S256 .f32) (r : Fin 32768) (j : Fin 256) :
    (truncf .bf16 (mulf (mulf (extractStridedSlice S32768x256 ![0, 4096] J slices_S32768x9552_S32768x256_0_4096) (broadcastInDim S32768x256 ![0, 1] bcast_S32768x1_S32768x256_0_1 (Host.rsqrt (addf (Host.divf (broadcastInDim S32768x1 ![0] bcast_S32768_S32768x1_0 (Host.reduceAdd (mulf (extractStridedSlice S32768x256 ![0, 4096] J slices_S32768x9552_S32768x256_0_4096) (extractStridedSlice S32768x256 ![0, 4096] J slices_S32768x9552_S32768x256_0_4096)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 N))) bitsLt_bf16_f32) (ix2 r j)
      = Spec.normRow 0x43800000#32 (fun k => J (ix2 r ⟨4096 + k.val, by omega⟩)) (fun k => N (ix1 k)) j := by
  pointwise [Spec.normRow]

/-- The reference's normalised index key, read from the joint projection. -/
theorem readK (J : FVec Ideal S32768x9552 .f32) (N : FVec Ideal S64 .f32) (r : Fin 32768) (j : Fin 64) :
    (truncf .bf16 (mulf (mulf (extractStridedSlice S32768x64 ![0, 5376] J slices_S32768x9552_S32768x64_0_5376) (broadcastInDim S32768x64 ![0, 1] bcast_S32768x1_S32768x64_0_1 (Host.rsqrt (addf (Host.divf (broadcastInDim S32768x1 ![0] bcast_S32768_S32768x1_0 (Host.reduceAdd (mulf (extractStridedSlice S32768x64 ![0, 5376] J slices_S32768x9552_S32768x64_0_5376) (extractStridedSlice S32768x64 ![0, 5376] J slices_S32768x9552_S32768x64_0_5376)) (constant S_ .f32 0x00000000#32) reducesTo_S32768x64_S32768_d1 h_S_)) (broadcastInDim S32768x1 ![] bcast_S_S32768x1 (constant S_ .f32 0x42800000#32))) (broadcastInDim S32768x1 ![] bcast_S_S32768x1 (constant S_ .f32 0x358637BD#32)))))) (broadcastInDim S32768x64 ![0, 1] bcast_S1x64_S32768x64_0_1 (broadcastInDim S1x64 ![1] bcast_S64_S1x64_1 N))) bitsLt_bf16_f32) (ix2 r j)
      = Spec.normRow 0x42800000#32 (fun k => J (ix2 r ⟨5376 + k.val, by omega⟩)) (fun k => N (ix1 k)) j := by
  pointwise [Spec.normRow]

/-- The reference's last result, read from the joint projection. -/
theorem readS (J : FVec Ideal S32768x9552 .f32) (r : Fin 32768) (j : Fin 128) :
    ((concatenate S32768x128 1 [⟨S32768x64, ((extractStridedSlice S32768x64 ![0, 5376] J slices_S32768x9552_S32768x64_0_5376) : (⟨S32768x64, .f32⟩ : BufTy).Contents (Elt Ideal))⟩, ⟨S32768x16, ((extractStridedSlice S32768x16 ![0, 5440] J slices_S32768x9552_S32768x16_0_5440) : (⟨S32768x16, .f32⟩ : BufTy).Contents (Elt Ideal))⟩, ⟨S32768x48, ((broadcastInDim S32768x48 ![] bcast_S_S32768x48 (constant (F := Ideal) S_ .f32 0x00000000#32)) : (⟨S32768x48, .f32⟩ : BufTy).Contents (Elt Ideal))⟩] concatenates_S32768x64_S32768x16_S32768x48_S32768x128_d1 : (⟨S32768x128, .f32⟩ : BufTy).Contents (Elt Ideal))) (ix2 r j)
      = if h : j.val < 80 then J (ix2 r ⟨5376 + j.val, by omega⟩) else 0 := by
  pointwise [Spec.normRow]
  by_cases h : j.val < 64
  · simp only [h, dite_true, show j.val < 80 by omega]
  · by_cases h' : j.val < 80
    · simp only [h, h', show j.val - 64 < 16 by omega, dite_true, dite_false]
      exact congrArg (fun z => J (ix2 r z)) (Fin.ext (by simp only; omega))
    · simp only [h, h', show ¬j.val - 64 < 16 by omega, dite_true, dite_false]

variable (m : (ℓ : Loc nD τ sig) → Buf (Elt Ideal) ℓ) (ρ : Dev nD → PrngReg)

/-- The reference leaves the specifications. -/
theorem run_spec : θ_run defs (onTc (τ := τ) (main (F := Ideal))) ⟨m, fun _ => 0, ρ⟩ fun r => ∀ c : Dev nD,
      r.2.mem ((c : Thread nD τ).loc main_v16) = (fun i => specQ (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v33) = (fun i => specC (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v47) = (fun i => specK (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_v48) = (fun i => specS (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2.1.trans ?_, (h c).2.2.1.trans ?_,
    (h c).2.2.2.1.trans ?_, (h c).2.2.2.2⟩) (run (F := Ideal) m ρ)
  · funext i
    idx_vars i
    refine (readQ (joint (m ((c : Thread nD τ).loc main_arg0)) (m ((c : Thread nD τ).loc main_arg1)) (m ((c : Thread nD τ).loc main_arg2))) i0 i1).trans ?_
    simp only [joint_read]
    rfl
  · funext i
    idx_vars i
    refine (readC (joint (m ((c : Thread nD τ).loc main_arg0)) (m ((c : Thread nD τ).loc main_arg1)) (m ((c : Thread nD τ).loc main_arg2))) _ i0 i1).trans ?_
    simp only [joint_read]
    rfl
  · funext i
    idx_vars i
    refine (readK (joint (m ((c : Thread nD τ).loc main_arg0)) (m ((c : Thread nD τ).loc main_arg1)) (m ((c : Thread nD τ).loc main_arg2))) _ i0 i1).trans ?_
    simp only [joint_read]
    rfl
  · funext i
    idx_vars i
    refine (readS (joint (m ((c : Thread nD τ).loc main_arg0)) (m ((c : Thread nD τ).loc main_arg1)) (m ((c : Thread nD τ).loc main_arg2))) i0 i1).trans ?_
    simp only [joint_read]
    rfl

end Cert.IdxRefIdeal.Value

end
-- ==== Proof.PoolIdealFrame.lean ====
module

public import proofs.«01_k».proof.Proof.Gen.PoolIdeal.Frame
public import proofs.«01_k».proof.Proof.Gen.PoolIdeal.Skeleton
public import Idealize.ShloMosaic.Lib.Exec
public import Idealize.ShloMosaic.Lib.Claim

@[expose] public section

set_option maxRecDepth 16384

noncomputable section

namespace Cert.PoolIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.PoolIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first 1024 rows of a sequence's block. -/
abbrev firstRows : Rect S1x2048x1024 := Rect.unit (s := S1x2048x1024) ![0, 0, 0] S1x1024x1024.size inb_S1x2048x1024_S1x1024x1024_0_0_0
/-- The last 1024 rows of a sequence's block. -/
abbrev lastRows : Rect S1x2048x1024 := Rect.unit (s := S1x2048x1024) ![0, 1024, 0] S1x1024x1024.size (by decide)
/-- The last 1024 rows and the sixteen before them. -/
abbrev lastRowsWithHead : Rect S1x2048x1024 := Rect.unit (s := S1x2048x1024) ![0, 1008, 0] S1x1040x1024.size (by decide)
/-- A group's matrix, whole. -/
abbrev wholeMatrix : Rect S1x1024x1024 := Rect.unit (s := S1x1024x1024) ![0, 0, 0] S1x1024x1024.size inb_S1x1024x1024_S1x1024x1024_0_0_0
/-- A group's row of biases or scales, whole. -/
abbrev wholeRow : Rect S1x1x1024 := Rect.unit (s := S1x1x1024) ![0, 0, 0] S1x1x1024.size inb_S1x1x1024_S1x1x1024_0_0_0

/-- What the body stores in the first 1024 rows in group `g`: of the rows `u` and `z`, the matrix, the biases and the scales. -/
def half0 (g : Fin 4) (u z : Vec F S1x1024x1024 .bf16) (w : Vec F S1x1024x1024 .bf16) (b s : Vec F S1x1x1024 .f32) : Vec F S1x1024x1024 .bf16 :=
  match g with
  | ⟨0, _⟩ => k0_pay8 (k0_pay5 u w b s) (k0_pay6 z) (k0_pay7 z)
  | ⟨1, _⟩ => k0_pay13 (k0_pay10 u w b s) (k0_pay11 z) (k0_pay12 z)
  | ⟨2, _⟩ => k0_pay17 (k0_pay15 u w b s) (k0_pay16 z) (Scalar.ofBits .f32 0x00000000#32)
  | ⟨3, _⟩ => k0_pay21 (k0_pay20 u w b s) z

/-- What the body stores in the last 1024 rows in group `g`: of the rows with the sixteen before them, the rows of `z`, the matrix, the
    biases and the scales. -/
def half1 (g : Fin 4) (e : Vec F S1x1040x1024 .bf16) (z : Vec F S1x1024x1024 .bf16) (w : Vec F S1x1024x1024 .bf16) (b s : Vec F S1x1x1024 .f32) : Vec F S1x1024x1024 .bf16 :=
  match g with
  | ⟨0, _⟩ => k0_pay1 (k0_pay9 e w b s) z
  | ⟨1, _⟩ => k0_pay2 (k0_pay14 e w b) s z
  | ⟨2, _⟩ => k0_pay3 (k0_pay18 e w) (k0_pay19 b) s z
  | ⟨3, _⟩ => k0_pay4 (k0_pay22 e) (k0_pay23 w) (constant S1024x1024 .f32 0x00000000#32) b s z

/-- What the body leaves in the output's buffer in group `g`, from the input blocks: the two stores as pieces, last first. -/
def out (g : Fin 4) (x0 : Vec F S1x2048x1024 .bf16) (x1 : Vec F S1x2048x1024 .bf16) (x2 : Vec F S1x1024x1024 .bf16) (x3 : Vec F S1x1x1024 .f32) (x4 : Vec F S1x1x1024 .f32) : Vec F S1x2048x1024 .bf16 :=
  View.canon [⟨lastRows, half1 g (View.ld x0 lastRowsWithHead) (View.ld x1 lastRows) (View.ld x2 wholeMatrix) (View.ld x3 wholeRow) (View.ld x4 wholeRow)⟩,
    ⟨firstRows, half0 g (View.ld x0 firstRows) (View.ld x1 firstRows) (View.ld x2 wholeMatrix) (View.ld x3 wholeRow) (View.ld x4 wholeRow)⟩]

/-- The two stores cover the output's buffer. -/
theorem cover (p0 p1 : Vec F S1x1024x1024 .bf16) (y : S1x2048x1024.Idx) :
    ∃ pc ∈ ([⟨lastRows, p0⟩, ⟨firstRows, p1⟩] : List (View.Piece (Elt F) S1x2048x1024 .bf16)), y ∈ pc.1.set :=
  View.cover_of_tiled [⟨lastRows, p0⟩, ⟨firstRows, p1⟩] S1x1024x1024.size (by rfl) y

set_option maxHeartbeats 2000000 in
/-- The body where the grid is at group 0, on the inputs' buffers at their contents and the output's at any: it keeps the inputs and leaves
    `out 0` in the output's. -/
theorem body_group0 (c : Dev nD) (E : Set ℕ) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1024 .bf16) (harg7 : arg7.IsWhole) (h1 : k0_cond1 i = 1#1) (h2 : ¬k0_cond2 i = 1#1) (h3 : ¬k0_cond3 i = 1#1) (h4 : ¬k0_cond4 i = 1#1)
    (x0 : Vec F S1x2048x1024 .bf16) (x1 : Vec F S1x2048x1024 .bf16) (x2 : Vec F S1x1024x1024 .bf16) (x3 : Vec F S1x1x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out 0 x0 x1 x2 x3 x4)) -∗ K ⟨⟩))
      ⊢ wp frame (wpE (defs₀ (F := F)) Variants.none c none) E (cc0_pool_mix i arg2 harg2 arg3 harg3 arg4 harg4 arg5 harg5 arg6 harg6 arg7 harg7) K := by
  simp only [cc0_pool_mix_eq_skeleton]; unfold cc0_pool_mix_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

set_option maxHeartbeats 2000000 in
/-- The body where the grid is at group 1, on the inputs' buffers at their contents and the output's at any: it keeps the inputs and leaves
    `out 1` in the output's. -/
theorem body_group1 (c : Dev nD) (E : Set ℕ) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1024 .bf16) (harg7 : arg7.IsWhole) (h1 : ¬k0_cond1 i = 1#1) (h2 : k0_cond2 i = 1#1) (h3 : ¬k0_cond3 i = 1#1) (h4 : ¬k0_cond4 i = 1#1)
    (x0 : Vec F S1x2048x1024 .bf16) (x1 : Vec F S1x2048x1024 .bf16) (x2 : Vec F S1x1024x1024 .bf16) (x3 : Vec F S1x1x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out 1 x0 x1 x2 x3 x4)) -∗ K ⟨⟩))
      ⊢ wp frame (wpE (defs₀ (F := F)) Variants.none c none) E (cc0_pool_mix i arg2 harg2 arg3 harg3 arg4 harg4 arg5 harg5 arg6 harg6 arg7 harg7) K := by
  simp only [cc0_pool_mix_eq_skeleton]; unfold cc0_pool_mix_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

set_option maxHeartbeats 2000000 in
/-- The body where the grid is at group 2, on the inputs' buffers at their contents and the output's at any: it keeps the inputs and leaves
    `out 2` in the output's. -/
theorem body_group2 (c : Dev nD) (E : Set ℕ) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1024 .bf16) (harg7 : arg7.IsWhole) (h1 : ¬k0_cond1 i = 1#1) (h2 : ¬k0_cond2 i = 1#1) (h3 : k0_cond3 i = 1#1) (h4 : ¬k0_cond4 i = 1#1)
    (x0 : Vec F S1x2048x1024 .bf16) (x1 : Vec F S1x2048x1024 .bf16) (x2 : Vec F S1x1024x1024 .bf16) (x3 : Vec F S1x1x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out 2 x0 x1 x2 x3 x4)) -∗ K ⟨⟩))
      ⊢ wp frame (wpE (defs₀ (F := F)) Variants.none c none) E (cc0_pool_mix i arg2 harg2 arg3 harg3 arg4 harg4 arg5 harg5 arg6 harg6 arg7 harg7) K := by
  simp only [cc0_pool_mix_eq_skeleton]; unfold cc0_pool_mix_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

set_option maxHeartbeats 2000000 in
/-- The body where the grid is at group 3, on the inputs' buffers at their contents and the output's at any: it keeps the inputs and leaves
    `out 3` in the output's. -/
theorem body_group3 (c : Dev nD) (E : Set ℕ) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1024 .bf16) (harg7 : arg7.IsWhole) (h1 : ¬k0_cond1 i = 1#1) (h2 : ¬k0_cond2 i = 1#1) (h3 : ¬k0_cond3 i = 1#1) (h4 : k0_cond4 i = 1#1)
    (x0 : Vec F S1x2048x1024 .bf16) (x1 : Vec F S1x2048x1024 .bf16) (x2 : Vec F S1x1024x1024 .bf16) (x3 : Vec F S1x1x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out 3 x0 x1 x2 x3 x4)) -∗ K ⟨⟩))
      ⊢ wp frame (wpE (defs₀ (F := F)) Variants.none c none) E (cc0_pool_mix i arg2 harg2 arg3 harg3 arg4 harg4 arg5 harg5 arg6 harg6 arg7 harg7) K := by
  simp only [cc0_pool_mix_eq_skeleton]; unfold cc0_pool_mix_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact h1 | sl_exact h2 | sl_exact h3 | sl_exact h4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _ _)

/-- Which branch a group takes: the condition of branch `k` holds at group `k` and at no other. -/
theorem branches (i : grid0.Coords) (g : Fin 4) (hg : g = i 1) :
    (k0_cond1 i = 1#1 ↔ g = 0) ∧ (k0_cond2 i = 1#1 ↔ g = 1) ∧ (k0_cond3 i = 1#1 ↔ g = 2) ∧ (k0_cond4 i = 1#1 ↔ g = 3) := by
  unfold k0_cond1 k0_cond2 k0_cond3 k0_cond4
  rw [← hg]
  clear hg
  revert g
  decide

/-- The body at any grid point. -/
theorem body_any (c : Dev nD) (E : Set ℕ) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x2048x1024 .bf16) (harg7 : arg7.IsWhole) (g : Fin 4) (hg : g = i 1)
    (x0 : Vec F S1x2048x1024 .bf16) (x1 : Vec F S1x2048x1024 .bf16) (x2 : Vec F S1x1024x1024 .bf16) (x3 : Vec F S1x1x1024 .f32) (x4 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out g x0 x1 x2 x3 x4)) -∗ K ⟨⟩))
      ⊢ wp frame (wpE (defs₀ (F := F)) Variants.none c none) E (cc0_pool_mix i arg2 harg2 arg3 harg3 arg4 harg4 arg5 harg5 arg6 harg6 arg7 harg7) K := by
  obtain ⟨b1, b2, b3, b4⟩ := branches i g hg
  match g, b1, b2, b3, b4 with
  | 0, b1, b2, b3, b4 => exact body_group0 c E i arg2 harg2 arg3 harg3 arg4 harg4 arg5 harg5 arg6 harg6 arg7 harg7 (b1.2 rfl) (fun hk => absurd (b2.1 hk) (by decide)) (fun hk => absurd (b3.1 hk) (by decide)) (fun hk => absurd (b4.1 hk) (by decide)) x0 x1 x2 x3 x4 K
  | 1, b1, b2, b3, b4 => exact body_group1 c E i arg2 harg2 arg3 harg3 arg4 harg4 arg5 harg5 arg6 harg6 arg7 harg7 (fun hk => absurd (b1.1 hk) (by decide)) (b2.2 rfl) (fun hk => absurd (b3.1 hk) (by decide)) (fun hk => absurd (b4.1 hk) (by decide)) x0 x1 x2 x3 x4 K
  | 2, b1, b2, b3, b4 => exact body_group2 c E i arg2 harg2 arg3 harg3 arg4 harg4 arg5 harg5 arg6 harg6 arg7 harg7 (fun hk => absurd (b1.1 hk) (by decide)) (fun hk => absurd (b2.1 hk) (by decide)) (b3.2 rfl) (fun hk => absurd (b4.1 hk) (by decide)) x0 x1 x2 x3 x4 K
  | 3, b1, b2, b3, b4 => exact body_group3 c E i arg2 harg2 arg3 harg3 arg4 harg4 arg5 harg5 arg6 harg6 arg7 harg7 (fun hk => absurd (b1.1 hk) (by decide)) (fun hk => absurd (b2.1 hk) (by decide)) (fun hk => absurd (b3.1 hk) (by decide)) (b4.2 rfl) x0 x1 x2 x3 x4 K

/-- No point leaves the output's buffer as it found it: one of the branches is taken. -/
theorem never_idle (t : Fin cfg0.N) : idle0 5 (grid0.coords t) = false :=
  (by decide +kernel : ∀ t : Fin grid0.N, idle0 5 (grid0.coords t) = false) t

/-- The pipeline's data on a core: the arrays as the region finds them; after the body at a point each input's buffer at its block
    and the output's at `out` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out (grid0.coords t 1) (iblk m c 0 t) (iblk m c 1 t) (iblk m c 2 t) (iblk m c 3 t) (iblk m c 4 t)
  Φ _ := Pipeline.ΦA spec0 c
  q w := Pipeline.shareOf spec0 w
  owed _ := 0

/-- The arrays of the data are what the region finds. -/
theorem A_eq (c : Dev nD) (w : Fin cfg0.W) : (dats m 0 c).A w = V m c (Pipeline.arrRef spec0 w) := by
  dsimp only [dats]

/-- The input buffer 0 is left at its block. -/
theorem after_0 (c : Dev nD) (t : Fin cfg0.N) : (dats m 0 c).after 0 t = iblk m c 0 t := by dsimp only [dats]
/-- The input buffer 1 is left at its block. -/
theorem after_1 (c : Dev nD) (t : Fin cfg0.N) : (dats m 0 c).after 1 t = iblk m c 1 t := by dsimp only [dats]
/-- The input buffer 2 is left at its block. -/
theorem after_2 (c : Dev nD) (t : Fin cfg0.N) : (dats m 0 c).after 2 t = iblk m c 2 t := by dsimp only [dats]
/-- The input buffer 3 is left at its block. -/
theorem after_3 (c : Dev nD) (t : Fin cfg0.N) : (dats m 0 c).after 3 t = iblk m c 3 t := by dsimp only [dats]
/-- The input buffer 4 is left at its block. -/
theorem after_4 (c : Dev nD) (t : Fin cfg0.N) : (dats m 0 c).after 4 t = iblk m c 4 t := by dsimp only [dats]
/-- The output buffer is left at `out` of the blocks. -/
theorem after_5 (c : Dev nD) (t : Fin cfg0.N) : (dats m 0 c).after 5 t
    = out (grid0.coords t 1) (iblk m c 0 t) (iblk m c 1 t) (iblk m c 2 t) (iblk m c 3 t) (iblk m c 4 t) := by dsimp only [dats]

/-- The body at a point. -/
theorem body_at (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (Ix := Unit) (Name := ℕ) (U := UR sig nD τ) (Lvl := ℕ) (defs₀ (F := F)) Variants.none (c : Thread nD τ) none) Set.univ (bodyAt0 t)
      (fun _ => iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t))) := by
  unfold bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c)]
  rw [show (dats m 0 c).Φ t.succ = (dats m 0 c).Φ t.castSucc from rfl,
    show (dats m 0 c).owesAt () t.succ = (dats m 0 c).owesAt () t.castSucc from rfl, after_0 m c, after_1 m c, after_2 m c, after_3 m c, after_4 m c, after_5 m c]
  iintro ⟨HΦ, Ho, ⟨%d0, H0⟩, ⟨%d1, H1⟩, ⟨%d2, H2⟩, ⟨%d3, H3⟩, ⟨%d4, H4⟩, ⟨%d5, H5⟩⟩
  iapply (body_any c Set.univ (grid0.coords t) _ _ _ _ _ _ _ _ _ _ _ _ _ rfl (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's row at a point is the body at that point. -/
theorem row_eq (t : Fin cfg0.N) :
    defs₀ (F := F) .tc cfg0.body (cfg0.bodyArgs t (cfg0.slots t)) = bodyAt0 t := by
  unfold defs₀; rw [Defs.onTc_tc]

/-- The body obligation of the pipeline. -/
theorem obligation (c : Dev nD) : BodyObligation (dats (F := F) m 0 c) (defs₀ (F := F)) Variants.none () Set.univ := fun t => by
  rw [bigSep_W0, bigSep_W0, row_eq]
  refine triple_restated (body_at m c t) rfl .rfl fun _ => ?_
  simp only [never_idle t]
  exact Entails.of_eq rfl

set_option backward.isDefEq.respectTransparency.types false in
/-- The run: it ends, every array of the pipeline at what the data say, every other buffer as the region found it, no counter left raised. -/
theorem run : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The pooling call ends from every state with zero counters and leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run m ρ))

/-- The same, and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run m ρ))

end Cert.PoolIdeal.Keep

end
-- ==== Proof.PoolSpec.lean ====
module

public import Idealize.ShloMosaic.Lib.Pointwise

@[expose] public section

noncomputable section

open Idealize.ShloMosaic

namespace Cert.PoolSpec

/-- The column `f` at the row `j` before row `t`: nothing, where there is no such row. -/
def ago (f : Fin 2048 → EReal) (t : Fin 2048) (j : ℕ) : EReal := if j ≤ t.val then f ⟨t.val - j, by omega⟩ else 0

/-- How many of the `w` rows that end at row `t` there are. -/
def count (w : ℕ) (t : Fin 2048) : EReal := ((min (t.val + 1) w : ℕ) : ℝ)

/-- As the definition says. -/
theorem count_def (w : ℕ) (t : Fin 2048) : count w t = ((((min (t.val + 1) w : ℕ) : ℝ)) : EReal) := rfl

/-- The mean of the `w` rows that end at row `t`, less row `t`. -/
def pooled (w : ℕ) (f : Fin 2048 → EReal) (t : Fin 2048) : EReal :=
  Ideal.div (∑ j ∈ Finset.range w, ago f t j) (count w t) - f t

/-- A pooled row through a column of the matrix and its bias, scaled, and times the gate `z / (1 + exp (-z))`. -/
def mixed {n : ℕ} (d w : Fin n → EReal) (b s z : EReal) : EReal :=
  (∑ k, d k * w k + b) * s * (z * Ideal.div 1 (1 + Ideal.exp (-z)))

/-- The four groups' windows: 2, 4, 8 and 16 rows. -/
def window (g : Fin 4) : ℕ := 2 ^ (g.val + 1)

/-- The mixer's result at row `t` of sequence `b` and column `n`, of the rows in halves `u` and `z`, the groups' matrices, their biases and the
    scales. -/
def spec (UZ : (⟨3, ![16, 2048, 8192]⟩ : Shape).Idx → EReal) (W : (⟨3, ![4, 1024, 1024]⟩ : Shape).Idx → EReal)
    (B : (⟨2, ![4, 1024]⟩ : Shape).Idx → EReal) (S : (⟨1, ![4096]⟩ : Shape).Idx → EReal) (b : Fin 16) (t : Fin 2048) (n : Fin 4096) : EReal :=
  mixed (fun k : Fin 1024 => pooled (window ⟨n.val / 1024, by omega⟩) (fun r => UZ (ix3 b r ⟨n.val / 1024 * 1024 + k.val, by omega⟩)) t)
    (fun k => W (ix3 ⟨n.val / 1024, by omega⟩ k ⟨n.val % 1024, by omega⟩)) (B (ix2 ⟨n.val / 1024, by omega⟩ ⟨n.val % 1024, by omega⟩))
    (S (ix1 n)) (UZ (ix3 b t ⟨4096 + n.val, by omega⟩))

/-- The same at column `q` of group `g`. -/
theorem spec_at (UZ : (⟨3, ![16, 2048, 8192]⟩ : Shape).Idx → EReal) (W : (⟨3, ![4, 1024, 1024]⟩ : Shape).Idx → EReal)
    (B : (⟨2, ![4, 1024]⟩ : Shape).Idx → EReal) (S : (⟨1, ![4096]⟩ : Shape).Idx → EReal) (b : Fin 16) (t : Fin 2048) (n : Fin 4096)
    (g : Fin 4) (q : Fin 1024) (hn : n.val = g.val * 1024 + q.val) :
    spec UZ W B S b t n = mixed (fun k : Fin 1024 => pooled (window g) (fun r => UZ (ix3 b r ⟨g.val * 1024 + k.val, by omega⟩)) t)
      (fun k => W (ix3 g k q)) (B (ix2 g q)) (S (ix1 n)) (UZ (ix3 b t ⟨4096 + n.val, by omega⟩)) := by
  have hg : (⟨n.val / 1024, by clear hn; omega⟩ : Fin 4) = g := Fin.ext (by simp only []; omega)
  have hq : (⟨n.val % 1024, by clear hn; omega⟩ : Fin 1024) = q := Fin.ext (by simp only []; omega)
  subst hg hq
  rfl

/-- Multiplying by the reciprocal of a positive number is dividing by it. -/
theorem mul_recip (c : BitVec 32) (n : ℕ) (hn : n ≠ 0) (h : Ideal.ofBits .f32 c = (((1 : ℝ) / n : ℝ) : EReal)) (x : EReal) :
    x * Ideal.ofBits .f32 c = Ideal.div x ((n : ℝ) : EReal) := by
  have hne : ((n : ℝ) : EReal) ≠ 0 := by exact_mod_cast hn
  rw [h, Ideal.div, if_neg hne, one_div, EReal.coe_inv]

/-- The word of a half. -/
theorem half : Ideal.ofBits .f32 0x3F000000#32 = (((1 : ℝ) / (2 : ℕ) : ℝ) : EReal) := by
  simp [Ideal.ofBits, Ideal.ieee, -EReal.coe_mul]; norm_num

/-- The word of a quarter. -/
theorem quarter : Ideal.ofBits .f32 0x3E800000#32 = (((1 : ℝ) / (4 : ℕ) : ℝ) : EReal) := by
  simp [Ideal.ofBits, Ideal.ieee, -EReal.coe_mul]; norm_num

/-- The word of a eighth. -/
theorem eighth : Ideal.ofBits .f32 0x3E000000#32 = (((1 : ℝ) / (8 : ℕ) : ℝ) : EReal) := by
  simp [Ideal.ofBits, Ideal.ieee, -EReal.coe_mul]; norm_num

/-- The word of a sixteenth. -/
theorem sixteenth : Ideal.ofBits .f32 0x3D800000#32 = (((1 : ℝ) / (16 : ℕ) : ℝ) : EReal) := by
  simp [Ideal.ofBits, Ideal.ieee, -EReal.coe_mul]; norm_num

/-- A sum over the rows inside is the sum over the window. -/
theorem sum_inside (w : ℕ) (f : Fin 2048 → EReal) (t : Fin 2048) :
    ∑ s : Fin 2048, f s * (if t.val + 1 - w ≤ s.val ∧ s.val ≤ t.val then 1 else 0) = ∑ j ∈ Finset.range w, ago f t j := by
  have hl : ∀ s : Fin 2048, f s * (if t.val + 1 - w ≤ s.val ∧ s.val ≤ t.val then 1 else 0) = if t.val + 1 - w ≤ s.val ∧ s.val ≤ t.val then f s else 0 := fun s => by
    split_ifs
    · rw [mul_one]
    · rw [mul_zero]
  simp only [hl, ago]
  rw [← Finset.sum_filter, ← Finset.sum_filter]
  refine Finset.sum_nbij' (fun s : Fin 2048 => t.val - s.val) (fun j : ℕ => (⟨t.val - j, by omega⟩ : Fin 2048)) ?_ ?_ ?_ ?_ ?_
  · intro s hs
    simp only [Finset.mem_filter, Finset.mem_univ, true_and, Finset.mem_range] at hs ⊢
    omega
  · intro j hj
    simp only [Finset.mem_filter, Finset.mem_univ, true_and, Finset.mem_range] at hj ⊢
    omega
  · intro s hs
    simp only [Finset.mem_filter, Finset.mem_univ, true_and] at hs
    exact Fin.ext (by simp only []; omega)
  · intro j hj
    simp only [Finset.mem_filter, Finset.mem_range] at hj
    simp only []
    omega
  · intro s hs
    simp only [Finset.mem_filter, Finset.mem_univ, true_and] at hs
    exact congrArg f (Fin.ext (by simp only []; omega))

/-- A sum of numbers that are finite is finite. -/
theorem sum_finite {ι : Type} (S : Finset ι) (f : ι → EReal) (hf : ∀ i, ∃ x : ℝ, f i = x) : ∃ x : ℝ, ∑ i ∈ S, f i = x := by
  choose g hg using hf
  refine ⟨∑ i ∈ S, g i, ?_⟩
  rw [Finset.sum_congr rfl fun i _ => hg i]
  induction S using Finset.cons_induction with
  | empty => simp
  | cons a S ha ih => rw [Finset.sum_cons, Finset.sum_cons, EReal.coe_add, ih]

/-- For finite rows the difference of two running sums is the sum over the window. -/
theorem sum_prefixes (w : ℕ) (f : Fin 2048 → EReal) (hf : ∀ s, ∃ x : ℝ, f s = x) (t : Fin 2048) :
    (∑ s : Fin 2048, if s.val < t.val + 1 then f s else 0) - (∑ s : Fin 2048, if s.val < t.val + 1 - w then f s else 0) = ∑ j ∈ Finset.range w, ago f t j := by
  have h : (∑ s : Fin 2048, if s.val < t.val + 1 then f s else 0)
      = (∑ s : Fin 2048, f s * (if t.val + 1 - w ≤ s.val ∧ s.val ≤ t.val then 1 else 0)) + (∑ s : Fin 2048, if s.val < t.val + 1 - w then f s else 0) := by
    rw [← Finset.sum_add_distrib]
    refine Finset.sum_congr rfl fun s _ => ?_
    by_cases h1 : s.val < t.val + 1
    · by_cases h2 : s.val < t.val + 1 - w
      · rw [if_pos h1, if_pos h2, if_neg (by omega), mul_zero, zero_add]
      · rw [if_pos h1, if_neg h2, if_pos (by omega), mul_one, add_zero]
    · rw [if_neg h1, if_neg (by omega : ¬ s.val < t.val + 1 - w), if_neg (by omega), mul_zero, add_zero]
  obtain ⟨x, hx⟩ := sum_finite Finset.univ (fun s : Fin 2048 => if s.val < t.val + 1 - w then f s else 0) fun s => by
    by_cases h2 : s.val < t.val + 1 - w
    · obtain ⟨y, hy⟩ := hf s
      exact ⟨y, by simp only [if_pos h2, hy]⟩
    · exact ⟨0, by simp only [if_neg h2, EReal.coe_zero]⟩
  rw [h, hx, EReal.add_sub_cancel_right, sum_inside]

/-- The rows of a window of the whole height that ends at a row are those up to that row. -/
theorem sum_shifted (f : Fin 2048 → EReal) (t : Fin 2048) :
    (∑ i : Fin 2048, if h : 2047 ≤ t.val + i.val then f ⟨t.val + i.val - 2047, by omega⟩ else 0) = ∑ s : Fin 2048, if s.val < t.val + 1 then f s else 0 := by
  have hl : ∀ i : Fin 2048, (if h : 2047 ≤ t.val + i.val then f ⟨t.val + i.val - 2047, by omega⟩ else 0) = if 2047 ≤ t.val + i.val then f ⟨t.val + i.val - 2047, by omega⟩ else 0 := fun i => by
    split_ifs <;> rfl
  simp only [hl]
  rw [← Finset.sum_filter, ← Finset.sum_filter]
  refine Finset.sum_nbij' (fun i : Fin 2048 => (⟨t.val + i.val - 2047, by omega⟩ : Fin 2048)) (fun s : Fin 2048 => (⟨(s.val + 2047 - t.val) % 2048, by omega⟩ : Fin 2048)) ?_ ?_ ?_ ?_ ?_
  · intro s hs
    simp only [Finset.mem_filter, Finset.mem_univ, true_and] at hs ⊢
    omega
  · intro s hs
    simp only [Finset.mem_filter, Finset.mem_univ, true_and] at hs ⊢
    omega
  · intro s hs
    simp only [Finset.mem_filter, Finset.mem_univ, true_and] at hs
    exact Fin.ext (by simp only []; omega)
  · intro s hs
    simp only [Finset.mem_filter, Finset.mem_univ, true_and] at hs
    exact Fin.ext (by simp only []; omega)
  · intro s hs
    rfl

end Cert.PoolSpec

end
-- ==== Proof.PoolPay.lean ====
module

public import proofs.«01_k».proof.Proof.PoolIdealFrame
public import Idealize.ShloMosaic.Lib.Pipeline.ValueKit
public import proofs.«01_k».proof.Proof.PoolSpec

@[expose] public section

set_option maxRecDepth 16384

noncomputable section

open Idealize.ShloMosaic Idealize.ShloMosaic.TcCoe Idealize.SL.Sem
open Cert.PoolSpec (ago count pooled mixed window)

namespace Cert.PoolIdeal.Value

open Cert.PoolIdeal Cert.PoolIdeal.Gen Cert.PoolIdeal.Keep

/-- The column `k` of 1040 rows, at any row number. -/
def row (X : FVec Ideal S1040x1024 .f32) (k : Fin 1024) (i : ℕ) : EReal := if h : i < 1040 then X (ix2 ⟨i, h⟩ k) else 0

/-- The rows, each with the row `c` before it added. -/
def step (c : BitVec 32) (X : FVec Ideal S1040x1024 .f32) : FVec Ideal S1040x1024 .f32 :=
  addf X (dynamicRotate 0 c none X rotates_S1040x1024_d0)

/-- Entry by entry. -/
theorem row_step (c : BitVec 32) (n : ℕ) (hc : c.toNat = n) (X : FVec Ideal S1040x1024 .f32) (k : Fin 1024) (i : ℕ) (hi : i < 1040)
    (hn : n ≤ i) : row (step c X) k i = row X k i + row X k (i - n) := by
  have h' : i - n < 1040 := by omega
  unfold row step
  rw [dif_pos hi, dif_pos hi, dif_pos h']
  have e : dynamicRotate 0 c none X rotates_S1040x1024_d0 (ix2 ⟨i, hi⟩ k) = X (ix2 ⟨(i + 1040 - (c.toNat + 0) % 1040) % 1040, Nat.mod_lt _ (by decide)⟩ k) := by
    pointwise
  refine congrArg (X (ix2 ⟨i, hi⟩ k) + ·) (e.trans ?_)
  have : (i + 1040 - (c.toNat + 0) % 1040) % 1040 = i - n := by rw [hc]; omega
  simp only [this]

/-- Rows that hold the sums of `n` rows, each added to the one `n` before it, hold the sums of `2 n` rows. -/
theorem row_double (c : BitVec 32) (n : ℕ) (hc : c.toNat = n) (X T : FVec Ideal S1040x1024 .f32) (k : Fin 1024)
    (h : ∀ i, i < 1040 → n ≤ i + 1 → row T k i = ∑ j ∈ Finset.range n, row X k (i - j)) (i : ℕ) (hi : i < 1040) (hn : n + n ≤ i + 1) (hp : 0 < n) :
    row (step c T) k i = ∑ j ∈ Finset.range (n + n), row X k (i - j) := by
  rw [row_step c n hc T k i hi (by omega), h i hi (by omega), h (i - n) (by omega) (by omega), Finset.sum_range_add]
  simp only [Nat.sub_sub]

/-- The sums of two rows. -/
theorem row_two (X : FVec Ideal S1040x1024 .f32) (k : Fin 1024) (i : ℕ) (hi : i < 1040) (hn : 2 ≤ i + 1) :
    row (step 1#32 X) k i = ∑ j ∈ Finset.range 2, row X k (i - j) :=
  row_double 1#32 1 (by decide) X X k (fun i _ _ => by simp) i hi hn (by decide)

/-- The sums of four rows. -/
theorem row_four (X : FVec Ideal S1040x1024 .f32) (k : Fin 1024) (i : ℕ) (hi : i < 1040) (hn : 4 ≤ i + 1) :
    row (step 2#32 (step 1#32 X)) k i = ∑ j ∈ Finset.range 4, row X k (i - j) :=
  row_double 2#32 2 (by decide) X _ k (row_two X k) i hi hn (by decide)

/-- The sums of eight rows. -/
theorem row_eight (X : FVec Ideal S1040x1024 .f32) (k : Fin 1024) (i : ℕ) (hi : i < 1040) (hn : 8 ≤ i + 1) :
    row (step 4#32 (step 2#32 (step 1#32 X))) k i = ∑ j ∈ Finset.range 8, row X k (i - j) :=
  row_double 4#32 4 (by decide) X _ k (row_four X k) i hi hn (by decide)

/-- The sums of sixteen rows. -/
theorem row_sixteen (X : FVec Ideal S1040x1024 .f32) (k : Fin 1024) (i : ℕ) (hi : i < 1040) (hn : 16 ≤ i + 1) :
    row (step 8#32 (step 4#32 (step 2#32 (step 1#32 X)))) k i = ∑ j ∈ Finset.range 16, row X k (i - j) :=
  row_double 8#32 8 (by decide) X _ k (row_eight X k) i hi hn (by decide)

/-- The running sums of group `g`. -/
def sums (g : Fin 4) (X : FVec Ideal S1040x1024 .f32) : FVec Ideal S1040x1024 .f32 :=
  match g with
  | ⟨0, _⟩ => step 1#32 X
  | ⟨1, _⟩ => step 2#32 (step 1#32 X)
  | ⟨2, _⟩ => step 4#32 (step 2#32 (step 1#32 X))
  | ⟨3, _⟩ => step 8#32 (step 4#32 (step 2#32 (step 1#32 X)))

/-- They are the sums over the group's window. -/
theorem row_sums (g : Fin 4) (X : FVec Ideal S1040x1024 .f32) (k : Fin 1024) (i : ℕ) (hi : i < 1040) (hn : 16 ≤ i) :
    row (sums g X) k i = ∑ j ∈ Finset.range (window g), row X k (i - j) := by
  match g with
  | 0 => exact row_two X k i hi (by omega)
  | 1 => exact row_four X k i hi (by omega)
  | 2 => exact row_eight X k i hi (by omega)
  | 3 => exact row_sixteen X k i hi (by omega)

/-- The first rows, with sixteen rows of zeros before them. -/
def withZeros (u : Vec Ideal S1x1024x1024 .bf16) : FVec Ideal S1040x1024 .f32 :=
  concatenate S1040x1024 0 [⟨S16x1024, broadcast S16x1024 (Scalar.ofBits (F := Ideal) .f32 0x00000000#32)⟩,
    ⟨S1024x1024, extf .f32 (shapeCast S1024x1024 u shapeCasts_S1x1024x1024_S1024x1024 : FVec Ideal S1024x1024 .bf16) bitsLt_bf16_f32⟩] concatenates_S16x1024_S1024x1024_S1040x1024_d0

/-- The last rows, with the sixteen before them. -/
def withHead (e : Vec Ideal S1x1040x1024 .bf16) : FVec Ideal S1040x1024 .f32 :=
  extf .f32 (shapeCast S1040x1024 e shapeCasts_S1x1040x1024_S1040x1024 : FVec Ideal S1040x1024 .bf16) bitsLt_bf16_f32

/-- A row of the first. -/
theorem row_withZeros (u : Vec Ideal S1x1024x1024 .bf16) (k : Fin 1024) (i : ℕ) (hi : i < 1040) :
    row (withZeros u) k i = if h : 16 ≤ i then u (ix3 0 ⟨i - 16, by omega⟩ k) else 0 := by
  unfold row withZeros
  rw [dif_pos hi]
  by_cases h : 16 ≤ i
  · have h' : ¬ i < 16 := by omega
    rw [dif_pos h]
    pointwise
    rw [dif_neg h']
  · have h' : i < 16 := by omega
    rw [dif_neg h]
    pointwise
    rw [dif_pos h']

/-- A row of the last. -/
theorem row_withHead (e : Vec Ideal S1x1040x1024 .bf16) (k : Fin 1024) (i : ℕ) (hi : i < 1040) :
    row (withHead e) k i = e (ix3 0 ⟨i, hi⟩ k) := by
  unfold row withHead
  rw [dif_pos hi]
  pointwise

/-- The last 1024 of 1040 rows. -/
abbrev tail (X : FVec Ideal S1040x1024 .f32) : FVec Ideal S1024x1024 .f32 :=
  extractStridedSlice S1024x1024 ![16, 0] X slices_S1040x1024_o16_0_S1024x1024

/-- Entry by entry. -/
theorem tail_read (X : FVec Ideal S1040x1024 .f32) (p k : Fin 1024) : tail X (ix2 p k) = row X k (16 + p.val) := by
  unfold tail row
  rw [dif_pos (by omega)]
  pointwise

/-- The means less the rows, in the first rows: divided by the number of rows there are. -/
def diff0 (c : BitVec 32) (X T : FVec Ideal S1040x1024 .f32) : FVec Ideal S1024x1024 .bf16 :=
  truncf .bf16 (subf (divf (tail T) (broadcastTo S1024x1024 (sitofp .f32 (minsi (addi (iota .tc S1024x1 32 [0] iota_S1024x1_d0_w32) (broadcast S1024x1 1#32)) (broadcast S1024x1 c)) : FVec Ideal S1024x1 .f32) broadcasts_S1024x1_S1024x1024)) (tail X)) bitsLt_bf16_f32

/-- The means less the rows, in the last rows: times the reciprocal of the window. -/
def diff1 (c : BitVec 32) (X T : FVec Ideal S1040x1024 .f32) : FVec Ideal S1024x1024 .bf16 :=
  truncf .bf16 (subf (mulf (tail T) (broadcast S1024x1024 (Scalar.ofBits (F := Ideal) .f32 c))) (tail X)) bitsLt_bf16_f32

/-- Entry by entry. -/
theorem diff0_read (c : BitVec 32) (X T : FVec Ideal S1040x1024 .f32) (p k : Fin 1024) :
    diff0 c X T (ix2 p k) = Ideal.div (row T k (16 + p.val)) (((IntOp.minsi (IntOp.addi (BitVec.ofNat 32 p.val) 1#32) c).toInt : ℝ) : EReal) - row X k (16 + p.val) := by
  rw [← tail_read, ← tail_read]
  unfold diff0
  generalize tail T = T'
  generalize tail X = X'
  pointwise
  rfl

/-- Entry by entry. -/
theorem diff1_read (c : BitVec 32) (X T : FVec Ideal S1040x1024 .f32) (p k : Fin 1024) :
    diff1 c X T (ix2 p k) = row T k (16 + p.val) * Ideal.ofBits .f32 c - row X k (16 + p.val) := by
  rw [← tail_read, ← tail_read]
  unfold diff1
  generalize tail T = T'
  generalize tail X = X'
  pointwise

/-- The pooled rows through the matrix, the bias, the scale and the gate. -/
def mix (D : FVec Ideal S1024x1024 .bf16) (w : Vec Ideal S1x1024x1024 .bf16) (b s : Vec Ideal S1x1x1024 .f32) (z : Vec Ideal S1x1024x1024 .bf16) : Vec Ideal S1x1024x1024 .bf16 :=
  k0_pay4 D (k0_pay23 w) (constant S1024x1024 .f32 0x00000000#32) b s z

/-- Entry by entry. -/
theorem mix_read (D : FVec Ideal S1024x1024 .bf16) (w : Vec Ideal S1x1024x1024 .bf16) (b s : Vec Ideal S1x1x1024 .f32) (z : Vec Ideal S1x1024x1024 .bf16) (p q : Fin 1024) :
    mix D w b s z (ix3 0 p q) = mixed (fun k => D (ix2 p k)) (fun k => w (ix3 0 k q)) (b (ix3 0 0 q)) (s (ix3 0 0 q)) (z (ix3 0 p q)) := by
  unfold mix
  rw [mixed, ← zero_sub]
  pointwise [k0_pay4, k0_pay23]

/-- The means less the rows in the first rows of group `g`. -/
def first (g : Fin 4) (u : Vec Ideal S1x1024x1024 .bf16) : FVec Ideal S1024x1024 .bf16 :=
  match g with
  | ⟨0, _⟩ => diff0 2#32 (withZeros u) (sums 0 (withZeros u))
  | ⟨1, _⟩ => diff0 4#32 (withZeros u) (sums 1 (withZeros u))
  | ⟨2, _⟩ => diff0 8#32 (withZeros u) (sums 2 (withZeros u))
  | ⟨3, _⟩ => diff0 16#32 (withZeros u) (sums 3 (withZeros u))

/-- The means less the rows in the last rows of group `g`. -/
def last (g : Fin 4) (e : Vec Ideal S1x1040x1024 .bf16) : FVec Ideal S1024x1024 .bf16 :=
  match g with
  | ⟨0, _⟩ => diff1 0x3F000000#32 (withHead e) (sums 0 (withHead e))
  | ⟨1, _⟩ => diff1 0x3E800000#32 (withHead e) (sums 1 (withHead e))
  | ⟨2, _⟩ => diff1 0x3E000000#32 (withHead e) (sums 2 (withHead e))
  | ⟨3, _⟩ => diff1 0x3D800000#32 (withHead e) (sums 3 (withHead e))

/-- What the body stores in the first rows. -/
theorem half0_eq (g : Fin 4) (u z : Vec Ideal S1x1024x1024 .bf16) (w : Vec Ideal S1x1024x1024 .bf16) (b s : Vec Ideal S1x1x1024 .f32) :
    half0 g u z w b s = mix (first g u) w b s z := by
  match g with
  | 0 => rfl
  | 1 => rfl
  | 2 => rfl
  | 3 => rfl

/-- What the body stores in the last rows. -/
theorem half1_eq (g : Fin 4) (e : Vec Ideal S1x1040x1024 .bf16) (z : Vec Ideal S1x1024x1024 .bf16) (w : Vec Ideal S1x1024x1024 .bf16) (b s : Vec Ideal S1x1x1024 .f32) :
    half1 g e z w b s = mix (last g e) w b s z := by
  match g with
  | 0 => rfl
  | 1 => rfl
  | 2 => rfl
  | 3 => rfl

/-- The count of rows as the body counts it, in the words it uses. -/
theorem words : ∀ (g : Fin 4) (p : Fin 1024), (IntOp.minsi (IntOp.addi (BitVec.ofNat 32 p.val) 1#32) (BitVec.ofNat 32 (window g))).toInt = ((min (p.val + 1) (window g) : ℕ) : ℤ) := by
  decide +kernel

/-- The same at the row of the sequence. -/
theorem count_eq (g : Fin 4) (c : BitVec 32) (hc : c = BitVec.ofNat 32 (window g)) (p : Fin 1024) (t : Fin 2048) (ht : t.val = p.val) :
    (((IntOp.minsi (IntOp.addi (BitVec.ofNat 32 p.val) 1#32) c).toInt : ℝ) : EReal) = count (window g) t := by
  rw [hc, words g p, Cert.PoolSpec.count_def, ht, Int.cast_natCast]

/-- A mean less its row in the first rows. -/
theorem diff0_pooled (g : Fin 4) (c : BitVec 32) (hc : c = BitVec.ofNat 32 (window g)) (hw : window g ≤ 16) (u : Vec Ideal S1x1024x1024 .bf16) (f : Fin 2048 → EReal)
    (p k : Fin 1024) (t : Fin 2048) (ht : t.val = p.val) (hf : ∀ (r : Fin 1024) (r' : Fin 2048), r'.val = r.val → u (ix3 0 r k) = f r') :
    diff0 c (withZeros u) (sums g (withZeros u)) (ix2 p k) = pooled (window g) f t := by
  rw [diff0_read, row_sums g _ k (16 + p.val) (by omega) (by omega), count_eq g c hc p t ht, pooled]
  refine congrArg₂ (· - ·) (congrArg (Ideal.div · (count (window g) t)) (Finset.sum_congr rfl fun j hj => ?_)) ?_
  · have hj' : j < window g := Finset.mem_range.mp hj
    rw [row_withZeros u k _ (by omega), ago]
    by_cases h : j ≤ t.val
    · rw [dif_pos (by omega), if_pos h]
      exact hf _ _ (by simp only []; omega)
    · rw [dif_neg (by omega), if_neg h]
  · rw [row_withZeros u k _ (by omega), dif_pos (by omega)]
    exact hf _ _ (by simp only []; omega)

/-- A mean less its row in the last rows. -/
theorem diff1_pooled (g : Fin 4) (c : BitVec 32) (hc : Ideal.ofBits .f32 c = (((1 : ℝ) / (window g : ℕ) : ℝ) : EReal)) (hw : window g ≤ 16) (h0 : window g ≠ 0) (e : Vec Ideal S1x1040x1024 .bf16) (f : Fin 2048 → EReal)
    (p k : Fin 1024) (t : Fin 2048) (ht : t.val = 1024 + p.val) (hf : ∀ (r : Fin 1040) (r' : Fin 2048), r'.val = 1008 + r.val → e (ix3 0 r k) = f r') :
    diff1 c (withHead e) (sums g (withHead e)) (ix2 p k) = pooled (window g) f t := by
  rw [diff1_read, row_sums g _ k (16 + p.val) (by omega) (by omega), Cert.PoolSpec.mul_recip c (window g) h0 hc, pooled, Cert.PoolSpec.count_def,
    min_eq_right (by omega)]
  refine congrArg₂ (· - ·) (congrArg (Ideal.div · _) (Finset.sum_congr rfl fun j hj => ?_)) ?_
  · have hj' : j < window g := Finset.mem_range.mp hj
    rw [row_withHead e k _ (by omega), ago, if_pos (by omega)]
    exact hf _ _ (by simp only []; omega)
  · rw [row_withHead e k _ (by omega)]
    exact hf _ _ (by simp only []; omega)

/-- The first rows of group `g`. -/
theorem first_read (g : Fin 4) (u : Vec Ideal S1x1024x1024 .bf16) (f : Fin 2048 → EReal)
    (p k : Fin 1024) (t : Fin 2048) (ht : t.val = p.val) (hf : ∀ (r : Fin 1024) (r' : Fin 2048), r'.val = r.val → u (ix3 0 r k) = f r') :
    first g u (ix2 p k) = pooled (window g) f t := by
  match g with
  | 0 => exact diff0_pooled 0 2#32 (by decide) (by decide) u f p k t ht hf
  | 1 => exact diff0_pooled 1 4#32 (by decide) (by decide) u f p k t ht hf
  | 2 => exact diff0_pooled 2 8#32 (by decide) (by decide) u f p k t ht hf
  | 3 => exact diff0_pooled 3 16#32 (by decide) (by decide) u f p k t ht hf

/-- The last rows of group `g`. -/
theorem last_read (g : Fin 4) (e : Vec Ideal S1x1040x1024 .bf16) (f : Fin 2048 → EReal)
    (p k : Fin 1024) (t : Fin 2048) (ht : t.val = 1024 + p.val) (hf : ∀ (r : Fin 1040) (r' : Fin 2048), r'.val = 1008 + r.val → e (ix3 0 r k) = f r') :
    last g e (ix2 p k) = pooled (window g) f t := by
  match g with
  | 0 => exact diff1_pooled 0 _ Cert.PoolSpec.half (by decide) (by decide) e f p k t ht hf
  | 1 => exact diff1_pooled 1 _ Cert.PoolSpec.quarter (by decide) (by decide) e f p k t ht hf
  | 2 => exact diff1_pooled 2 _ Cert.PoolSpec.eighth (by decide) (by decide) e f p k t ht hf
  | 3 => exact diff1_pooled 3 _ Cert.PoolSpec.sixteenth (by decide) (by decide) e f p k t ht hf

end Cert.PoolIdeal.Value

end
-- ==== Proof.PoolOut.lean ====
module

public import proofs.«01_k».proof.Proof.PoolIdealFrame
public import Idealize.ShloMosaic.Lib.Pipeline.ValueKit
public import proofs.«01_k».proof.Proof.PoolPay

@[expose] public section

set_option maxRecDepth 16384

noncomputable section

open Idealize.ShloMosaic Idealize.ShloMosaic.TcCoe Idealize.SL.Sem
open Cert.PoolSpec (ago count pooled mixed window)

namespace Cert.PoolIdeal.Value

open Cert.PoolIdeal Cert.PoolIdeal.Gen Cert.PoolIdeal.Keep

/-- Rows of a block as the body loads them. -/
theorem ld_first (x : Vec Ideal S1x2048x1024 .bf16) (r k : Fin 1024) (r' : Fin 2048) (h : r'.val = r.val) :
    (View.ld x firstRows : Vec Ideal S1x1024x1024 .bf16) (ix3 0 r k) = x (ix3 0 r' k) := by
  refine congrArg x (funext fun a => Fin.ext ?_)
  match a with
  | 0 => rfl
  | 1 => exact (show 0 + 1 * r.val = r'.val by omega)
  | 2 => exact (show 0 + 1 * k.val = k.val by omega)

/-- The last rows. -/
theorem ld_last (x : Vec Ideal S1x2048x1024 .bf16) (r k : Fin 1024) (r' : Fin 2048) (h : r'.val = 1024 + r.val) :
    (View.ld x lastRows : Vec Ideal S1x1024x1024 .bf16) (ix3 0 r k) = x (ix3 0 r' k) := by
  refine congrArg x (funext fun a => Fin.ext ?_)
  match a with
  | 0 => rfl
  | 1 => exact (show 1024 + 1 * r.val = r'.val by omega)
  | 2 => exact (show 0 + 1 * k.val = k.val by omega)

/-- The last rows with the sixteen before them. -/
theorem ld_head (x : Vec Ideal S1x2048x1024 .bf16) (r : Fin 1040) (k : Fin 1024) (r' : Fin 2048) (h : r'.val = 1008 + r.val) :
    (View.ld x lastRowsWithHead : Vec Ideal S1x1040x1024 .bf16) (ix3 0 r k) = x (ix3 0 r' k) := by
  refine congrArg x (funext fun a => Fin.ext ?_)
  match a with
  | 0 => rfl
  | 1 => exact (show 1008 + 1 * r.val = r'.val by omega)
  | 2 => exact (show 0 + 1 * k.val = k.val by omega)

/-- A matrix is loaded whole. -/
theorem ld_matrix (x : Vec Ideal S1x1024x1024 .bf16) : View.ld x wholeMatrix = x :=
  View.ld_unit_zero (by funext a; match a with | 0 => rfl | 1 => rfl | 2 => rfl) _ _

/-- A row is loaded whole. -/
theorem ld_row (x : Vec Ideal S1x1x1024 .f32) : View.ld x wholeRow = x :=
  View.ld_unit_zero (by funext a; match a with | 0 => rfl | 1 => rfl | 2 => rfl) _ _

/-- A row of the first is none of the last. -/
theorem not_last (t : Fin 2048) (q : Fin 1024) (h : t.val < 1024) : (ix3 0 t q : S1x2048x1024.Idx) ∉ lastRows.set := by
  intro hy
  obtain ⟨j, -, e⟩ := (LoadRect.mem_set _).mp hy 1
  have e' : t.val = 1024 + 1 * j := e
  omega

/-- It is one of the first. -/
theorem emb_first (p q : Fin 1024) (t : Fin 2048) (h : t.val = p.val) :
    (ix3 0 t q : S1x2048x1024.Idx) = firstRows.emb (ix3 0 p q : S1x1024x1024.Idx) := by
  refine funext fun a => Fin.ext ?_
  match a with
  | 0 => rfl
  | 1 => exact (show t.val = 0 + 1 * p.val by omega)
  | 2 => exact (show q.val = 0 + 1 * q.val by omega)

/-- Two pieces, the last rows and the first: at a row of the first. -/
theorem canon_first (a b : Vec Ideal S1x1024x1024 .bf16) (p q : Fin 1024) (t : Fin 2048) (h : t.val = p.val) :
    View.canon (Val := Elt Ideal) [⟨lastRows, a⟩, ⟨firstRows, b⟩] (ix3 0 t q : S1x2048x1024.Idx) = b (ix3 0 p q) := by
  have hm := not_last t q (by have := p.isLt; omega)
  refine (View.canon_cons_of_not_mem (Val := Elt Ideal) ⟨lastRows, a⟩ [⟨firstRows, b⟩] hm).trans ?_
  rw [emb_first p q t h]
  exact View.canon_cons_emb _ _ _ _

/-- Two pieces, the last rows and the first: at a row of the last. -/
theorem canon_last (a b : Vec Ideal S1x1024x1024 .bf16) (p q : Fin 1024) (t : Fin 2048) (h : t.val = 1024 + p.val) :
    View.canon (Val := Elt Ideal) [⟨lastRows, a⟩, ⟨firstRows, b⟩] (ix3 0 t q : S1x2048x1024.Idx) = a (ix3 0 p q) := by
  have he : (ix3 0 t q : S1x2048x1024.Idx) = lastRows.emb (ix3 0 p q : S1x1024x1024.Idx) := by
    refine funext fun a => Fin.ext ?_
    match a with
    | 0 => rfl
    | 1 => exact (show t.val = 1024 + 1 * p.val by omega)
    | 2 => exact (show q.val = 0 + 1 * q.val by omega)
  rw [he]
  exact View.canon_cons_emb _ _ _ _

/-- What the body leaves in the output's block, row by row, of the input blocks. -/
theorem out_read (g : Fin 4) (x0 x1 : Vec Ideal S1x2048x1024 .bf16) (x2 : Vec Ideal S1x1024x1024 .bf16) (x3 x4 : Vec Ideal S1x1x1024 .f32)
    (t : Fin 2048) (q : Fin 1024) :
    out g x0 x1 x2 x3 x4 (ix3 0 t q) = mixed (fun k => pooled (window g) (fun r => x0 (ix3 0 r k)) t) (fun k => x2 (ix3 0 k q))
      (x3 (ix3 0 0 q)) (x4 (ix3 0 0 q)) (x1 (ix3 0 t q)) := by
  unfold out
  rw [ld_matrix, ld_row, ld_row]
  by_cases h : t.val < 1024
  · refine (canon_first _ _ ⟨t.val, h⟩ q t rfl).trans ?_
    rw [half0_eq]
    refine (mix_read _ _ _ _ _ _ _).trans ?_
    rw [ld_first x1 ⟨t.val, h⟩ q t rfl]
    refine congrArg (mixed · _ _ _ _) (funext fun k => ?_)
    exact first_read g _ _ _ k t rfl fun r r' hr => ld_first x0 r k r' hr
  · have hp : t.val - 1024 < 1024 := by omega
    have ht : t.val = 1024 + (⟨t.val - 1024, hp⟩ : Fin 1024).val := by simp only []; omega
    refine (canon_last _ _ ⟨t.val - 1024, hp⟩ q t ht).trans ?_
    rw [half1_eq]
    refine (mix_read _ _ _ _ _ _ _).trans ?_
    rw [ld_last x1 ⟨t.val - 1024, hp⟩ q t ht]
    refine congrArg (mixed · _ _ _ _) (funext fun k => ?_)
    exact last_read g _ _ _ k t ht fun r r' hr => ld_head x0 r k r' hr

end Cert.PoolIdeal.Value

end
-- ==== Proof.PoolRefRead.lean ====
module

public import proofs.«01_k».proof.Proof.Gen.PoolRefIdeal.Run
public import Idealize.ShloMosaic.Lib.Pipeline.ValueKit
public import proofs.«01_k».proof.Pre_uz_finite
public import proofs.«01_k».proof.Proof.PoolSpec

@[expose] public section

set_option maxRecDepth 16384

noncomputable section

open Idealize.ShloMosaic Idealize.ShloMosaic.TcCoe Idealize.SL.Sem
open Cert.PoolSpec (ago count pooled mixed window sum_inside)

namespace Cert.PoolRefIdeal.Value

open Cert.PoolRefIdeal Cert.PoolRefIdeal.Gen

/-- The rows' numbers, for each group. -/
def places : IVec S2048x4 32 :=
  broadcastInDim S2048x4 ![0, 1] bcast_S2048x1_S2048x4_0_1 (broadcastInDim S2048x1 ![0] bcast_S2048_S2048x1_0 (iotaInDim S2048 32 0))

/-- Where the window that ends at a row begins, for each group. -/
def starts : IVec S2048x4 32 :=
  maxsi (addi (subi places (broadcastInDim S2048x4 ![0, 1] bcast_S1x4_S2048x4_0_1 (broadcastInDim S1x4 ![1] bcast_S4_S1x4_1 (fun i => lit0 (S4.rowMajor i))))) (broadcastInDim S2048x4 ![] bcast_S_S2048x4 (constantI S_ 32 1#32))) (broadcastInDim S2048x4 ![] bcast_S_S2048x4 (constantI S_ 32 0#32))

/-- Its word, at every row and group. -/
theorem start_words : ∀ (t : Fin 2048) (g : Fin 4), IntOp.maxsi (IntOp.addi (IntOp.subi (BitVec.ofNat 32 t.val) (lit0 g)) 1#32) 0#32 = BitVec.ofNat 32 (t.val + 1 - window g) := by
  decide +kernel

/-- The count of its rows, at every row and group. -/
theorem count_words : ∀ (t : Fin 2048) (g : Fin 4), (IntOp.addi (IntOp.subi (BitVec.ofNat 32 t.val) (BitVec.ofNat 32 (t.val + 1 - window g))) 1#32).toInt = ((min (t.val + 1) (window g) : ℕ) : ℤ) := by
  decide +kernel

/-- A row's number. -/
theorem places_read (t : Fin 2048) (g : Fin 4) : places (ix2 t g) = BitVec.ofNat 32 t.val := by
  unfold places
  pointwise

/-- The place of a group among the four. -/
theorem place4 (g : Fin 4) : S4.rowMajor (ix1 g) = g := by
  fin_cases g <;> rfl

/-- Entry by entry. -/
theorem starts_read (t : Fin 2048) (g : Fin 4) : starts (ix2 t g) = BitVec.ofNat 32 (t.val + 1 - window g) := by
  refine Eq.trans ?_ (start_words t g)
  rw [← places_read t g]
  have h := congrArg lit0 (place4 g)
  rw [← h]
  unfold starts
  generalize places = P
  generalize lit0 = L
  pointwise

/-- The numbers of rows in the windows. -/
def counts : FVec Ideal S2048x4 .f32 := sitofp .f32 (addi (subi places starts) (broadcastInDim S2048x4 ![] bcast_S_S2048x4 (constantI S_ 32 1#32)))

/-- Entry by entry. -/
theorem counts_read (t : Fin 2048) (g : Fin 4) : counts (ix2 t g) = count (window g) t := by
  have h : (((IntOp.addi (IntOp.subi (places (ix2 t g)) (starts (ix2 t g))) 1#32).toInt : ℝ) : EReal) = count (window g) t := by
    rw [places_read, starts_read, count_words t g, Cert.PoolSpec.count_def, Int.cast_natCast]
  refine Eq.trans ?_ h
  unfold counts
  generalize places = P
  generalize starts = Q
  pointwise
  rfl

/-- A small number's word read as an integer. -/
theorem small_toInt (a : ℕ) (ha : a < 4096) : (BitVec.ofNat 32 a).toInt = (a : ℤ) := by
  have h : (BitVec.ofNat 32 a).toNat = a := by
    rw [BitVec.toNat_ofNat]
    exact Nat.mod_eq_of_lt (by omega)
  rw [BitVec.toInt_eq_toNat_of_lt (by rw [h]; omega), h]

/-- A prefix sum as the host writes it: a window of the whole height, the rows before the first ones counted as zero. -/
def totals (X : FVec Ideal S16x2048x4x1024 .f32) : FVec Ideal S16x2048x4x1024 .f32 :=
  Host.reduceWindowAdd ![1, 2048, 1, 1] ![1, 1, 1, 1] ![0, 2047, 0, 0] ![0, 0, 0, 0] X (broadcastInDim S_ ![] bcast_S_S_ (constant S_ .f32 0x00000000#32)) reduceWindows_S16x2048x4x1024_S16x2048x4x1024_w1s1p0_0_w2048s1p2047_0_w1s1p0_0_w1s1p0_0 h_S_

/-- The window's shape. -/
abbrev Win : Shape := ⟨4, ![1, 2048, 1, 1]⟩

/-- A place in the window is a row. -/
def winEquiv : Fin 2048 ≃ Win.Idx where
  toFun i := ix4 (0 : Fin 1) i (0 : Fin 1) (0 : Fin 1)
  invFun p := p 1
  left_inv i := rfl
  right_inv p := by
    have h : ∀ z : Fin 1, 0 = z := by decide
    refine Eq.trans ?_ (eq_ix4 p).symm
    exact (congrArg₂ (fun (a c : Fin 1) => (ix4 a (p 1) c (0 : Fin 1) : Win.Idx)) (h (p 0)) (h (p 2))).trans
      (congrArg (fun d : Fin 1 => (ix4 (p 0) (p 1) (p 2) d : Win.Idx)) (h (p 3)))

/-- A fold of sums from zero is the sum. -/
theorem foldl_sum {n : ℕ} (F : Fin n → EReal) : (List.finRange n).foldl (fun r i => r + F i) 0 = ∑ i, F i := by
  rw [Fin.sum_univ_def, List.sum_eq_foldl, List.foldl_map]

/-- A window's sum over its places. -/
theorem window_sum {s t : Shape} (window strides lo hi : Fin s.rank → ℕ) (h : s.ReduceWindows window strides lo hi t) (x : s.Idx → EReal) (j : t.Idx) :
    Ideal.hostReduceWindowAdd window strides lo hi h x 0 j = ∑ q : (⟨s.rank, window⟩ : Shape).Idx,
      (if hin : ∀ a, lo a ≤ (j (a.cast h.1.symm)).val * strides a + (q a).val ∧ (j (a.cast h.1.symm)).val * strides a + (q a).val - lo a < s.size a then
        x (fun a => ⟨(j (a.cast h.1.symm)).val * strides a + (q a).val - lo a, (hin a).2⟩) else 0) := by
  unfold Ideal.hostReduceWindowAdd Host.reduceWindow
  refine (foldl_sum _).trans ?_
  rw [← Equiv.sum_comp (⟨s.rank, window⟩ : Shape).rowMajor]
  refine Finset.sum_congr rfl fun i _ => ?_
  simp only [Equiv.symm_apply_apply]

/-- Entry by entry. -/
theorem totals_read (X : FVec Ideal S16x2048x4x1024 .f32) (b : Fin 16) (t : Fin 2048) (g : Fin 4) (k : Fin 1024) :
    totals X (ix4 b t g k) = ∑ s : Fin 2048, if s.val < t.val + 1 then X (ix4 b s g k) else 0 := by
  rw [← Cert.PoolSpec.sum_shifted (fun s => X (ix4 b s g k)) t]
  have hz : (broadcastInDim S_ ![] bcast_S_S_ (constant S_ .f32 0x00000000#32) : FVec Ideal S_ .f32) (Shape.Idx.first h_S_) = (0 : EReal) := by
    pointwise
  unfold totals Host.reduceWindowAdd
  generalize (broadcastInDim S_ ![] bcast_S_S_ (constant S_ .f32 0x00000000#32) : FVec Ideal S_ .f32) (Shape.Idx.first h_S_) = v at hz ⊢
  subst hz
  refine (window_sum (s := S16x2048x4x1024) (t := S16x2048x4x1024) ![1, 2048, 1, 1] ![1, 1, 1, 1] ![0, 2047, 0, 0] ![0, 0, 0, 0] reduceWindows_S16x2048x4x1024_S16x2048x4x1024_w1s1p0_0_w2048s1p2047_0_w1s1p0_0_w1s1p0_0 X (ix4 b t g k)).trans ?_
  refine (Equiv.sum_comp winEquiv _).symm.trans ?_
  refine Finset.sum_congr rfl fun i _ => ?_
  have hb := b.isLt
  have ht := t.isLt
  have hg := g.isLt
  have hk := k.isLt
  have hi := i.isLt
  by_cases h : 2047 ≤ t.val + i.val
  · rw [dif_pos h, dif_pos fun a => by
      match a with
      | ⟨0, _⟩ =>
        show 0 ≤ b.val * 1 + 0 ∧ b.val * 1 + 0 - 0 < 16
        omega
      | ⟨1, _⟩ =>
        show 2047 ≤ t.val * 1 + i.val ∧ t.val * 1 + i.val - 2047 < 2048
        omega
      | ⟨2, _⟩ =>
        show 0 ≤ g.val * 1 + 0 ∧ g.val * 1 + 0 - 0 < 4
        omega
      | ⟨3, _⟩ =>
        show 0 ≤ k.val * 1 + 0 ∧ k.val * 1 + 0 - 0 < 1024
        omega]
    refine congrArg X (funext fun a => Fin.ext ?_)
    match a with
    | ⟨0, _⟩ =>
      show b.val * 1 + 0 - 0 = b.val
      omega
    | ⟨1, _⟩ =>
      show t.val * 1 + i.val - 2047 = t.val + i.val - 2047
      omega
    | ⟨2, _⟩ =>
      show g.val * 1 + 0 - 0 = g.val
      omega
    | ⟨3, _⟩ =>
      show k.val * 1 + 0 - 0 = k.val
      omega
  · rw [dif_neg h, dif_neg fun hin => h ?_]
    have h1 : 2047 ≤ t.val * 1 + i.val ∧ t.val * 1 + i.val - 2047 < 2048 := hin 1
    omega

/-- The running sums, a zero before them. -/
def runs (X : FVec Ideal S16x2048x4x1024 .f32) : FVec Ideal S16x2049x4x1024 .f32 :=
  concatenate S16x2049x4x1024 1 [⟨S16x1x4x1024, (broadcastInDim S16x1x4x1024 ![] bcast_S_S16x1x4x1024 (constant S_ .f32 0x00000000#32) : FVec Ideal S16x1x4x1024 .f32)⟩, ⟨S16x2048x4x1024, totals X⟩] concatenates_S16x1x4x1024_S16x2048x4x1024_S16x2049x4x1024_d1

/-- Entry by entry. -/
theorem runs_read (X : FVec Ideal S16x2048x4x1024 .f32) (b : Fin 16) (r : Fin 2049) (g : Fin 4) (k : Fin 1024) :
    runs X (ix4 b r g k) = ∑ s : Fin 2048, if s.val < r.val then X (ix4 b s g k) else 0 := by
  have ht := fun t => totals_read X b t g k
  unfold runs
  generalize totals X = T at ht ⊢
  pointwise
  by_cases h : r.val < 1
  · rw [dif_pos h]
    refine (Finset.sum_eq_zero fun s _ => ?_).symm
    rw [if_neg (by omega)]
  · rw [dif_neg h, ht]
    refine Finset.sum_congr rfl fun s _ => ?_
    have e : (s.val < r.val - 1 + 1) = (s.val < r.val) := by
      rw [Nat.sub_add_cancel (by omega)]
    simp only [e]

/-- A row's word is not negative, so it is taken as it is. -/
theorem row_words : ∀ (t : Fin 2048) (g : Fin 4), Scalar.select (IntOp.cmpi CmpIPredicate.slt (BitVec.ofNat 32 (t.val + 1 - window g)) 0#32) (IntOp.addi (BitVec.ofNat 32 (t.val + 1 - window g)) 2049#32) (BitVec.ofNat 32 (t.val + 1 - window g)) = BitVec.ofNat 32 (t.val + 1 - window g) := by
  decide +kernel

/-- Nor is a group's. -/
theorem group_words : ∀ g : Fin 4, Scalar.select (IntOp.cmpi CmpIPredicate.slt (BitVec.ofNat 32 g.val) 0#32) (IntOp.addi (BitVec.ofNat 32 g.val) 4#32) (BitVec.ofNat 32 g.val) = BitVec.ofNat 32 g.val := by
  decide +kernel

/-- The row and the group that the lower running sum is read at. -/
def picks : IVec S2048x4x2 32 :=
  concatenate S2048x4x2 2 [⟨S2048x4x1, (broadcastInDim S2048x4x1 ![0, 1] bcast_S2048x4_S2048x4x1_0_1 (select (cmpi .slt starts (broadcastInDim S2048x4 ![] bcast_S_S2048x4 (constantI S_ 32 0#32))) (addi starts (broadcastInDim S2048x4 ![] bcast_S_S2048x4 (constantI S_ 32 2049#32))) starts))⟩, ⟨S2048x4x1, (broadcastInDim S2048x4x1 ![0, 1] bcast_S2048x4_S2048x4x1_0_1 (broadcastInDim S2048x4 ![1] bcast_S4_S2048x4_1 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0))))⟩] concatenates_S2048x4x1_S2048x4x1_S2048x4x2_d2

/-- The row. -/
theorem picks_row (t : Fin 2048) (g : Fin 4) : picks (ix3 t g 0) = BitVec.ofNat 32 (t.val + 1 - window g) := by
  have hs := starts_read t g
  unfold picks
  generalize starts = Q at hs ⊢
  pointwise
  rw [hs]
  exact row_words t g

/-- The group. -/
theorem picks_group (t : Fin 2048) (g : Fin 4) : picks (ix3 t g 1) = BitVec.ofNat 32 g.val := by
  unfold picks
  generalize starts = Q
  pointwise
  exact group_words g

/-- The lower running sum of each window. -/
def lower (C : FVec Ideal S16x2049x4x1024 .f32) (I : IVec S2048x4x2 32) : FVec Ideal S16x2048x4x1024 .f32 :=
  Host.gather gather_S16x2049x4x1024_S2048x4x2_S16x2048x4x1024_03_12_n_n_12_2_16111024 C I

/-- Where a result's entry finds its row. -/
theorem pick_at0 (b : Fin 16) (t : Fin 2048) (g : Fin 4) (k : Fin 1024) (h : 0 < 2) :
    gather_S16x2049x4x1024_S2048x4x2_S16x2048x4x1024_03_12_n_n_12_2_16111024.siIdx (ix4 b t g k) ⟨0, h⟩ = ix3 t g 0 := by
  funext a
  match a with
  | ⟨0, _⟩ => rfl
  | ⟨1, _⟩ => rfl
  | ⟨2, _⟩ => rfl

/-- Where a result's entry finds its group. -/
theorem pick_at1 (b : Fin 16) (t : Fin 2048) (g : Fin 4) (k : Fin 1024) (h : 1 < 2) :
    gather_S16x2049x4x1024_S2048x4x2_S16x2048x4x1024_03_12_n_n_12_2_16111024.siIdx (ix4 b t g k) ⟨1, h⟩ = ix3 t g 1 := by
  funext a
  match a with
  | ⟨0, _⟩ => rfl
  | ⟨1, _⟩ => rfl
  | ⟨2, _⟩ => rfl

/-- A word in range is taken as it is. -/
theorem at_word (I : IVec S2048x4x2 32) (W V : S2048x4x2.Idx) (h : W = V) (n N : ℕ) (hn : n ≤ N) (hN : N < 4096) (hI : I V = BitVec.ofNat 32 n) :
    min (I W).toInt.toNat N + 0 + 0 = n := by
  rw [h, hI, small_toInt n (by omega)]
  omega

/-- Entry by entry, the row and the group being in range. -/
theorem lower_read (C : FVec Ideal S16x2049x4x1024 .f32) (I : IVec S2048x4x2 32) (b : Fin 16) (t : Fin 2048) (g : Fin 4) (k : Fin 1024) (r : Fin 2049)
    (hr : I (ix3 t g 0) = BitVec.ofNat 32 r.val) (hg : I (ix3 t g 1) = BitVec.ofNat 32 g.val) : lower C I (ix4 b t g k) = C (ix4 b r g k) := by
  unfold lower Host.gather
  refine congrArg C (funext fun a => Fin.ext ?_)
  match a with
  | ⟨0, _⟩ =>
    show 0 + 0 + b.val = b.val
    omega
  | ⟨1, _⟩ =>
    show min (I (gather_S16x2049x4x1024_S2048x4x2_S16x2048x4x1024_03_12_n_n_12_2_16111024.siIdx (ix4 b t g k) ⟨0, _⟩)).toInt.toNat (2049 - 1) + 0 + 0 = r.val
    exact at_word I _ _ (pick_at0 b t g k _) r.val 2048 (by omega) (by omega) hr
  | ⟨2, _⟩ =>
    show min (I (gather_S16x2049x4x1024_S2048x4x2_S16x2048x4x1024_03_12_n_n_12_2_16111024.siIdx (ix4 b t g k) ⟨1, _⟩)).toInt.toNat (4 - 1) + 0 + 0 = g.val
    exact at_word I _ _ (pick_at1 b t g k _) g.val 3 (by omega) (by omega) hg
  | ⟨3, _⟩ =>
    show 0 + 0 + k.val = k.val
    omega

/-- The first half of the rows, in the four groups. -/
def groups (UZ : FVec Ideal S16x2048x8192 .bf16) : FVec Ideal S16x2048x4x1024 .f32 :=
  shapeCast S16x2048x4x1024 (extractStridedSlice S16x2048x4096 ![0, 0, 0] (extf .f32 UZ bitsLt_bf16_f32 : FVec Ideal S16x2048x8192 .f32) slices_S16x2048x8192_S16x2048x4096_0_0_0) shapeCasts_S16x2048x4096_S16x2048x4x1024

/-- Entry by entry. -/
theorem groups_read (UZ : FVec Ideal S16x2048x8192 .bf16) (b : Fin 16) (t : Fin 2048) (g : Fin 4) (k : Fin 1024) :
    groups UZ (ix4 b t g k) = UZ (ix3 b t ⟨g.val * 1024 + k.val, by omega⟩) := by
  unfold groups
  pointwise

/-- The windows' means less the rows. -/
def less (X : FVec Ideal S16x2048x4x1024 .f32) (R : FVec Ideal S16x2049x4x1024 .f32) (L : FVec Ideal S16x2048x4x1024 .f32) (C : FVec Ideal S2048x4 .f32) : FVec Ideal S16x2048x4x1024 .f32 :=
  subf (Host.divf (subf (extractStridedSlice S16x2048x4x1024 ![0, 1, 0, 0] R slices_S16x2049x4x1024_S16x2048x4x1024_0_1_0_0) L) (broadcastInDim S16x2048x4x1024 ![0, 1, 2, 3] bcast_S1x2048x4x1_S16x2048x4x1024_0_1_2_3 (broadcastInDim S1x2048x4x1 ![1, 2] bcast_S2048x4_S1x2048x4x1_1_2 C))) X

/-- Entry by entry. -/
theorem less_read (X : FVec Ideal S16x2048x4x1024 .f32) (R : FVec Ideal S16x2049x4x1024 .f32) (L : FVec Ideal S16x2048x4x1024 .f32) (C : FVec Ideal S2048x4 .f32) (b : Fin 16) (t : Fin 2048) (g : Fin 4) (k : Fin 1024) :
    less X R L C (ix4 b t g k) = Ideal.div (R (ix4 b ⟨1 + t.val, by omega⟩ g k) - L (ix4 b t g k)) (C (ix2 t g)) - X (ix4 b t g k) := by
  unfold less
  pointwise

/-- The groups through their matrices, with the biases, side by side. -/
def through (D : FVec Ideal S16x2048x4x1024 .f32) (W : FVec Ideal S4x1024x1024 .f32) (B : FVec Ideal S4x1024 .f32) : FVec Ideal S16x2048x4096 .f32 :=
  shapeCast S16x2048x4096 (addf (transpose S16x2048x4x1024 [2, 3, 0, 1] (Host.dotGeneral dot_S4x1024x1024_S16x2048x4x1024_S4x1024x16x2048_1_3_2_01_0_2 none W D : FVec Ideal S4x1024x16x2048 .f32) transposes_S4x1024x16x2048_S16x2048x4x1024_2_3_0_1) (broadcastInDim S16x2048x4x1024 ![0, 1, 2, 3] bcast_S1x1x4x1024_S16x2048x4x1024_0_1_2_3 (broadcastInDim S1x1x4x1024 ![2, 3] bcast_S4x1024_S1x1x4x1024_2_3 B))) shapeCasts_S16x2048x4x1024_S16x2048x4096

/-- Entry by entry. -/
theorem through_read (D : FVec Ideal S16x2048x4x1024 .f32) (W : FVec Ideal S4x1024x1024 .f32) (B : FVec Ideal S4x1024 .f32) (b : Fin 16) (t : Fin 2048) (g : Fin 4) (q : Fin 1024) :
    through D W B (ix3 b t ⟨g.val * 1024 + q.val, by omega⟩) = ∑ k, W (ix3 g k q) * D (ix4 b t g k) + B (ix2 g q) := by
  unfold through
  pointwise

/-- The scale and the gate. -/
def gated (Y : FVec Ideal S16x2048x4096 .f32) (UZ : FVec Ideal S16x2048x8192 .bf16) (S : FVec Ideal S4096 .f32) : FVec Ideal S16x2048x4096 .bf16 :=
  truncf .bf16 (mulf (mulf Y (broadcastInDim S16x2048x4096 ![0, 1, 2] bcast_S1x1x4096_S16x2048x4096_0_1_2 (broadcastInDim S1x1x4096 ![2] bcast_S4096_S1x1x4096_2 S))) (mulf (extractStridedSlice S16x2048x4096 ![0, 0, 4096] (extf .f32 UZ bitsLt_bf16_f32) slices_S16x2048x8192_S16x2048x4096_0_0_4096) (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (extractStridedSlice S16x2048x4096 ![0, 0, 4096] (extf .f32 UZ bitsLt_bf16_f32) slices_S16x2048x8192_S16x2048x4096_0_0_4096))))))) bitsLt_bf16_f32

/-- Entry by entry. -/
theorem gated_read (Y : FVec Ideal S16x2048x4096 .f32) (UZ : FVec Ideal S16x2048x8192 .bf16) (S : FVec Ideal S4096 .f32) (b : Fin 16) (t : Fin 2048) (n : Fin 4096) :
    gated Y UZ S (ix3 b t n) = Y (ix3 b t n) * S (ix1 n) * (UZ (ix3 b t ⟨4096 + n.val, by omega⟩) * Ideal.div 1 (1 + Ideal.exp (-(UZ (ix3 b t ⟨4096 + n.val, by omega⟩))))) := by
  unfold gated
  pointwise

/-- The reference's result. -/
def result (UZ : FVec Ideal S16x2048x8192 .bf16) (W : FVec Ideal S4x1024x1024 .f32) (B : FVec Ideal S4x1024 .f32) (S : FVec Ideal S4096 .f32) : FVec Ideal S16x2048x4096 .bf16 :=
  gated (through (less (groups UZ) (runs (groups UZ)) (lower (runs (groups UZ)) picks) counts) W B) UZ S

/-- For finite rows a mean less the row is the specification's. -/
theorem less_spec (UZ : FVec Ideal S16x2048x8192 .bf16) (hf : ∀ i, ∃ x : ℝ, UZ i = (x : EReal)) (b : Fin 16) (t : Fin 2048) (g : Fin 4) (k : Fin 1024) :
    less (groups UZ) (runs (groups UZ)) (lower (runs (groups UZ)) picks) counts (ix4 b t g k)
      = pooled (window g) (fun r => UZ (ix3 b r ⟨g.val * 1024 + k.val, by omega⟩)) t := by
  have e1 : (1 + t.val) = t.val + 1 := Nat.add_comm _ _
  rw [less_read, lower_read (runs (groups UZ)) picks b t g k ⟨t.val + 1 - window g, by omega⟩ (picks_row t g) (picks_group t g), runs_read, runs_read, counts_read, pooled]
  simp only [groups_read, e1]
  rw [Cert.PoolSpec.sum_prefixes (window g) (fun r => UZ (ix3 b r ⟨g.val * 1024 + k.val, by omega⟩)) (fun s => hf _) t]

/-- It is the specification, entry by entry, where the rows are finite. -/
theorem result_read (UZ : FVec Ideal S16x2048x8192 .bf16) (hf : ∀ i, ∃ x : ℝ, UZ i = (x : EReal)) (W : FVec Ideal S4x1024x1024 .f32) (B : FVec Ideal S4x1024 .f32) (S : FVec Ideal S4096 .f32) (b : Fin 16) (t : Fin 2048) (n : Fin 4096) :
    result UZ W B S (ix3 b t n) = Cert.PoolSpec.spec UZ W B S b t n := by
  obtain ⟨g, q, hn⟩ : ∃ (g : Fin 4) (q : Fin 1024), n = ⟨g.val * 1024 + q.val, by omega⟩ :=
    ⟨⟨n.val / 1024, by omega⟩, ⟨n.val % 1024, by omega⟩, Fin.ext (by simp only []; omega)⟩
  rw [Cert.PoolSpec.spec_at UZ W B S b t n g q (congrArg Fin.val hn)]
  refine (gated_read _ _ _ b t n).trans ?_
  rw [mixed]
  refine congrArg (· * _ * _) ?_
  rw [hn]
  refine (through_read _ _ _ b t g q).trans (congrArg (· + _) (Finset.sum_congr rfl fun k _ => ?_))
  rw [mul_comm, less_spec UZ hf]

/-- The precondition's function takes shapes that fit. -/
theorem pre_facts : Cert.Pre_uz_finite.Facts := ⟨by decide, by decide⟩

/-- Where the precondition's function is all ones, the rows are finite. -/
theorem finite_of_pre (UZ : FVec Ideal S16x2048x8192 .bf16) (W : FVec Ideal S4x1024x1024 .f32) (B : FVec Ideal S4x1024 .f32) (S : FVec Ideal S4096 .f32)
    [Cert.Pre_uz_finite.Facts] (h : Cert.Pre_uz_finite.fn (F := Ideal) UZ W B S = fun _ => 1#1) (i : S16x2048x8192.Idx) : ∃ x : ℝ, UZ i = (x : EReal) := by
  have h' := congrFun h i
  unfold Cert.Pre_uz_finite.fn at h'
  simp only [cmpf, Host.absf, extf, broadcastInDim, constant] at h'
  have hlt : max (UZ i) (-(UZ i)) < (Ideal.ofBits .f32 0x7F800000#32 : EReal) := by
    have h2 : BitVec.ofBool (decide (max (UZ i) (-(UZ i)) < (Ideal.ofBits .f32 0x7F800000#32 : EReal))) = 1#1 := h'
    by_contra hc
    rw [decide_eq_false hc] at h2
    exact absurd h2 (by decide)
  have hlt := lt_of_lt_of_le hlt le_top
  refine ⟨EReal.toReal (UZ i), (EReal.coe_toReal ?_ ?_).symm⟩
  · intro h; rw [h] at hlt; exact absurd hlt (by simp)
  · intro h; rw [h] at hlt; exact absurd hlt (by simp)

variable (m : (ℓ : Loc nD τ sig) → Buf (Elt Ideal) ℓ) (ρ : Dev nD → PrngReg)

/-- The reference leaves the result. -/
theorem run_result : θ_run defs (onTc (τ := τ) (main (F := Ideal))) ⟨m, fun _ => 0, ρ⟩ fun r => ∀ c : Dev nD,
      r.2.mem ((c : Thread nD τ).loc main_v57) = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (run (F := Ideal) m ρ)
  rfl

end Cert.PoolRefIdeal.Value

end
-- ==== Proof.Pool.lean ====
module

public import proofs.«01_k».proof.Proof.PoolOut
public import proofs.«01_k».proof.Proof.PoolRefRead

@[expose] public section

set_option maxRecDepth 16384

noncomputable section

open Idealize.ShloMosaic Idealize.ShloMosaic.TcCoe Idealize.SL.Sem
open Idealize.ShloMosaic.Pipeline (Dat)
open Cert.PoolSpec (ago count pooled mixed window)

namespace Cert.PoolIdeal.Value

open Cert.PoolIdeal Cert.PoolIdeal.Gen Cert.PoolIdeal.Keep

variable (m : (ℓ : Loc nD τ sig) → Buf (Elt Ideal) ℓ)

/-- Where each window's block lies, at every grid point. -/
theorem idx : ∀ t : Fin cfg0.N, win0_0.index t = ![t.val / 4, 0, t.val % 4] ∧ win0_1.index t = ![t.val / 4, 0, t.val % 4 + 4]
    ∧ win0_2.index t = ![t.val % 4, 0, 0] ∧ win0_3.index t = ![t.val % 4, 0, 0] ∧ win0_4.index t = ![t.val % 4, 0, 0]
    ∧ win0_5.index t = ![t.val / 4, 0, t.val % 4] :=
  (by decide +kernel : ∀ t : Fin grid0.N, _)

/-- The group at every grid point. -/
theorem group : ∀ t : Fin cfg0.N, (grid0.coords t 1).val = t.val % 4 :=
  (by decide +kernel : ∀ t : Fin grid0.N, _)

/-- The matrices. -/
theorem entry_w (c : Dev nD) (g : Fin 4) (k n : Fin 1024) :
    V m c main_v0 (ix3 g k n) = m ((c : Thread nD τ).loc main_arg1) (ix3 g k n) := by
  entry_read
  pointwise

/-- The biases. -/
theorem entry_b (c : Dev nD) (g : Fin 4) (n : Fin 1024) :
    V m c main_v1 (ix3 g 0 n) = m ((c : Thread nD τ).loc main_arg2) (ix2 g n) := by
  entry_read
  pointwise

/-- The scales. -/
theorem entry_s (c : Dev nD) (g : Fin 4) (n : Fin 1024) (j : Fin 4096) (hj : j.val = g.val * 1024 + n.val) :
    V m c main_v2 (ix3 g 0 n) = m ((c : Thread nD τ).loc main_arg3) (ix1 j) := by
  obtain rfl : j = ⟨g.val * 1024 + n.val, by clear hj; omega⟩ := Fin.ext hj
  entry_read
  pointwise

/-- The first half of the rows at a point. -/
theorem block_u (c : Dev nD) (t : Fin cfg0.N) (r : Fin 2048) (k : Fin 1024) (b : Fin 16) (j : Fin 8192)
    (hb : b.val = t.val / 4) (hj : j.val = t.val % 4 * 1024 + k.val) :
    iblk m c 0 t (ix3 0 r k) = V m c main_arg0 (ix3 b r j) := by
  blk_ext [iblk, idx t]

/-- The second half of the rows at a point. -/
theorem block_z (c : Dev nD) (t : Fin cfg0.N) (r : Fin 2048) (k : Fin 1024) (b : Fin 16) (j : Fin 8192)
    (hb : b.val = t.val / 4) (hj : j.val = (t.val % 4 + 4) * 1024 + k.val) :
    iblk m c 1 t (ix3 0 r k) = V m c main_arg0 (ix3 b r j) := by
  blk_ext [iblk, idx t]

/-- The group's matrix at a point. -/
theorem block_w (c : Dev nD) (t : Fin cfg0.N) (k n : Fin 1024) (g : Fin 4) (hg : g.val = t.val % 4) :
    iblk m c 2 t (ix3 0 k n) = V m c main_v0 (ix3 g k n) := by
  blk_ext [iblk, idx t]

/-- The group's biases at a point. -/
theorem block_b (c : Dev nD) (t : Fin cfg0.N) (n : Fin 1024) (g : Fin 4) (hg : g.val = t.val % 4) :
    iblk m c 3 t (ix3 0 0 n) = V m c main_v1 (ix3 g 0 n) := by
  blk_ext [iblk, idx t]

/-- The group's scales at a point. -/
theorem block_s (c : Dev nD) (t : Fin cfg0.N) (n : Fin 1024) (g : Fin 4) (hg : g.val = t.val % 4) :
    iblk m c 4 t (ix3 0 0 n) = V m c main_v2 (ix3 g 0 n) := by
  blk_ext [iblk, idx t]

/-- What the body leaves at a point is the specification at the place of the block. -/
theorem point (c : Dev nD) (t : Fin cfg0.N) (r : Fin 2048) (q : Fin 1024) (b : Fin 16) (r' : Fin 2048) (n : Fin 4096)
    (hb : b.val = t.val / 4) (hr : r'.val = r.val) (hn : n.val = t.val % 4 * 1024 + q.val) :
    out (grid0.coords t 1) (iblk m c 0 t) (iblk m c 1 t) (iblk m c 2 t) (iblk m c 3 t) (iblk m c 4 t) (ix3 0 r q)
      = Cert.PoolSpec.spec (m ((c : Thread nD τ).loc main_arg0)) (m ((c : Thread nD τ).loc main_arg1))
          (m ((c : Thread nD τ).loc main_arg2)) (m ((c : Thread nD τ).loc main_arg3)) b r' n := by
  obtain rfl : r' = r := Fin.ext hr
  have hg := group t
  generalize grid0.coords t 1 = g at hg ⊢
  have hq : n.val % 1024 = q.val := by omega
  have hgn : n.val / 1024 = g.val := by omega
  refine (out_read g _ _ _ _ _ r' q).trans ?_
  rw [Cert.PoolSpec.spec_at _ _ _ _ b r' n g q (by omega)]
  have hu := fun (r : Fin 2048) (k : Fin 1024) => (block_u m c t r k b ⟨g.val * 1024 + k.val, by omega⟩ hb (by simp only []; omega)).trans (congrFun (V_main_arg0 m c) _)
  have hz := (block_z m c t r' q b ⟨4096 + n.val, by omega⟩ hb (by simp only []; omega)).trans (congrFun (V_main_arg0 m c) _)
  have hw := fun k => (block_w m c t k q g hg).trans (entry_w m c g k q)
  have hB := (block_b m c t q g hg).trans (entry_b m c g q)
  have hs := (block_s m c t q g hg).trans (entry_s m c g q n (by omega))
  simp only [hu, hz, hw, hB, hs]

/-- An index of a block of one sequence, by its row and column. -/
theorem one_block (y : S1x2048x1024.Idx) : ∃ (r : Fin 2048) (q : Fin 1024), y = ix3 0 r q := by
  refine ⟨y 1, y 2, (eq_ix3 y).trans ?_⟩
  have h : ∀ z : Fin 1, z = 0 := by decide
  exact congrArg (fun a : Fin 1 => (ix3 a (y 1) (y 2) : S1x2048x1024.Idx)) (h (y 0))

/-- The array that the pallas_call leaves is the specification. -/
theorem final5 (c : Dev nD) : (dats m 0 c).arrAt 5 (cfgs 0).N = fun i =>
    Cert.PoolSpec.spec (m ((c : Thread nD τ).loc main_arg0)) (m ((c : Thread nD τ).loc main_arg1))
      (m ((c : Thread nD τ).loc main_arg2)) (m ((c : Thread nD τ).loc main_arg3)) (i 0) (i 1) (i 2) := by
  refine (dats m 0 c).arrAt_eq_of_covers 5 _ (by decide +kernel) fun t hf y => ?_
  blk_simp
  rw [after_5]
  obtain ⟨r, q, rfl⟩ := one_block y
  refine point m c t r q _ _ _ ?_ ?_ ?_
  · blk_simp [idx t]
    rfl
  · blk_simp [idx t]
  · blk_simp [idx t]

/-- The kernel's run with the result at the specification. -/
theorem run_spec (ρ : Dev nD → PrngReg) :
    θ_run defs (onTc (τ := τ) (main (F := Ideal))) ⟨m, fun _ => 0, ρ⟩ fun r => ∀ c : Dev nD,
      r.2.mem ((c : Thread nD τ).loc main_v3) = (fun i => Cert.PoolSpec.spec (m ((c : Thread nD τ).loc main_arg0)) (m ((c : Thread nD τ).loc main_arg1)) (m ((c : Thread nD τ).loc main_arg2)) (m ((c : Thread nD τ).loc main_arg3)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1.1 c).1 5).trans (final5 m c), h.2 c⟩)
    (θ_run_and (Keep.run m ρ) (Keep.unchanged m ρ))

end Cert.PoolIdeal.Value

end
-- ==== Proof.PoolSumRead.lean ====
module

public import proofs.«01_k».proof.Proof.Gen.PoolSumIdeal.Run
public import Idealize.ShloMosaic.Lib.Pipeline.ValueKit
public import proofs.«01_k».proof.Proof.PoolSpec

@[expose] public section

set_option maxRecDepth 16384

noncomputable section

open Idealize.ShloMosaic Idealize.ShloMosaic.TcCoe Idealize.SL.Sem
open Cert.PoolSpec (ago count pooled mixed window sum_inside)

namespace Cert.PoolSumIdeal.Value

open Cert.PoolSumIdeal Cert.PoolSumIdeal.Gen

/-- The rows' numbers, for each group. -/
def places : IVec S2048x4 32 :=
  broadcastInDim S2048x4 ![0, 1] bcast_S2048x1_S2048x4_0_1 (broadcastInDim S2048x1 ![0] bcast_S2048_S2048x1_0 (iotaInDim S2048 32 0))

/-- Where the window that ends at a row begins, for each group. -/
def starts : IVec S2048x4 32 :=
  maxsi (addi (subi places (broadcastInDim S2048x4 ![0, 1] bcast_S1x4_S2048x4_0_1 (broadcastInDim S1x4 ![1] bcast_S4_S1x4_1 (fun i => lit0 (S4.rowMajor i))))) (broadcastInDim S2048x4 ![] bcast_S_S2048x4 (constantI S_ 32 1#32))) (broadcastInDim S2048x4 ![] bcast_S_S2048x4 (constantI S_ 32 0#32))

/-- Its word, at every row and group. -/
theorem start_words : ∀ (t : Fin 2048) (g : Fin 4), IntOp.maxsi (IntOp.addi (IntOp.subi (BitVec.ofNat 32 t.val) (lit0 g)) 1#32) 0#32 = BitVec.ofNat 32 (t.val + 1 - window g) := by
  decide +kernel

/-- The count of its rows, at every row and group. -/
theorem count_words : ∀ (t : Fin 2048) (g : Fin 4), (IntOp.addi (IntOp.subi (BitVec.ofNat 32 t.val) (BitVec.ofNat 32 (t.val + 1 - window g))) 1#32).toInt = ((min (t.val + 1) (window g) : ℕ) : ℤ) := by
  decide +kernel

/-- A row's number. -/
theorem places_read (t : Fin 2048) (g : Fin 4) : places (ix2 t g) = BitVec.ofNat 32 t.val := by
  unfold places
  pointwise

/-- The place of a group among the four. -/
theorem place4 (g : Fin 4) : S4.rowMajor (ix1 g) = g := by
  fin_cases g <;> rfl

/-- Entry by entry. -/
theorem starts_read (t : Fin 2048) (g : Fin 4) : starts (ix2 t g) = BitVec.ofNat 32 (t.val + 1 - window g) := by
  refine Eq.trans ?_ (start_words t g)
  rw [← places_read t g]
  have h := congrArg lit0 (place4 g)
  rw [← h]
  unfold starts
  generalize places = P
  generalize lit0 = L
  pointwise

/-- The numbers of rows in the windows. -/
def counts : FVec Ideal S2048x4 .f32 := sitofp .f32 (addi (subi places starts) (broadcastInDim S2048x4 ![] bcast_S_S2048x4 (constantI S_ 32 1#32)))

/-- Entry by entry. -/
theorem counts_read (t : Fin 2048) (g : Fin 4) : counts (ix2 t g) = count (window g) t := by
  have h : (((IntOp.addi (IntOp.subi (places (ix2 t g)) (starts (ix2 t g))) 1#32).toInt : ℝ) : EReal) = count (window g) t := by
    rw [places_read, starts_read, count_words t g, Cert.PoolSpec.count_def, Int.cast_natCast]
  refine Eq.trans ?_ h
  unfold counts
  generalize places = P
  generalize starts = Q
  pointwise
  rfl

/-- A small number's word read as an integer. -/
theorem small_toInt (a : ℕ) (ha : a < 4096) : (BitVec.ofNat 32 a).toInt = (a : ℤ) := by
  have h : (BitVec.ofNat 32 a).toNat = a := by
    rw [BitVec.toNat_ofNat]
    exact Nat.mod_eq_of_lt (by omega)
  rw [BitVec.toInt_eq_toNat_of_lt (by rw [h]; omega), h]

/-- A comparison of two small numbers' words. -/
theorem sge_small (a b : ℕ) (ha : a < 4096) (hb : b < 4096) :
    IntOp.cmpi CmpIPredicate.sge (BitVec.ofNat 32 a) (BitVec.ofNat 32 b) = BitVec.ofBool (decide (b ≤ a)) := by
  have hx := small_toInt a ha
  have hy := small_toInt b hb
  simp only [IntOp.cmpi, BitVec.sle, hx, hy]
  refine congrArg BitVec.ofBool (decide_eq_decide.2 ?_)
  omega

/-- The same, the other way. -/
theorem sle_small (a b : ℕ) (ha : a < 4096) (hb : b < 4096) :
    IntOp.cmpi CmpIPredicate.sle (BitVec.ofNat 32 a) (BitVec.ofNat 32 b) = BitVec.ofBool (decide (a ≤ b)) := by
  have hx := small_toInt a ha
  have hy := small_toInt b hb
  simp only [IntOp.cmpi, BitVec.sle, hx, hy]
  refine congrArg BitVec.ofBool (decide_eq_decide.2 ?_)
  omega

/-- Two comparisons' bits, met and read as a number. -/
theorem bits_inside (s a t : ℕ) (hs : s < 4096) (ha : a < 4096) (ht : t < 4096) :
    (FloatOps.uitofp FTy.f32 (IntOp.andi (IntOp.cmpi CmpIPredicate.sge (BitVec.ofNat 32 s) (BitVec.ofNat 32 a)) (IntOp.cmpi CmpIPredicate.sle (BitVec.ofNat 32 s) (BitVec.ofNat 32 t))) : Ideal .f32)
      = (if a ≤ s ∧ s ≤ t then 1 else 0 : EReal) := by
  rw [sge_small s a hs ha, sle_small s t hs ht]
  have h0 : (FloatOps.uitofp FTy.f32 (0#1) : Ideal .f32) = (0 : EReal) := by
    change (((0#1 : BitVec 1).toNat : ℝ) : EReal) = 0
    simp
  have h1 : (FloatOps.uitofp FTy.f32 (1#1) : Ideal .f32) = (1 : EReal) := by
    change (((1#1 : BitVec 1).toNat : ℝ) : EReal) = 1
    simp
  by_cases p : a ≤ s <;> by_cases q : s ≤ t <;> simp only [p, q, decide_true, decide_false, and_true, and_false, if_true, if_false]
  · exact h1
  · exact h0
  · exact h0
  · exact h0

/-- Which rows lie in the window that ends at a row. -/
def inside : FVec Ideal S2048x2048x4 .f32 :=
  uitofp .f32 (andi (cmpi .sge (broadcastInDim S2048x2048x4 ![0, 1, 2] bcast_S1x2048x1_S2048x2048x4_0_1_2 (broadcastInDim S1x2048x1 ![1] bcast_S2048_S1x2048x1_1 (iotaInDim S2048 32 0))) (broadcastInDim S2048x2048x4 ![0, 1, 2] bcast_S2048x1x4_S2048x2048x4_0_1_2 (broadcastInDim S2048x1x4 ![0, 2] bcast_S2048x4_S2048x1x4_0_2 starts))) (broadcastInDim S2048x2048x4 ![0, 1, 2] bcast_S2048x2048x1_S2048x2048x4_0_1_2 (cmpi .sle (broadcastInDim S2048x2048x1 ![0, 1, 2] bcast_S1x2048x1_S2048x2048x1_0_1_2 (broadcastInDim S1x2048x1 ![1] bcast_S2048_S1x2048x1_1 (iotaInDim S2048 32 0))) (broadcastInDim S2048x2048x1 ![0, 1, 2] bcast_S2048x1x1_S2048x2048x1_0_1_2 (broadcastInDim S2048x1x1 ![0] bcast_S2048_S2048x1x1_0 (iotaInDim S2048 32 0))))))

/-- Entry by entry. -/
theorem inside_read (t s : Fin 2048) (g : Fin 4) : inside (ix3 t s g) = if t.val + 1 - window g ≤ s.val ∧ s.val ≤ t.val then 1 else 0 := by
  have hs := starts_read t g
  unfold inside
  generalize starts = Q at hs ⊢
  pointwise
  rw [hs]
  exact bits_inside _ _ _ (by omega) (by omega) (by omega)

/-- The first half of the rows, in the four groups. -/
def groups (UZ : FVec Ideal S16x2048x8192 .bf16) : FVec Ideal S16x2048x4x1024 .f32 :=
  shapeCast S16x2048x4x1024 (extractStridedSlice S16x2048x4096 ![0, 0, 0] (extf .f32 UZ bitsLt_bf16_f32 : FVec Ideal S16x2048x8192 .f32) slices_S16x2048x8192_S16x2048x4096_0_0_0) shapeCasts_S16x2048x4096_S16x2048x4x1024

/-- Entry by entry. -/
theorem groups_read (UZ : FVec Ideal S16x2048x8192 .bf16) (b : Fin 16) (t : Fin 2048) (g : Fin 4) (k : Fin 1024) :
    groups UZ (ix4 b t g k) = UZ (ix3 b t ⟨g.val * 1024 + k.val, by omega⟩) := by
  unfold groups
  pointwise

/-- The means less the rows. -/
def less (X : FVec Ideal S16x2048x4x1024 .f32) (M : FVec Ideal S2048x2048x4 .f32) (C : FVec Ideal S2048x4 .f32) : FVec Ideal S16x2048x4x1024 .f32 :=
  subf (Host.divf (transpose S16x2048x4x1024 [1, 3, 0, 2] (Host.dotGeneral dot_S16x2048x4x1024_S2048x2048x4_S4x16x1024x2048_1_1_03_0_2_2 none X M : FVec Ideal S4x16x1024x2048 .f32) transposes_S4x16x1024x2048_S16x2048x4x1024_1_3_0_2) (broadcastInDim S16x2048x4x1024 ![0, 1, 2, 3] bcast_S1x2048x4x1_S16x2048x4x1024_0_1_2_3 (broadcastInDim S1x2048x4x1 ![1, 2] bcast_S2048x4_S1x2048x4x1_1_2 C))) X

/-- Entry by entry. -/
theorem less_read (X : FVec Ideal S16x2048x4x1024 .f32) (M : FVec Ideal S2048x2048x4 .f32) (C : FVec Ideal S2048x4 .f32) (b : Fin 16) (t : Fin 2048) (g : Fin 4) (k : Fin 1024) :
    less X M C (ix4 b t g k) = Ideal.div (∑ s, X (ix4 b s g k) * M (ix3 t s g)) (C (ix2 t g)) - X (ix4 b t g k) := by
  unfold less
  pointwise

/-- The groups through their matrices, with the biases, side by side. -/
def through (D : FVec Ideal S16x2048x4x1024 .f32) (W : FVec Ideal S4x1024x1024 .f32) (B : FVec Ideal S4x1024 .f32) : FVec Ideal S16x2048x4096 .f32 :=
  shapeCast S16x2048x4096 (addf (transpose S16x2048x4x1024 [2, 3, 0, 1] (Host.dotGeneral dot_S4x1024x1024_S16x2048x4x1024_S4x1024x16x2048_1_3_2_01_0_2 none W D : FVec Ideal S4x1024x16x2048 .f32) transposes_S4x1024x16x2048_S16x2048x4x1024_2_3_0_1) (broadcastInDim S16x2048x4x1024 ![0, 1, 2, 3] bcast_S1x1x4x1024_S16x2048x4x1024_0_1_2_3 (broadcastInDim S1x1x4x1024 ![2, 3] bcast_S4x1024_S1x1x4x1024_2_3 B))) shapeCasts_S16x2048x4x1024_S16x2048x4096

/-- Entry by entry. -/
theorem through_read (D : FVec Ideal S16x2048x4x1024 .f32) (W : FVec Ideal S4x1024x1024 .f32) (B : FVec Ideal S4x1024 .f32) (b : Fin 16) (t : Fin 2048) (g : Fin 4) (q : Fin 1024) :
    through D W B (ix3 b t ⟨g.val * 1024 + q.val, by omega⟩) = ∑ k, W (ix3 g k q) * D (ix4 b t g k) + B (ix2 g q) := by
  unfold through
  pointwise

/-- The scale and the gate. -/
def gated (Y : FVec Ideal S16x2048x4096 .f32) (UZ : FVec Ideal S16x2048x8192 .bf16) (S : FVec Ideal S4096 .f32) : FVec Ideal S16x2048x4096 .bf16 :=
  truncf .bf16 (mulf (mulf Y (broadcastInDim S16x2048x4096 ![0, 1, 2] bcast_S1x1x4096_S16x2048x4096_0_1_2 (broadcastInDim S1x1x4096 ![2] bcast_S4096_S1x1x4096_2 S))) (mulf (extractStridedSlice S16x2048x4096 ![0, 0, 4096] (extf .f32 UZ bitsLt_bf16_f32) slices_S16x2048x8192_S16x2048x4096_0_0_4096) (Host.divf (broadcastInDim S16x2048x4096 ![] bcast_S_S16x2048x4096 (constant S_ .f32 0x3F800000#32)) (addf (broadcastInDim S16x2048x4096 ![] bcast_S_S16x2048x4096 (constant S_ .f32 0x3F800000#32)) (Host.exp (Host.negf (extractStridedSlice S16x2048x4096 ![0, 0, 4096] (extf .f32 UZ bitsLt_bf16_f32) slices_S16x2048x8192_S16x2048x4096_0_0_4096))))))) bitsLt_bf16_f32

/-- Entry by entry. -/
theorem gated_read (Y : FVec Ideal S16x2048x4096 .f32) (UZ : FVec Ideal S16x2048x8192 .bf16) (S : FVec Ideal S4096 .f32) (b : Fin 16) (t : Fin 2048) (n : Fin 4096) :
    gated Y UZ S (ix3 b t n) = Y (ix3 b t n) * S (ix1 n) * (UZ (ix3 b t ⟨4096 + n.val, by omega⟩) * Ideal.div 1 (1 + Ideal.exp (-(UZ (ix3 b t ⟨4096 + n.val, by omega⟩))))) := by
  unfold gated
  pointwise

/-- The reference's result. -/
def result (UZ : FVec Ideal S16x2048x8192 .bf16) (W : FVec Ideal S4x1024x1024 .f32) (B : FVec Ideal S4x1024 .f32) (S : FVec Ideal S4096 .f32) : FVec Ideal S16x2048x4096 .bf16 :=
  gated (through (less (groups UZ) inside counts) W B) UZ S

/-- It is the specification, entry by entry. -/
theorem result_read (UZ : FVec Ideal S16x2048x8192 .bf16) (W : FVec Ideal S4x1024x1024 .f32) (B : FVec Ideal S4x1024 .f32) (S : FVec Ideal S4096 .f32) (b : Fin 16) (t : Fin 2048) (n : Fin 4096) :
    result UZ W B S (ix3 b t n) = Cert.PoolSpec.spec UZ W B S b t n := by
  obtain ⟨g, q, hn⟩ : ∃ (g : Fin 4) (q : Fin 1024), n = ⟨g.val * 1024 + q.val, by omega⟩ :=
    ⟨⟨n.val / 1024, by omega⟩, ⟨n.val % 1024, by omega⟩, Fin.ext (by simp only []; omega)⟩
  rw [Cert.PoolSpec.spec_at UZ W B S b t n g q (congrArg Fin.val hn)]
  refine (gated_read _ _ _ b t n).trans ?_
  rw [mixed]
  refine congrArg (· * _ * _) ?_
  rw [hn]
  refine (through_read _ _ _ b t g q).trans (congrArg (· + _) (Finset.sum_congr rfl fun k _ => ?_))
  rw [mul_comm, less_read, counts_read, pooled, ← sum_inside]
  simp only [groups_read, inside_read]

variable (m : (ℓ : Loc nD τ sig) → Buf (Elt Ideal) ℓ) (ρ : Dev nD → PrngReg)

/-- The reference leaves the specification. -/
theorem run_spec : θ_run defs (onTc (τ := τ) (main (F := Ideal))) ⟨m, fun _ => 0, ρ⟩ fun r => ∀ c : Dev nD,
      r.2.mem ((c : Thread nD τ).loc main_v50) = (fun i => Cert.PoolSpec.spec (m ((c : Thread nD τ).loc main_arg0)) (m ((c : Thread nD τ).loc main_arg1)) (m ((c : Thread nD τ).loc main_arg2)) (m ((c : Thread nD τ).loc main_arg3)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2⟩) (run (F := Ideal) m ρ)
  funext i
  idx_vars i
  exact result_read _ _ _ _ _ _ _

end Cert.PoolSumIdeal.Value

end
-- ==== Proof.KeepIdeal.lean ====
module

public import proofs.«01_k».proof.Proof.Gen.AttnIdeal.Skeleton
public import proofs.«01_k».proof.Proof.Safe

@[expose] public section

set_option maxRecDepth 65536

noncomputable section

namespace Cert.AttnIdeal.Keep

open Idealize.ShloMosaic Idealize.ShloMosaic.TcCoe Idealize.SL.Sem Cert.Safe Cert.AttnIdeal.Gen

variable {F : FTy → Type} [FloatOps F] [Named F]

/-- The resource `R` holds the thirteen buffers the attention body works on: the staged inputs to be read, the output block and the five
    scratch buffers to be written. -/
structure Held (c : Dev nD) (R : Res nD τ sig (Elt F)) (arg3 : Memref sig .tc .vmem S1x128x2048 .bf16) (arg4 : Memref sig .tc .vmem S1x128x2048 .bf16)
    (arg5 : Memref sig .tc .vmem S1x2048x256 .bf16) (arg6 : Memref sig .tc .vmem S1x1x16x128x128 .bf16) (arg7 : Memref sig .tc .vmem S16x128x256 .bf16)
    (arg8 : Memref sig .tc .vmem S16x256x128 .bf16) (arg9 : Memref sig .tc .vmem S16x128x256 .f32) (arg10 : Memref sig .tc .vmem S1x128x2048 .bf16)
    (arg11 : Memref sig .tc .vmem S2048x256 .bf16) (arg12 : Memref sig .tc .vmem S16x2048x128 .f32) (arg13 : Memref sig .tc .vmem S2048x256 .f32)
    (arg14 : Memref sig .tc .vmem S2048x128 .f32) (arg15 : Memref sig .tc .vmem S2048x128 .f32) : Prop where
  r3 : Reads c R arg3
  r4 : Reads c R arg4
  r5 : Reads c R arg5
  r6 : Reads c R arg6
  r7 : Reads c R arg7
  r8 : Reads c R arg8
  r9 : Reads c R arg9
  w10 : Writes c R arg10
  w11 : Writes c R arg11
  w12 : Writes c R arg12
  w13 : Writes c R arg13
  w14 : Writes c R arg14
  w15 : Writes c R arg15

variable {defs : Defs nD τ sig (Elt F) Λ₀} {c : Dev nD} {R : Res nD τ sig (Elt F)} (i : grid0.Coords)
  {arg3 : Memref sig .tc .vmem S1x128x2048 .bf16} (harg3 : arg3.IsWhole) {arg4 : Memref sig .tc .vmem S1x128x2048 .bf16} (harg4 : arg4.IsWhole)
  {arg5 : Memref sig .tc .vmem S1x2048x256 .bf16} (harg5 : arg5.IsWhole) {arg6 : Memref sig .tc .vmem S1x1x16x128x128 .bf16} (harg6 : arg6.IsWhole)
  {arg7 : Memref sig .tc .vmem S16x128x256 .bf16} (harg7 : arg7.IsWhole) {arg8 : Memref sig .tc .vmem S16x256x128 .bf16} (harg8 : arg8.IsWhole)
  {arg9 : Memref sig .tc .vmem S16x128x256 .f32} (harg9 : arg9.IsWhole) {arg10 : Memref sig .tc .vmem S1x128x2048 .bf16} (harg10 : arg10.IsWhole)
  {arg11 : Memref sig .tc .vmem S2048x256 .bf16} (harg11 : arg11.IsWhole) {arg12 : Memref sig .tc .vmem S16x2048x128 .f32} (harg12 : arg12.IsWhole)
  {arg13 : Memref sig .tc .vmem S2048x256 .f32} (harg13 : arg13.IsWhole) {arg14 : Memref sig .tc .vmem S2048x128 .f32} (harg14 : arg14.IsWhole)
  {arg15 : Memref sig .tc .vmem S2048x128 .f32} (harg15 : arg15.IsWhole)
  (h : Held c R arg3 arg4 arg5 arg6 arg7 arg8 arg9 arg10 arg11 arg12 arg13 arg14 arg15)

include h

/-- A stretch of the attention body keeps what it holds. -/
theorem k0_part81_keeps :
    Keeps defs c R (k0_part81 (F := F) i arg3 harg3 arg4 harg4 arg5 harg5 arg6 harg6 arg7 harg7 arg8 harg8 arg9 harg9 arg10 harg10 arg11 harg11 arg12 harg12 arg13 harg13 arg14 harg14 arg15 harg15) := by
  rw [k0_part81_eq_skeleton]
  unfold k0_part81_skel
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  exact keeps_pure _

/-- A stretch of the attention body keeps what it holds. -/
theorem k0_part82_keeps (v26 : FVec F S128x256 .f32) (cst_21 : F .f32) :
    Keeps defs c R (k0_part82 (F := F) i arg3 harg3 arg4 harg4 arg5 harg5 arg6 harg6 arg7 harg7 arg8 harg8 arg9 harg9 arg10 harg10 arg11 harg11 arg12 harg12 arg13 harg13 arg14 harg14 arg15 harg15 v26 cst_21) := by
  rw [k0_part82_eq_skeleton]
  unfold k0_part82_skel
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  exact keeps_pure _

/-- A stretch of the attention body keeps what it holds. -/
theorem k0_part83_keeps (v56 : FVec F S128x128 .bf16) :
    Keeps defs c R (k0_part83 (F := F) i arg3 harg3 arg4 harg4 arg5 harg5 arg6 harg6 arg7 harg7 arg8 harg8 arg9 harg9 arg10 harg10 arg11 harg11 arg12 harg12 arg13 harg13 arg14 harg14 arg15 harg15 v56) := by
  rw [k0_part83_eq_skeleton]
  unfold k0_part83_skel
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  exact keeps_pure _

/-- A stretch of the attention body keeps what it holds. -/
theorem k0_part84_keeps :
    Keeps defs c R (k0_part84 (F := F) i arg3 harg3 arg4 harg4 arg5 harg5 arg6 harg6 arg7 harg7 arg8 harg8 arg9 harg9 arg10 harg10 arg11 harg11 arg12 harg12 arg13 harg13 arg14 harg14 arg15 harg15) := by
  rw [k0_part84_eq_skeleton]
  unfold k0_part84_skel
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  exact keeps_pure _

/-- A stretch of the attention body keeps what it holds. -/
theorem k0_part85_keeps (v117 : FVec F S128x256 .bf16) :
    Keeps defs c R (k0_part85 (F := F) i arg3 harg3 arg4 harg4 arg5 harg5 arg6 harg6 arg7 harg7 arg8 harg8 arg9 harg9 arg10 harg10 arg11 harg11 arg12 harg12 arg13 harg13 arg14 harg14 arg15 harg15 v117) := by
  rw [k0_part85_eq_skeleton]
  unfold k0_part85_skel
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  exact keeps_pure _

/-- A stretch of the attention body keeps what it holds. -/
theorem k0_part86_keeps (v144 : FVec F S128x128 .bf16) (v146 : FVec F S128x256 .bf16) (cst_108 : FVec F S128x256 .f32) :
    Keeps defs c R (k0_part86 (F := F) i arg3 harg3 arg4 harg4 arg5 harg5 arg6 harg6 arg7 harg7 arg8 harg8 arg9 harg9 arg10 harg10 arg11 harg11 arg12 harg12 arg13 harg13 arg14 harg14 arg15 harg15 v144 v146 cst_108) := by
  rw [k0_part86_eq_skeleton]
  unfold k0_part86_skel
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.r3) fun _ => ?_
  refine keeps_bind (keeps_load h.r7) fun _ => ?_
  refine keeps_bind (keeps_load h.w11.reads) fun _ => ?_
  refine keeps_bind (keeps_store h.w11) fun _ => ?_
  refine keeps_bind (keeps_load h.w14.reads) fun _ => ?_
  exact keeps_pure _

/-- A stretch of the attention body keeps what it holds. -/
theorem k0_part87_keeps (arg2 : BitVec 32) (v176 : FVec F S2048x128 .f32) (v177 : Vec F S2048x128 .f32) :
    Keeps defs c R (k0_part87 (F := F) i arg3 harg3 arg4 harg4 arg5 harg5 arg6 harg6 arg7 harg7 arg8 harg8 arg9 harg9 arg10 harg10 arg11 harg11 arg12 harg12 arg13 harg13 arg14 harg14 arg15 harg15 arg2 v176 v177) := by
  rw [k0_part87_eq_skeleton]
  unfold k0_part87_skel
  refine keeps_bind (keeps_store h.w14) fun _ => ?_
  exact keeps_pure _

/-- A stretch of the attention body keeps what it holds. -/
theorem k0_part1_keeps (c0_i32_144 : BitVec 32) (c1_i32_146 : BitVec 32) (k0_t1 : Fin (k0_t1_loop i).trips) :
    Keeps defs c R (k0_part1 (F := F) i arg3 harg3 arg4 harg4 arg5 harg5 arg6 harg6 arg7 harg7 arg8 harg8 arg9 harg9 arg10 harg10 arg11 harg11 arg12 harg12 arg13 harg13 arg14 harg14 arg15 harg15 c0_i32_144 c1_i32_146 k0_t1) := by
  rw [k0_part1_eq_skeleton]
  unfold k0_part1_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part2_keeps (k0_t1 : Fin (k0_t1_loop i).trips) (v348 : BitVec 32) (v356 : FVec F S16x128x1024 .f32) (v373 : FVec F S2048x128 .f32) (v383 : FVec F S2048x128 .f32) :
    Keeps defs c R (k0_part2 (F := F) i arg3 harg3 arg4 harg4 arg5 harg5 arg6 harg6 arg7 harg7 arg8 harg8 arg9 harg9 arg10 harg10 arg11 harg11 arg12 harg12 arg13 harg13 arg14 harg14 arg15 harg15 k0_t1 v348 v356 v373 v383) := by
  rw [k0_part2_eq_skeleton]
  unfold k0_part2_skel
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  exact keeps_pure _

/-- A stretch of the attention body keeps what it holds. -/
theorem k0_part3_keeps (k0_t1 : Fin (k0_t1_loop i).trips) (v348 : BitVec 32) (v356 : FVec F S16x128x1024 .f32) (v421 : FVec F S2048x128 .f32) :
    Keeps defs c R (k0_part3 (F := F) i arg3 harg3 arg4 harg4 arg5 harg5 arg6 harg6 arg7 harg7 arg8 harg8 arg9 harg9 arg10 harg10 arg11 harg11 arg12 harg12 arg13 harg13 arg14 harg14 arg15 harg15 k0_t1 v348 v356 v421) := by
  rw [k0_part3_eq_skeleton]
  unfold k0_part3_skel
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- One trip of a loop of the attention body keeps what it holds. -/
theorem k0_t1_body_keeps (arg2 : BitVec 32) (v181 : BitVec 32) (v198 : BitVec 32) (c0_i32_144 : BitVec 32) (v216 : BitVec 32) (c1_i32_145 : BitVec 32) (k : Fin (k0_t1_loop i).trips) (u : Unit) :
    Keeps defs c R (k0_t1_body (F := F) i arg3 harg3 arg4 harg4 arg5 harg5 arg6 harg6 arg7 harg7 arg8 harg8 arg9 harg9 arg10 harg10 arg11 harg11 arg12 harg12 arg13 harg13 arg14 harg14 arg15 harg15 arg2 v181 v198 c0_i32_144 v216 c1_i32_145 k u) := by
  unfold k0_t1_body
  refine keeps_bind (k0_part1_keeps i harg3 harg4 harg5 harg6 harg7 harg8 harg9 harg10 harg11 harg12 harg13 harg14 harg15 h _ _ _) fun ⟨_, _, _, _⟩ => ?_
  refine keeps_bind (k0_part2_keeps i harg3 harg4 harg5 harg6 harg7 harg8 harg9 harg10 harg11 harg12 harg13 harg14 harg15 h _ _ _ _ _) fun _ => ?_
  refine keeps_bind (k0_part3_keeps i harg3 harg4 harg5 harg6 harg7 harg8 harg9 harg10 harg11 harg12 harg13 harg14 harg15 h _ _ _ _) fun ⟨_, _, _⟩ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  exact keeps_pure _

/-- A stretch of the attention body keeps what it holds. -/
theorem k0_part4_keeps (v220 : BitVec 32) (c1_i32_147 : BitVec 32) (k0_t2 : Fin (k0_t2_loop i).trips) :
    Keeps defs c R (k0_part4 (F := F) i arg3 harg3 arg4 harg4 arg5 harg5 arg6 harg6 arg7 harg7 arg8 harg8 arg9 harg9 arg10 harg10 arg11 harg11 arg12 harg12 arg13 harg13 arg14 harg14 arg15 harg15 v220 c1_i32_147 k0_t2) := by
  rw [k0_part4_eq_skeleton]
  unfold k0_part4_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part5_keeps (k0_t2 : Fin (k0_t2_loop i).trips) (v348 : BitVec 32) (v356 : FVec F S16x128x1024 .f32) (v373 : FVec F S2048x128 .f32) (v383 : FVec F S2048x128 .f32) :
    Keeps defs c R (k0_part5 (F := F) i arg3 harg3 arg4 harg4 arg5 harg5 arg6 harg6 arg7 harg7 arg8 harg8 arg9 harg9 arg10 harg10 arg11 harg11 arg12 harg12 arg13 harg13 arg14 harg14 arg15 harg15 k0_t2 v348 v356 v373 v383) := by
  rw [k0_part5_eq_skeleton]
  unfold k0_part5_skel
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  exact keeps_pure _

/-- A stretch of the attention body keeps what it holds. -/
theorem k0_part6_keeps (k0_t2 : Fin (k0_t2_loop i).trips) (v348 : BitVec 32) (v356 : FVec F S16x128x1024 .f32) (v421 : FVec F S2048x128 .f32) :
    Keeps defs c R (k0_part6 (F := F) i arg3 harg3 arg4 harg4 arg5 harg5 arg6 harg6 arg7 harg7 arg8 harg8 arg9 harg9 arg10 harg10 arg11 harg11 arg12 harg12 arg13 harg13 arg14 harg14 arg15 harg15 k0_t2 v348 v356 v421) := by
  rw [k0_part6_eq_skeleton]
  unfold k0_part6_skel
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- One trip of a loop of the attention body keeps what it holds. -/
theorem k0_t2_body_keeps (arg2 : BitVec 32) (v181 : BitVec 32) (v198 : BitVec 32) (c0_i32_144 : BitVec 32) (v216 : BitVec 32) (c1_i32_145 : BitVec 32) (v220 : BitVec 32) (k : Fin (k0_t2_loop i).trips) (u : Unit) :
    Keeps defs c R (k0_t2_body (F := F) i arg3 harg3 arg4 harg4 arg5 harg5 arg6 harg6 arg7 harg7 arg8 harg8 arg9 harg9 arg10 harg10 arg11 harg11 arg12 harg12 arg13 harg13 arg14 harg14 arg15 harg15 arg2 v181 v198 c0_i32_144 v216 c1_i32_145 v220 k u) := by
  unfold k0_t2_body
  refine keeps_bind (k0_part4_keeps i harg3 harg4 harg5 harg6 harg7 harg8 harg9 harg10 harg11 harg12 harg13 harg14 harg15 h _ _ _) fun ⟨_, _, _, _⟩ => ?_
  refine keeps_bind (k0_part5_keeps i harg3 harg4 harg5 harg6 harg7 harg8 harg9 harg10 harg11 harg12 harg13 harg14 harg15 h _ _ _ _ _) fun _ => ?_
  refine keeps_bind (k0_part6_keeps i harg3 harg4 harg5 harg6 harg7 harg8 harg9 harg10 harg11 harg12 harg13 harg14 harg15 h _ _ _ _) fun ⟨_, _, _⟩ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  exact keeps_pure _

/-- A stretch of the attention body keeps what it holds. -/
theorem k0_part7_keeps (v198 : BitVec 32) (k0_h1 : k0_cond1 i = 1#1) :
    Keeps defs c R (k0_part7 (F := F) i arg3 harg3 arg4 harg4 arg5 harg5 arg6 harg6 arg7 harg7 arg8 harg8 arg9 harg9 arg10 harg10 arg11 harg11 arg12 harg12 arg13 harg13 arg14 harg14 arg15 harg15 v198 k0_h1) := by
  rw [k0_part7_eq_skeleton]
  unfold k0_part7_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part8_keeps (k0_h1 : k0_cond1 i = 1#1) (v349 : BitVec 32) (v357 : FVec F S16x128x512 .f32) (v374 : FVec F S2048x128 .f32) (v383 : FVec F S16x128x128 .f32) :
    Keeps defs c R (k0_part8 (F := F) i arg3 harg3 arg4 harg4 arg5 harg5 arg6 harg6 arg7 harg7 arg8 harg8 arg9 harg9 arg10 harg10 arg11 harg11 arg12 harg12 arg13 harg13 arg14 harg14 arg15 harg15 k0_h1 v349 v357 v374 v383) := by
  rw [k0_part8_eq_skeleton]
  unfold k0_part8_skel
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  exact keeps_pure _

/-- A stretch of the attention body keeps what it holds. -/
theorem k0_part9_keeps :
    Keeps defs c R (k0_part9 (F := F) i arg3 harg3 arg4 harg4 arg5 harg5 arg6 harg6 arg7 harg7 arg8 harg8 arg9 harg9 arg10 harg10 arg11 harg11 arg12 harg12 arg13 harg13 arg14 harg14 arg15 harg15) := by
  rw [k0_part9_eq_skeleton]
  unfold k0_part9_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.r9) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  refine keeps_bind (keeps_load h.w14.reads) fun _ => ?_
  refine keeps_bind (keeps_load h.w14.reads) fun _ => ?_
  exact keeps_pure _

/-- A stretch of the attention body keeps what it holds. -/
theorem k0_part10_keeps (v198 : BitVec 32) (k0_h3 : k0_cond3 i = 1#1) :
    Keeps defs c R (k0_part10 (F := F) i arg3 harg3 arg4 harg4 arg5 harg5 arg6 harg6 arg7 harg7 arg8 harg8 arg9 harg9 arg10 harg10 arg11 harg11 arg12 harg12 arg13 harg13 arg14 harg14 arg15 harg15 v198 k0_h3) := by
  rw [k0_part10_eq_skeleton]
  unfold k0_part10_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.r9) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part11_keeps (v198 : BitVec 32) (k0_h4 : k0_cond4 i = 1#1) :
    Keeps defs c R (k0_part11 (F := F) i arg3 harg3 arg4 harg4 arg5 harg5 arg6 harg6 arg7 harg7 arg8 harg8 arg9 harg9 arg10 harg10 arg11 harg11 arg12 harg12 arg13 harg13 arg14 harg14 arg15 harg15 v198 k0_h4) := by
  rw [k0_part11_eq_skeleton]
  unfold k0_part11_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part12_keeps (k0_h4 : k0_cond4 i = 1#1) (v348 : BitVec 32) (v356 : FVec F S16x128x384 .f32) (v373 : FVec F S2048x128 .f32) (v382 : FVec F S16x128x128 .f32) :
    Keeps defs c R (k0_part12 (F := F) i arg3 harg3 arg4 harg4 arg5 harg5 arg6 harg6 arg7 harg7 arg8 harg8 arg9 harg9 arg10 harg10 arg11 harg11 arg12 harg12 arg13 harg13 arg14 harg14 arg15 harg15 k0_h4 v348 v356 v373 v382) := by
  rw [k0_part12_eq_skeleton]
  unfold k0_part12_skel
  refine keeps_bind (keeps_load h.r9) fun _ => ?_
  refine keeps_bind (keeps_load h.w12.reads) fun _ => ?_
  refine keeps_bind (keeps_store h.w12) fun _ => ?_
  refine keeps_bind (keeps_load h.r6) fun _ => ?_
  refine keeps_bind (keeps_load h.r9) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  refine keeps_bind (keeps_load h.w14.reads) fun _ => ?_
  exact keeps_pure _

/-- A stretch of the attention body keeps what it holds. -/
theorem k0_part88_keeps (arg2 : BitVec 32) (v181 : BitVec 32) (v198 : BitVec 32) (c0_i32_144 : BitVec 32) (v216 : BitVec 32) (c1_i32_145 : BitVec 32) :
    Keeps defs c R (k0_part88 (F := F) i arg3 harg3 arg4 harg4 arg5 harg5 arg6 harg6 arg7 harg7 arg8 harg8 arg9 harg9 arg10 harg10 arg11 harg11 arg12 harg12 arg13 harg13 arg14 harg14 arg15 harg15 arg2 v181 v198 c0_i32_144 v216 c1_i32_145) := by
  rw [k0_part88_eq_skeleton]
  unfold k0_part88_skel
  refine keeps_bind (keeps_for _ _ _ _ fun k u => k0_t1_body_keeps i harg3 harg4 harg5 harg6 harg7 harg8 harg9 harg10 harg11 harg12 harg13 harg14 harg15 h _ _ _ _ _ _ k u) fun _ => ?_
  refine keeps_bind (keeps_for _ _ _ _ fun k u => k0_t2_body_keeps i harg3 harg4 harg5 harg6 harg7 harg8 harg9 harg10 harg11 harg12 harg13 harg14 harg15 h _ _ _ _ _ _ _ k u) fun _ => ?_
  extract_lets -merge -useContext +onlyGivenNames jp4 jp3 jp2 jp1
  have hjp1 : ∀ a, Keeps defs c R (jp1 a) := by
    intro _
    have hjp2 : ∀ a, Keeps defs c R (jp2 a) := by
      intro _
      have hjp3 : ∀ a, Keeps defs c R (jp3 a) := by
        intro _
        have hjp4 : ∀ a, Keeps defs c R (jp4 a) := by
          intro _
          exact keeps_pure _
        clear_value jp4
        refine keeps_dite (fun _ => ?_) (fun _ => ?_)
        · refine keeps_bind (k0_part11_keeps i harg3 harg4 harg5 harg6 harg7 harg8 harg9 harg10 harg11 harg12 harg13 harg14 harg15 h _ _) fun ⟨_, _, _, _⟩ => ?_
          refine keeps_bind (k0_part12_keeps i harg3 harg4 harg5 harg6 harg7 harg8 harg9 harg10 harg11 harg12 harg13 harg14 harg15 h _ _ _ _ _) fun _ => ?_
          refine keeps_bind (keeps_load h.w14.reads) fun _ => ?_
          refine keeps_bind (keeps_store h.w14) fun _ => ?_
          refine keeps_bind (keeps_load h.w15.reads) fun _ => ?_
          refine keeps_bind (keeps_store h.w15) fun _ => ?_
          refine keeps_bind (keeps_load h.w13.reads) fun _ => ?_
          refine keeps_bind (keeps_store h.w13) fun _ => ?_
          exact hjp4 _
        · exact hjp4 _
      clear_value jp3
      refine keeps_dite (fun _ => ?_) (fun _ => ?_)
      · refine keeps_bind (k0_part10_keeps i harg3 harg4 harg5 harg6 harg7 harg8 harg9 harg10 harg11 harg12 harg13 harg14 harg15 h _ _) fun ⟨_, _, _, _⟩ => ?_
        refine keeps_bind (keeps_load h.r9) fun _ => ?_
        refine keeps_bind (keeps_load h.w12.reads) fun _ => ?_
        refine keeps_bind (keeps_store h.w12) fun _ => ?_
        refine keeps_bind (keeps_load h.w14.reads) fun _ => ?_
        refine keeps_bind (keeps_store h.w14) fun _ => ?_
        refine keeps_bind (keeps_load h.w14.reads) fun _ => ?_
        refine keeps_bind (keeps_load h.w14.reads) fun _ => ?_
        refine keeps_bind (keeps_store h.w14) fun _ => ?_
        refine keeps_bind (keeps_load h.w15.reads) fun _ => ?_
        refine keeps_bind (keeps_store h.w15) fun _ => ?_
        refine keeps_bind (keeps_load h.w13.reads) fun _ => ?_
        refine keeps_bind (keeps_store h.w13) fun _ => ?_
        exact hjp3 _
      · exact hjp3 _
    clear_value jp2
    refine keeps_dite (fun _ => ?_) (fun _ => ?_)
    · refine keeps_bind (k0_part9_keeps i harg3 harg4 harg5 harg6 harg7 harg8 harg9 harg10 harg11 harg12 harg13 harg14 harg15 h) fun _ => ?_
      refine keeps_bind (keeps_store h.w14) fun _ => ?_
      refine keeps_bind (keeps_load h.w15.reads) fun _ => ?_
      refine keeps_bind (keeps_store h.w15) fun _ => ?_
      refine keeps_bind (keeps_load h.w13.reads) fun _ => ?_
      refine keeps_bind (keeps_store h.w13) fun _ => ?_
      exact hjp2 _
    · exact hjp2 _
  clear_value jp1
  refine keeps_dite (fun _ => ?_) (fun _ => ?_)
  · refine keeps_bind (k0_part7_keeps i harg3 harg4 harg5 harg6 harg7 harg8 harg9 harg10 harg11 harg12 harg13 harg14 harg15 h _ _) fun ⟨_, _, _, _⟩ => ?_
    refine keeps_bind (k0_part8_keeps i harg3 harg4 harg5 harg6 harg7 harg8 harg9 harg10 harg11 harg12 harg13 harg14 harg15 h _ _ _ _ _) fun ⟨_, _⟩ => ?_
    refine keeps_bind (keeps_load h.w14.reads) fun _ => ?_
    refine keeps_bind (keeps_store h.w14) fun _ => ?_
    exact hjp1 _
  · exact hjp1 _

/-- A stretch of the attention body keeps what it holds. -/
theorem k0_part13_keeps (v198 : BitVec 32) (k0_h5 : k0_cond5 i = 1#1) :
    Keeps defs c R (k0_part13 (F := F) i arg3 harg3 arg4 harg4 arg5 harg5 arg6 harg6 arg7 harg7 arg8 harg8 arg9 harg9 arg10 harg10 arg11 harg11 arg12 harg12 arg13 harg13 arg14 harg14 arg15 harg15 v198 k0_h5) := by
  rw [k0_part13_eq_skeleton]
  unfold k0_part13_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part14_keeps (k0_h5 : k0_cond5 i = 1#1) (v348 : BitVec 32) (v356 : FVec F S16x128x512 .f32) (v373 : FVec F S2048x128 .f32) (v383 : FVec F S2048x128 .f32) (c1_i32_239 : BitVec 32) :
    Keeps defs c R (k0_part14 (F := F) i arg3 harg3 arg4 harg4 arg5 harg5 arg6 harg6 arg7 harg7 arg8 harg8 arg9 harg9 arg10 harg10 arg11 harg11 arg12 harg12 arg13 harg13 arg14 harg14 arg15 harg15 k0_h5 v348 v356 v373 v383 c1_i32_239) := by
  rw [k0_part14_eq_skeleton]
  unfold k0_part14_skel
  refine keeps_bind (keeps_load h.w12.reads) fun _ => ?_
  refine keeps_bind (keeps_store h.w12) fun _ => ?_
  refine keeps_bind (keeps_load h.r6) fun _ => ?_
  refine keeps_bind (keeps_load h.r9) fun _ => ?_
  refine keeps_bind (keeps_load h.w12.reads) fun _ => ?_
  refine keeps_bind (keeps_store h.w12) fun _ => ?_
  refine keeps_bind (keeps_load h.r6) fun _ => ?_
  refine keeps_bind (keeps_load h.r9) fun _ => ?_
  exact keeps_pure _

/-- A stretch of the attention body keeps what it holds. -/
theorem k0_part15_keeps (v198 : BitVec 32) (k0_h6 : k0_cond6 i = 1#1) :
    Keeps defs c R (k0_part15 (F := F) i arg3 harg3 arg4 harg4 arg5 harg5 arg6 harg6 arg7 harg7 arg8 harg8 arg9 harg9 arg10 harg10 arg11 harg11 arg12 harg12 arg13 harg13 arg14 harg14 arg15 harg15 v198 k0_h6) := by
  rw [k0_part15_eq_skeleton]
  unfold k0_part15_skel
  refine keeps_bind (keeps_load h.r5) fun _ => ?_
  refine keeps_bind (keeps_load h.w11.reads) fun _ => ?_
  refine keeps_bind (keeps_load h.w14.reads) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  exact keeps_pure _

/-- A stretch of the attention body keeps what it holds. -/
theorem k0_part16_keeps (k0_h6 : k0_cond6 i = 1#1) (v348 : BitVec 32) (v356 : FVec F S16x128x640 .f32) (v373 : FVec F S2048x128 .f32) (v383 : FVec F S2048x128 .f32) (c1_i32_239 : BitVec 32) :
    Keeps defs c R (k0_part16 (F := F) i arg3 harg3 arg4 harg4 arg5 harg5 arg6 harg6 arg7 harg7 arg8 harg8 arg9 harg9 arg10 harg10 arg11 harg11 arg12 harg12 arg13 harg13 arg14 harg14 arg15 harg15 k0_h6 v348 v356 v373 v383 c1_i32_239) := by
  rw [k0_part16_eq_skeleton]
  unfold k0_part16_skel
  refine keeps_bind (keeps_load h.w12.reads) fun _ => ?_
  refine keeps_bind (keeps_store h.w12) fun _ => ?_
  refine keeps_bind (keeps_load h.r6) fun _ => ?_
  refine keeps_bind (keeps_load h.w12.reads) fun _ => ?_
  refine keeps_bind (keeps_store h.w12) fun _ => ?_
  refine keeps_bind (keeps_load h.r6) fun _ => ?_
  refine keeps_bind (keeps_load h.r9) fun _ => ?_
  exact keeps_pure _

/-- A stretch of the attention body keeps what it holds. -/
theorem k0_part17_keeps (k0_h6 : k0_cond6 i = 1#1) (v348 : BitVec 32) (v356 : FVec F S16x128x640 .f32) (v405 : FVec F S2048x128 .f32) (v418 : FVec F S2048x128 .f32) :
    Keeps defs c R (k0_part17 (F := F) i arg3 harg3 arg4 harg4 arg5 harg5 arg6 harg6 arg7 harg7 arg8 harg8 arg9 harg9 arg10 harg10 arg11 harg11 arg12 harg12 arg13 harg13 arg14 harg14 arg15 harg15 k0_h6 v348 v356 v405 v418) := by
  rw [k0_part17_eq_skeleton]
  unfold k0_part17_skel
  refine keeps_bind (keeps_load h.w12.reads) fun _ => ?_
  refine keeps_bind (keeps_store h.w12) fun _ => ?_
  refine keeps_bind (keeps_load h.r6) fun _ => ?_
  refine keeps_bind (keeps_load h.r9) fun _ => ?_
  refine keeps_bind (keeps_load h.w12.reads) fun _ => ?_
  refine keeps_bind (keeps_store h.w12) fun _ => ?_
  refine keeps_bind (keeps_load h.w14.reads) fun _ => ?_
  refine keeps_bind (keeps_store h.w14) fun _ => ?_
  refine keeps_bind (keeps_load h.w14.reads) fun _ => ?_
  refine keeps_bind (keeps_load h.w14.reads) fun _ => ?_
  refine keeps_bind (keeps_store h.w14) fun _ => ?_
  exact keeps_pure _

/-- A stretch of the attention body keeps what it holds. -/
theorem k0_part89_keeps (arg2 : BitVec 32) (v181 : BitVec 32) (v198 : BitVec 32) (c0_i32_166 : BitVec 32) :
    Keeps defs c R (k0_part89 (F := F) i arg3 harg3 arg4 harg4 arg5 harg5 arg6 harg6 arg7 harg7 arg8 harg8 arg9 harg9 arg10 harg10 arg11 harg11 arg12 harg12 arg13 harg13 arg14 harg14 arg15 harg15 arg2 v181 v198 c0_i32_166) := by
  rw [k0_part89_eq_skeleton]
  unfold k0_part89_skel
  extract_lets -merge -useContext +onlyGivenNames _ _ _ _ _ _ _ _ _ _ _ _ _ _ _ _ _ _ _ _ _ _ _ _ _ jp2 jp1
  have hjp1 : ∀ a, Keeps defs c R (jp1 a) := by
    intro _
    have hjp2 : ∀ a, Keeps defs c R (jp2 a) := by
      intro _
      exact keeps_pure _
    clear_value jp2
    refine keeps_dite (fun _ => ?_) (fun _ => ?_)
    · refine keeps_bind (k0_part15_keeps i harg3 harg4 harg5 harg6 harg7 harg8 harg9 harg10 harg11 harg12 harg13 harg14 harg15 h _ _) fun ⟨_, _, _, _, _⟩ => ?_
      refine keeps_bind (k0_part16_keeps i harg3 harg4 harg5 harg6 harg7 harg8 harg9 harg10 harg11 harg12 harg13 harg14 harg15 h _ _ _ _ _ _) fun ⟨_, _⟩ => ?_
      refine keeps_bind (k0_part17_keeps i harg3 harg4 harg5 harg6 harg7 harg8 harg9 harg10 harg11 harg12 harg13 harg14 harg15 h _ _ _ _ _) fun _ => ?_
      refine keeps_bind (keeps_load h.w15.reads) fun _ => ?_
      refine keeps_bind (keeps_store h.w15) fun _ => ?_
      refine keeps_bind (keeps_load h.w13.reads) fun _ => ?_
      refine keeps_bind (keeps_store h.w13) fun _ => ?_
      exact hjp2 _
    · exact hjp2 _
  clear_value jp1
  refine keeps_dite (fun _ => ?_) (fun _ => ?_)
  · refine keeps_bind (k0_part13_keeps i harg3 harg4 harg5 harg6 harg7 harg8 harg9 harg10 harg11 harg12 harg13 harg14 harg15 h _ _) fun ⟨_, _, _, _, _⟩ => ?_
    refine keeps_bind (k0_part14_keeps i harg3 harg4 harg5 harg6 harg7 harg8 harg9 harg10 harg11 harg12 harg13 harg14 harg15 h _ _ _ _ _ _) fun ⟨_, _⟩ => ?_
    refine keeps_bind (keeps_load h.w12.reads) fun _ => ?_
    refine keeps_bind (keeps_store h.w12) fun _ => ?_
    refine keeps_bind (keeps_load h.w14.reads) fun _ => ?_
    refine keeps_bind (keeps_store h.w14) fun _ => ?_
    refine keeps_bind (keeps_load h.w14.reads) fun _ => ?_
    refine keeps_bind (keeps_load h.w14.reads) fun _ => ?_
    refine keeps_bind (keeps_store h.w14) fun _ => ?_
    refine keeps_bind (keeps_load h.w15.reads) fun _ => ?_
    refine keeps_bind (keeps_store h.w15) fun _ => ?_
    refine keeps_bind (keeps_load h.w13.reads) fun _ => ?_
    refine keeps_bind (keeps_store h.w13) fun _ => ?_
    exact hjp1 _
  · exact hjp1 _

/-- A stretch of the attention body keeps what it holds. -/
theorem k0_part18_keeps (c0_i32_188 : BitVec 32) (c1_i32_190 : BitVec 32) (k0_t3 : Fin (k0_t3_loop i).trips) :
    Keeps defs c R (k0_part18 (F := F) i arg3 harg3 arg4 harg4 arg5 harg5 arg6 harg6 arg7 harg7 arg8 harg8 arg9 harg9 arg10 harg10 arg11 harg11 arg12 harg12 arg13 harg13 arg14 harg14 arg15 harg15 c0_i32_188 c1_i32_190 k0_t3) := by
  rw [k0_part18_eq_skeleton]
  unfold k0_part18_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  exact keeps_pure _

/-- A stretch of the attention body keeps what it holds. -/
theorem k0_part19_keeps (k0_t3 : Fin (k0_t3_loop i).trips) (v348 : BitVec 32) (v353 : FVec F S1024x256 .bf16) (v354 : Vec F S2048x128 .f32) (v360 : FVec F S2048x128 .f32) (v366 : FVec F S2048x128 .f32) (v372 : FVec F S2048x128 .f32) (v378 : FVec F S2048x128 .f32) (v384 : FVec F S2048x128 .f32) (c5_i32 : BitVec 32) :
    Keeps defs c R (k0_part19 (F := F) i arg3 harg3 arg4 harg4 arg5 harg5 arg6 harg6 arg7 harg7 arg8 harg8 arg9 harg9 arg10 harg10 arg11 harg11 arg12 harg12 arg13 harg13 arg14 harg14 arg15 harg15 k0_t3 v348 v353 v354 v360 v366 v372 v378 v384 c5_i32) := by
  rw [k0_part19_eq_skeleton]
  unfold k0_part19_skel
  refine keeps_bind (keeps_load h.w12.reads) fun _ => ?_
  refine keeps_bind (keeps_load h.w12.reads) fun _ => ?_
  refine keeps_bind (keeps_load h.w12.reads) fun _ => ?_
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  exact keeps_pure _

/-- One trip of a loop of the attention body keeps what it holds. -/
theorem k0_t3_body_keeps (arg2 : BitVec 32) (v181 : BitVec 32) (v281 : BitVec 32) (c2_i32_180 : BitVec 32) (v282 : BitVec 32) (v287 : BitVec 32) (v289 : BitVec 32) (c0_i32_184 : BitVec 32) (k : Fin (k0_t3_loop i).trips) (u : Unit) :
    Keeps defs c R (k0_t3_body (F := F) i arg3 harg3 arg4 harg4 arg5 harg5 arg6 harg6 arg7 harg7 arg8 harg8 arg9 harg9 arg10 harg10 arg11 harg11 arg12 harg12 arg13 harg13 arg14 harg14 arg15 harg15 arg2 v181 v281 c2_i32_180 v282 v287 v289 c0_i32_184 k u) := by
  unfold k0_t3_body
  refine keeps_bind (k0_part18_keeps i harg3 harg4 harg5 harg6 harg7 harg8 harg9 harg10 harg11 harg12 harg13 harg14 harg15 h _ _ _) fun ⟨_, _, _, _, _, _, _, _, _⟩ => ?_
  refine keeps_bind (k0_part19_keeps i harg3 harg4 harg5 harg6 harg7 harg8 harg9 harg10 harg11 harg12 harg13 harg14 harg15 h _ _ _ _ _ _ _ _ _ _) fun _ => ?_
  refine keeps_bind (keeps_load h.w13.reads) fun _ => ?_
  refine keeps_bind (keeps_store h.w13) fun _ => ?_
  exact keeps_pure _

/-- A stretch of the attention body keeps what it holds. -/
theorem k0_part20_keeps (v303 : BitVec 32) (c1_i32_191 : BitVec 32) (k0_t4 : Fin (k0_t4_loop i).trips) :
    Keeps defs c R (k0_part20 (F := F) i arg3 harg3 arg4 harg4 arg5 harg5 arg6 harg6 arg7 harg7 arg8 harg8 arg9 harg9 arg10 harg10 arg11 harg11 arg12 harg12 arg13 harg13 arg14 harg14 arg15 harg15 v303 c1_i32_191 k0_t4) := by
  rw [k0_part20_eq_skeleton]
  unfold k0_part20_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  exact keeps_pure _

/-- A stretch of the attention body keeps what it holds. -/
theorem k0_part21_keeps (k0_t4 : Fin (k0_t4_loop i).trips) (v348 : BitVec 32) (v353 : FVec F S1024x256 .bf16) (v354 : Vec F S2048x128 .f32) (v360 : FVec F S2048x128 .f32) (v366 : FVec F S2048x128 .f32) (v372 : FVec F S2048x128 .f32) (v378 : FVec F S2048x128 .f32) (v384 : FVec F S2048x128 .f32) (c5_i32 : BitVec 32) :
    Keeps defs c R (k0_part21 (F := F) i arg3 harg3 arg4 harg4 arg5 harg5 arg6 harg6 arg7 harg7 arg8 harg8 arg9 harg9 arg10 harg10 arg11 harg11 arg12 harg12 arg13 harg13 arg14 harg14 arg15 harg15 k0_t4 v348 v353 v354 v360 v366 v372 v378 v384 c5_i32) := by
  rw [k0_part21_eq_skeleton]
  unfold k0_part21_skel
  refine keeps_bind (keeps_load h.w12.reads) fun _ => ?_
  refine keeps_bind (keeps_load h.w12.reads) fun _ => ?_
  refine keeps_bind (keeps_load h.w12.reads) fun _ => ?_
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  exact keeps_pure _

/-- One trip of a loop of the attention body keeps what it holds. -/
theorem k0_t4_body_keeps (arg2 : BitVec 32) (v181 : BitVec 32) (v281 : BitVec 32) (c2_i32_180 : BitVec 32) (v282 : BitVec 32) (v287 : BitVec 32) (v289 : BitVec 32) (c0_i32_184 : BitVec 32) (v303 : BitVec 32) (k : Fin (k0_t4_loop i).trips) (u : Unit) :
    Keeps defs c R (k0_t4_body (F := F) i arg3 harg3 arg4 harg4 arg5 harg5 arg6 harg6 arg7 harg7 arg8 harg8 arg9 harg9 arg10 harg10 arg11 harg11 arg12 harg12 arg13 harg13 arg14 harg14 arg15 harg15 arg2 v181 v281 c2_i32_180 v282 v287 v289 c0_i32_184 v303 k u) := by
  unfold k0_t4_body
  refine keeps_bind (k0_part20_keeps i harg3 harg4 harg5 harg6 harg7 harg8 harg9 harg10 harg11 harg12 harg13 harg14 harg15 h _ _ _) fun ⟨_, _, _, _, _, _, _, _, _⟩ => ?_
  refine keeps_bind (k0_part21_keeps i harg3 harg4 harg5 harg6 harg7 harg8 harg9 harg10 harg11 harg12 harg13 harg14 harg15 h _ _ _ _ _ _ _ _ _ _) fun _ => ?_
  refine keeps_bind (keeps_load h.w13.reads) fun _ => ?_
  refine keeps_bind (keeps_store h.w13) fun _ => ?_
  exact keeps_pure _

/-- A stretch of the attention body keeps what it holds. -/
theorem k0_part22_keeps (v281 : BitVec 32) (k0_h7 : k0_cond7 i = 1#1) :
    Keeps defs c R (k0_part22 (F := F) i arg3 harg3 arg4 harg4 arg5 harg5 arg6 harg6 arg7 harg7 arg8 harg8 arg9 harg9 arg10 harg10 arg11 harg11 arg12 harg12 arg13 harg13 arg14 harg14 arg15 harg15 v281 k0_h7) := by
  rw [k0_part22_eq_skeleton]
  unfold k0_part22_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w15.reads) fun _ => ?_
  exact keeps_pure _

/-- A stretch of the attention body keeps what it holds. -/
theorem k0_part23_keeps :
    Keeps defs c R (k0_part23 (F := F) i arg3 harg3 arg4 harg4 arg5 harg5 arg6 harg6 arg7 harg7 arg8 harg8 arg9 harg9 arg10 harg10 arg11 harg11 arg12 harg12 arg13 harg13 arg14 harg14 arg15 harg15) := by
  rw [k0_part23_eq_skeleton]
  unfold k0_part23_skel
  refine keeps_bind (keeps_load h.r5) fun _ => ?_
  refine keeps_bind (keeps_load h.w14.reads) fun _ => ?_
  refine keeps_bind (keeps_load h.w12.reads) fun _ => ?_
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  refine keeps_bind (keeps_load h.w13.reads) fun _ => ?_
  refine keeps_bind (keeps_store h.w13) fun _ => ?_
  refine keeps_bind (keeps_load h.w15.reads) fun _ => ?_
  refine keeps_bind (keeps_load h.w13.reads) fun _ => ?_
  refine keeps_bind (keeps_load h.r8) fun _ => ?_
  exact keeps_pure _

/-- A stretch of the attention body keeps what it holds. -/
theorem k0_part24_keeps (v371 : FVec F S2048x1 .f32) (v379 : FVec F S128x128 .f32) :
    Keeps defs c R (k0_part24 (F := F) i arg3 harg3 arg4 harg4 arg5 harg5 arg6 harg6 arg7 harg7 arg8 harg8 arg9 harg9 arg10 harg10 arg11 harg11 arg12 harg12 arg13 harg13 arg14 harg14 arg15 harg15 v371 v379) := by
  rw [k0_part24_eq_skeleton]
  unfold k0_part24_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part25_keeps (v371 : FVec F S2048x1 .f32) (v416 : FVec F S128x128 .bf16) :
    Keeps defs c R (k0_part25 (F := F) i arg3 harg3 arg4 harg4 arg5 harg5 arg6 harg6 arg7 harg7 arg8 harg8 arg9 harg9 arg10 harg10 arg11 harg11 arg12 harg12 arg13 harg13 arg14 harg14 arg15 harg15 v371 v416) := by
  rw [k0_part25_eq_skeleton]
  unfold k0_part25_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part26_keeps (v371 : FVec F S2048x1 .f32) (v451 : FVec F S128x128 .f32) :
    Keeps defs c R (k0_part26 (F := F) i arg3 harg3 arg4 harg4 arg5 harg5 arg6 harg6 arg7 harg7 arg8 harg8 arg9 harg9 arg10 harg10 arg11 harg11 arg12 harg12 arg13 harg13 arg14 harg14 arg15 harg15 v371 v451) := by
  rw [k0_part26_eq_skeleton]
  unfold k0_part26_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part27_keeps (v371 : FVec F S2048x1 .f32) (v488 : FVec F S128x128 .bf16) :
    Keeps defs c R (k0_part27 (F := F) i arg3 harg3 arg4 harg4 arg5 harg5 arg6 harg6 arg7 harg7 arg8 harg8 arg9 harg9 arg10 harg10 arg11 harg11 arg12 harg12 arg13 harg13 arg14 harg14 arg15 harg15 v371 v488) := by
  rw [k0_part27_eq_skeleton]
  unfold k0_part27_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part28_keeps (v371 : FVec F S2048x1 .f32) (v523 : FVec F S128x128 .f32) :
    Keeps defs c R (k0_part28 (F := F) i arg3 harg3 arg4 harg4 arg5 harg5 arg6 harg6 arg7 harg7 arg8 harg8 arg9 harg9 arg10 harg10 arg11 harg11 arg12 harg12 arg13 harg13 arg14 harg14 arg15 harg15 v371 v523) := by
  rw [k0_part28_eq_skeleton]
  unfold k0_part28_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part29_keeps (v371 : FVec F S2048x1 .f32) (v560 : FVec F S128x128 .bf16) :
    Keeps defs c R (k0_part29 (F := F) i arg3 harg3 arg4 harg4 arg5 harg5 arg6 harg6 arg7 harg7 arg8 harg8 arg9 harg9 arg10 harg10 arg11 harg11 arg12 harg12 arg13 harg13 arg14 harg14 arg15 harg15 v371 v560) := by
  rw [k0_part29_eq_skeleton]
  unfold k0_part29_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part30_keeps (v371 : FVec F S2048x1 .f32) (v595 : FVec F S128x128 .f32) :
    Keeps defs c R (k0_part30 (F := F) i arg3 harg3 arg4 harg4 arg5 harg5 arg6 harg6 arg7 harg7 arg8 harg8 arg9 harg9 arg10 harg10 arg11 harg11 arg12 harg12 arg13 harg13 arg14 harg14 arg15 harg15 v371 v595) := by
  rw [k0_part30_eq_skeleton]
  unfold k0_part30_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part31_keeps (v371 : FVec F S2048x1 .f32) (v632 : FVec F S128x128 .bf16) :
    Keeps defs c R (k0_part31 (F := F) i arg3 harg3 arg4 harg4 arg5 harg5 arg6 harg6 arg7 harg7 arg8 harg8 arg9 harg9 arg10 harg10 arg11 harg11 arg12 harg12 arg13 harg13 arg14 harg14 arg15 harg15 v371 v632) := by
  rw [k0_part31_eq_skeleton]
  unfold k0_part31_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part32_keeps (v371 : FVec F S2048x1 .f32) (v667 : FVec F S128x128 .f32) :
    Keeps defs c R (k0_part32 (F := F) i arg3 harg3 arg4 harg4 arg5 harg5 arg6 harg6 arg7 harg7 arg8 harg8 arg9 harg9 arg10 harg10 arg11 harg11 arg12 harg12 arg13 harg13 arg14 harg14 arg15 harg15 v371 v667) := by
  rw [k0_part32_eq_skeleton]
  unfold k0_part32_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part33_keeps (v371 : FVec F S2048x1 .f32) (v704 : FVec F S128x128 .bf16) :
    Keeps defs c R (k0_part33 (F := F) i arg3 harg3 arg4 harg4 arg5 harg5 arg6 harg6 arg7 harg7 arg8 harg8 arg9 harg9 arg10 harg10 arg11 harg11 arg12 harg12 arg13 harg13 arg14 harg14 arg15 harg15 v371 v704) := by
  rw [k0_part33_eq_skeleton]
  unfold k0_part33_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part90_keeps (arg2 : BitVec 32) (v181 : BitVec 32) (v281 : BitVec 32) (c2_i32_180 : BitVec 32) (v282 : BitVec 32) (v287 : BitVec 32) (v289 : BitVec 32) (c0_i32_184 : BitVec 32) :
    Keeps defs c R (k0_part90 (F := F) i arg3 harg3 arg4 harg4 arg5 harg5 arg6 harg6 arg7 harg7 arg8 harg8 arg9 harg9 arg10 harg10 arg11 harg11 arg12 harg12 arg13 harg13 arg14 harg14 arg15 harg15 arg2 v181 v281 c2_i32_180 v282 v287 v289 c0_i32_184) := by
  rw [k0_part90_eq_skeleton]
  unfold k0_part90_skel
  refine keeps_bind (keeps_for _ _ _ _ fun k u => k0_t3_body_keeps i harg3 harg4 harg5 harg6 harg7 harg8 harg9 harg10 harg11 harg12 harg13 harg14 harg15 h _ _ _ _ _ _ _ _ k u) fun _ => ?_
  refine keeps_bind (keeps_for _ _ _ _ fun k u => k0_t4_body_keeps i harg3 harg4 harg5 harg6 harg7 harg8 harg9 harg10 harg11 harg12 harg13 harg14 harg15 h _ _ _ _ _ _ _ _ _ k u) fun _ => ?_
  extract_lets -merge -useContext +onlyGivenNames _ _ _ _ _ _ jp2 jp1
  have hjp1 : ∀ a, Keeps defs c R (jp1 a) := by
    intro _
    have hjp2 : ∀ a, Keeps defs c R (jp2 a) := by
      intro _
      exact keeps_pure _
    clear_value jp2
    refine keeps_dite (fun _ => ?_) (fun _ => ?_)
    · refine keeps_bind (k0_part23_keeps i harg3 harg4 harg5 harg6 harg7 harg8 harg9 harg10 harg11 harg12 harg13 harg14 harg15 h) fun ⟨_, _⟩ => ?_
      refine keeps_bind (k0_part24_keeps i harg3 harg4 harg5 harg6 harg7 harg8 harg9 harg10 harg11 harg12 harg13 harg14 harg15 h _ _) fun _ => ?_
      refine keeps_bind (k0_part25_keeps i harg3 harg4 harg5 harg6 harg7 harg8 harg9 harg10 harg11 harg12 harg13 harg14 harg15 h _ _) fun _ => ?_
      refine keeps_bind (k0_part26_keeps i harg3 harg4 harg5 harg6 harg7 harg8 harg9 harg10 harg11 harg12 harg13 harg14 harg15 h _ _) fun _ => ?_
      refine keeps_bind (k0_part27_keeps i harg3 harg4 harg5 harg6 harg7 harg8 harg9 harg10 harg11 harg12 harg13 harg14 harg15 h _ _) fun _ => ?_
      refine keeps_bind (k0_part28_keeps i harg3 harg4 harg5 harg6 harg7 harg8 harg9 harg10 harg11 harg12 harg13 harg14 harg15 h _ _) fun _ => ?_
      refine keeps_bind (k0_part29_keeps i harg3 harg4 harg5 harg6 harg7 harg8 harg9 harg10 harg11 harg12 harg13 harg14 harg15 h _ _) fun _ => ?_
      refine keeps_bind (k0_part30_keeps i harg3 harg4 harg5 harg6 harg7 harg8 harg9 harg10 harg11 harg12 harg13 harg14 harg15 h _ _) fun _ => ?_
      refine keeps_bind (k0_part31_keeps i harg3 harg4 harg5 harg6 harg7 harg8 harg9 harg10 harg11 harg12 harg13 harg14 harg15 h _ _) fun _ => ?_
      refine keeps_bind (k0_part32_keeps i harg3 harg4 harg5 harg6 harg7 harg8 harg9 harg10 harg11 harg12 harg13 harg14 harg15 h _ _) fun _ => ?_
      refine keeps_bind (k0_part33_keeps i harg3 harg4 harg5 harg6 harg7 harg8 harg9 harg10 harg11 harg12 harg13 harg14 harg15 h _ _) fun _ => ?_
      refine keeps_bind (keeps_load h.r4) fun _ => ?_
      refine keeps_bind (keeps_load h.w10.reads) fun _ => ?_
      refine keeps_bind (keeps_store h.w10) fun _ => ?_
      exact hjp2 _
    · exact hjp2 _
  clear_value jp1
  refine keeps_dite (fun _ => ?_) (fun _ => ?_)
  · refine keeps_bind (k0_part22_keeps i harg3 harg4 harg5 harg6 harg7 harg8 harg9 harg10 harg11 harg12 harg13 harg14 harg15 h _ _) fun ⟨_, _, _, _, _, _⟩ => ?_
    refine keeps_bind (keeps_load h.w15.reads) fun _ => ?_
    refine keeps_bind (keeps_store h.w15) fun _ => ?_
    refine keeps_bind (keeps_load h.w13.reads) fun _ => ?_
    refine keeps_bind (keeps_load h.w13.reads) fun _ => ?_
    refine keeps_bind (keeps_store h.w13) fun _ => ?_
    exact hjp1 _
  · exact hjp1 _

/-- A stretch of the attention body keeps what it holds. -/
theorem k0_part34_keeps (v281 : BitVec 32) (k0_h9 : k0_cond9 i = 1#1) :
    Keeps defs c R (k0_part34 (F := F) i arg3 harg3 arg4 harg4 arg5 harg5 arg6 harg6 arg7 harg7 arg8 harg8 arg9 harg9 arg10 harg10 arg11 harg11 arg12 harg12 arg13 harg13 arg14 harg14 arg15 harg15 v281 k0_h9) := by
  rw [k0_part34_eq_skeleton]
  unfold k0_part34_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  refine keeps_bind (keeps_load h.w13.reads) fun _ => ?_
  refine keeps_bind (keeps_store h.w13) fun _ => ?_
  refine keeps_bind (keeps_load h.w15.reads) fun _ => ?_
  exact keeps_pure _

/-- A stretch of the attention body keeps what it holds. -/
theorem k0_part35_keeps (v382 : Vec F S2048x128 .f32) :
    Keeps defs c R (k0_part35 (F := F) i arg3 harg3 arg4 harg4 arg5 harg5 arg6 harg6 arg7 harg7 arg8 harg8 arg9 harg9 arg10 harg10 arg11 harg11 arg12 harg12 arg13 harg13 arg14 harg14 arg15 harg15 v382) := by
  rw [k0_part35_eq_skeleton]
  unfold k0_part35_skel
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part36_keeps (v384 : FVec F S2048x1 .f32) (v416 : FVec F S128x128 .f32) :
    Keeps defs c R (k0_part36 (F := F) i arg3 harg3 arg4 harg4 arg5 harg5 arg6 harg6 arg7 harg7 arg8 harg8 arg9 harg9 arg10 harg10 arg11 harg11 arg12 harg12 arg13 harg13 arg14 harg14 arg15 harg15 v384 v416) := by
  rw [k0_part36_eq_skeleton]
  unfold k0_part36_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  exact keeps_pure _

/-- A stretch of the attention body keeps what it holds. -/
theorem k0_part37_keeps (v384 : FVec F S2048x1 .f32) (v453 : FVec F S128x128 .bf16) (v454 : Vec F S1x128x128 .bf16) :
    Keeps defs c R (k0_part37 (F := F) i arg3 harg3 arg4 harg4 arg5 harg5 arg6 harg6 arg7 harg7 arg8 harg8 arg9 harg9 arg10 harg10 arg11 harg11 arg12 harg12 arg13 harg13 arg14 harg14 arg15 harg15 v384 v453 v454) := by
  rw [k0_part37_eq_skeleton]
  unfold k0_part37_skel
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part38_keeps (v384 : FVec F S2048x1 .f32) (v488 : FVec F S128x128 .f32) :
    Keeps defs c R (k0_part38 (F := F) i arg3 harg3 arg4 harg4 arg5 harg5 arg6 harg6 arg7 harg7 arg8 harg8 arg9 harg9 arg10 harg10 arg11 harg11 arg12 harg12 arg13 harg13 arg14 harg14 arg15 harg15 v384 v488) := by
  rw [k0_part38_eq_skeleton]
  unfold k0_part38_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  exact keeps_pure _

/-- A stretch of the attention body keeps what it holds. -/
theorem k0_part39_keeps (v384 : FVec F S2048x1 .f32) (v525 : FVec F S128x128 .bf16) (v526 : Vec F S1x128x128 .bf16) :
    Keeps defs c R (k0_part39 (F := F) i arg3 harg3 arg4 harg4 arg5 harg5 arg6 harg6 arg7 harg7 arg8 harg8 arg9 harg9 arg10 harg10 arg11 harg11 arg12 harg12 arg13 harg13 arg14 harg14 arg15 harg15 v384 v525 v526) := by
  rw [k0_part39_eq_skeleton]
  unfold k0_part39_skel
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part40_keeps (v384 : FVec F S2048x1 .f32) (v560 : FVec F S128x128 .f32) :
    Keeps defs c R (k0_part40 (F := F) i arg3 harg3 arg4 harg4 arg5 harg5 arg6 harg6 arg7 harg7 arg8 harg8 arg9 harg9 arg10 harg10 arg11 harg11 arg12 harg12 arg13 harg13 arg14 harg14 arg15 harg15 v384 v560) := by
  rw [k0_part40_eq_skeleton]
  unfold k0_part40_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  exact keeps_pure _

/-- A stretch of the attention body keeps what it holds. -/
theorem k0_part41_keeps (v384 : FVec F S2048x1 .f32) (v597 : FVec F S128x128 .bf16) (v598 : Vec F S1x128x128 .bf16) :
    Keeps defs c R (k0_part41 (F := F) i arg3 harg3 arg4 harg4 arg5 harg5 arg6 harg6 arg7 harg7 arg8 harg8 arg9 harg9 arg10 harg10 arg11 harg11 arg12 harg12 arg13 harg13 arg14 harg14 arg15 harg15 v384 v597 v598) := by
  rw [k0_part41_eq_skeleton]
  unfold k0_part41_skel
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part42_keeps (v384 : FVec F S2048x1 .f32) (v632 : FVec F S128x128 .f32) :
    Keeps defs c R (k0_part42 (F := F) i arg3 harg3 arg4 harg4 arg5 harg5 arg6 harg6 arg7 harg7 arg8 harg8 arg9 harg9 arg10 harg10 arg11 harg11 arg12 harg12 arg13 harg13 arg14 harg14 arg15 harg15 v384 v632) := by
  rw [k0_part42_eq_skeleton]
  unfold k0_part42_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  exact keeps_pure _

/-- A stretch of the attention body keeps what it holds. -/
theorem k0_part43_keeps (v384 : FVec F S2048x1 .f32) (v669 : FVec F S128x128 .bf16) (v670 : Vec F S1x128x128 .bf16) :
    Keeps defs c R (k0_part43 (F := F) i arg3 harg3 arg4 harg4 arg5 harg5 arg6 harg6 arg7 harg7 arg8 harg8 arg9 harg9 arg10 harg10 arg11 harg11 arg12 harg12 arg13 harg13 arg14 harg14 arg15 harg15 v384 v669 v670) := by
  rw [k0_part43_eq_skeleton]
  unfold k0_part43_skel
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part44_keeps (v384 : FVec F S2048x1 .f32) (v704 : FVec F S128x128 .f32) :
    Keeps defs c R (k0_part44 (F := F) i arg3 harg3 arg4 harg4 arg5 harg5 arg6 harg6 arg7 harg7 arg8 harg8 arg9 harg9 arg10 harg10 arg11 harg11 arg12 harg12 arg13 harg13 arg14 harg14 arg15 harg15 v384 v704) := by
  rw [k0_part44_eq_skeleton]
  unfold k0_part44_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  exact keeps_pure _

/-- A stretch of the attention body keeps what it holds. -/
theorem k0_part45_keeps (v281 : BitVec 32) (k0_h10 : k0_cond10 i = 1#1) :
    Keeps defs c R (k0_part45 (F := F) i arg3 harg3 arg4 harg4 arg5 harg5 arg6 harg6 arg7 harg7 arg8 harg8 arg9 harg9 arg10 harg10 arg11 harg11 arg12 harg12 arg13 harg13 arg14 harg14 arg15 harg15 v281 k0_h10) := by
  rw [k0_part45_eq_skeleton]
  unfold k0_part45_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  exact keeps_pure _

/-- A stretch of the attention body keeps what it holds. -/
theorem k0_part46_keeps (v353 : FVec F S384x256 .bf16) (v383 : FVec F S2048x384 .bf16) (v384 : Vec F S2048x256 .f32) (cst_238 : FVec F S2048x256 .f32) :
    Keeps defs c R (k0_part46 (F := F) i arg3 harg3 arg4 harg4 arg5 harg5 arg6 harg6 arg7 harg7 arg8 harg8 arg9 harg9 arg10 harg10 arg11 harg11 arg12 harg12 arg13 harg13 arg14 harg14 arg15 harg15 v353 v383 v384 cst_238) := by
  rw [k0_part46_eq_skeleton]
  unfold k0_part46_skel
  refine keeps_bind (keeps_load h.w13.reads) fun _ => ?_
  refine keeps_bind (keeps_store h.w13) fun _ => ?_
  refine keeps_bind (keeps_load h.w15.reads) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part47_keeps (v392 : FVec F S2048x1 .f32) (v418 : FVec F S128x256 .bf16) :
    Keeps defs c R (k0_part47 (F := F) i arg3 harg3 arg4 harg4 arg5 harg5 arg6 harg6 arg7 harg7 arg8 harg8 arg9 harg9 arg10 harg10 arg11 harg11 arg12 harg12 arg13 harg13 arg14 harg14 arg15 harg15 v392 v418) := by
  rw [k0_part47_eq_skeleton]
  unfold k0_part47_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part48_keeps (v392 : FVec F S2048x1 .f32) (v448 : FVec F S128x128 .f32) (v451 : FVec F S128x128 .f32) (v454 : FVec F S128x128 .f32) (v455 : FVec F S128x128 .f32) :
    Keeps defs c R (k0_part48 (F := F) i arg3 harg3 arg4 harg4 arg5 harg5 arg6 harg6 arg7 harg7 arg8 harg8 arg9 harg9 arg10 harg10 arg11 harg11 arg12 harg12 arg13 harg13 arg14 harg14 arg15 harg15 v392 v448 v451 v454 v455) := by
  rw [k0_part48_eq_skeleton]
  unfold k0_part48_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part49_keeps (v392 : FVec F S2048x1 .f32) (v490 : FVec F S128x256 .bf16) :
    Keeps defs c R (k0_part49 (F := F) i arg3 harg3 arg4 harg4 arg5 harg5 arg6 harg6 arg7 harg7 arg8 harg8 arg9 harg9 arg10 harg10 arg11 harg11 arg12 harg12 arg13 harg13 arg14 harg14 arg15 harg15 v392 v490) := by
  rw [k0_part49_eq_skeleton]
  unfold k0_part49_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part50_keeps (v392 : FVec F S2048x1 .f32) (v520 : FVec F S128x128 .f32) (v523 : FVec F S128x128 .f32) (v526 : FVec F S128x128 .f32) (v527 : FVec F S128x128 .f32) :
    Keeps defs c R (k0_part50 (F := F) i arg3 harg3 arg4 harg4 arg5 harg5 arg6 harg6 arg7 harg7 arg8 harg8 arg9 harg9 arg10 harg10 arg11 harg11 arg12 harg12 arg13 harg13 arg14 harg14 arg15 harg15 v392 v520 v523 v526 v527) := by
  rw [k0_part50_eq_skeleton]
  unfold k0_part50_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part51_keeps (v392 : FVec F S2048x1 .f32) (v562 : FVec F S128x256 .bf16) :
    Keeps defs c R (k0_part51 (F := F) i arg3 harg3 arg4 harg4 arg5 harg5 arg6 harg6 arg7 harg7 arg8 harg8 arg9 harg9 arg10 harg10 arg11 harg11 arg12 harg12 arg13 harg13 arg14 harg14 arg15 harg15 v392 v562) := by
  rw [k0_part51_eq_skeleton]
  unfold k0_part51_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part52_keeps (v392 : FVec F S2048x1 .f32) (v592 : FVec F S128x128 .f32) (v595 : FVec F S128x128 .f32) (v598 : FVec F S128x128 .f32) (v599 : FVec F S128x128 .f32) :
    Keeps defs c R (k0_part52 (F := F) i arg3 harg3 arg4 harg4 arg5 harg5 arg6 harg6 arg7 harg7 arg8 harg8 arg9 harg9 arg10 harg10 arg11 harg11 arg12 harg12 arg13 harg13 arg14 harg14 arg15 harg15 v392 v592 v595 v598 v599) := by
  rw [k0_part52_eq_skeleton]
  unfold k0_part52_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part53_keeps (v392 : FVec F S2048x1 .f32) (v634 : FVec F S128x256 .bf16) :
    Keeps defs c R (k0_part53 (F := F) i arg3 harg3 arg4 harg4 arg5 harg5 arg6 harg6 arg7 harg7 arg8 harg8 arg9 harg9 arg10 harg10 arg11 harg11 arg12 harg12 arg13 harg13 arg14 harg14 arg15 harg15 v392 v634) := by
  rw [k0_part53_eq_skeleton]
  unfold k0_part53_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part54_keeps (v392 : FVec F S2048x1 .f32) (v664 : FVec F S128x128 .f32) (v667 : FVec F S128x128 .f32) (v670 : FVec F S128x128 .f32) (v671 : FVec F S128x128 .f32) :
    Keeps defs c R (k0_part54 (F := F) i arg3 harg3 arg4 harg4 arg5 harg5 arg6 harg6 arg7 harg7 arg8 harg8 arg9 harg9 arg10 harg10 arg11 harg11 arg12 harg12 arg13 harg13 arg14 harg14 arg15 harg15 v392 v664 v667 v670 v671) := by
  rw [k0_part54_eq_skeleton]
  unfold k0_part54_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part55_keeps (v392 : FVec F S2048x1 .f32) (v706 : FVec F S128x256 .bf16) :
    Keeps defs c R (k0_part55 (F := F) i arg3 harg3 arg4 harg4 arg5 harg5 arg6 harg6 arg7 harg7 arg8 harg8 arg9 harg9 arg10 harg10 arg11 harg11 arg12 harg12 arg13 harg13 arg14 harg14 arg15 harg15 v392 v706) := by
  rw [k0_part55_eq_skeleton]
  unfold k0_part55_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part56_keeps (v281 : BitVec 32) (k0_h10 : k0_cond10 i = 1#1) :
    Keeps defs c R (k0_part56 (F := F) i arg3 harg3 arg4 harg4 arg5 harg5 arg6 harg6 arg7 harg7 arg8 harg8 arg9 harg9 arg10 harg10 arg11 harg11 arg12 harg12 arg13 harg13 arg14 harg14 arg15 harg15 v281 k0_h10) := by
  rw [k0_part56_eq_skeleton]
  unfold k0_part56_skel
  refine keeps_bind (k0_part45_keeps i harg3 harg4 harg5 harg6 harg7 harg8 harg9 harg10 harg11 harg12 harg13 harg14 harg15 h _ _) fun ⟨_, _, _, _⟩ => ?_
  refine keeps_bind (k0_part46_keeps i harg3 harg4 harg5 harg6 harg7 harg8 harg9 harg10 harg11 harg12 harg13 harg14 harg15 h _ _ _ _) fun ⟨_, _⟩ => ?_
  refine keeps_bind (k0_part47_keeps i harg3 harg4 harg5 harg6 harg7 harg8 harg9 harg10 harg11 harg12 harg13 harg14 harg15 h _ _) fun ⟨_, _, _, _⟩ => ?_
  refine keeps_bind (k0_part48_keeps i harg3 harg4 harg5 harg6 harg7 harg8 harg9 harg10 harg11 harg12 harg13 harg14 harg15 h _ _ _ _ _) fun _ => ?_
  refine keeps_bind (k0_part49_keeps i harg3 harg4 harg5 harg6 harg7 harg8 harg9 harg10 harg11 harg12 harg13 harg14 harg15 h _ _) fun ⟨_, _, _, _⟩ => ?_
  refine keeps_bind (k0_part50_keeps i harg3 harg4 harg5 harg6 harg7 harg8 harg9 harg10 harg11 harg12 harg13 harg14 harg15 h _ _ _ _ _) fun _ => ?_
  refine keeps_bind (k0_part51_keeps i harg3 harg4 harg5 harg6 harg7 harg8 harg9 harg10 harg11 harg12 harg13 harg14 harg15 h _ _) fun ⟨_, _, _, _⟩ => ?_
  refine keeps_bind (k0_part52_keeps i harg3 harg4 harg5 harg6 harg7 harg8 harg9 harg10 harg11 harg12 harg13 harg14 harg15 h _ _ _ _ _) fun _ => ?_
  refine keeps_bind (k0_part53_keeps i harg3 harg4 harg5 harg6 harg7 harg8 harg9 harg10 harg11 harg12 harg13 harg14 harg15 h _ _) fun ⟨_, _, _, _⟩ => ?_
  refine keeps_bind (k0_part54_keeps i harg3 harg4 harg5 harg6 harg7 harg8 harg9 harg10 harg11 harg12 harg13 harg14 harg15 h _ _ _ _ _) fun _ => ?_
  refine keeps_bind (k0_part55_keeps i harg3 harg4 harg5 harg6 harg7 harg8 harg9 harg10 harg11 harg12 harg13 harg14 harg15 h _ _) fun ⟨_, _, _, _⟩ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part57_keeps (v281 : BitVec 32) (k0_h11 : k0_cond11 i = 1#1) :
    Keeps defs c R (k0_part57 (F := F) i arg3 harg3 arg4 harg4 arg5 harg5 arg6 harg6 arg7 harg7 arg8 harg8 arg9 harg9 arg10 harg10 arg11 harg11 arg12 harg12 arg13 harg13 arg14 harg14 arg15 harg15 v281 k0_h11) := by
  rw [k0_part57_eq_skeleton]
  unfold k0_part57_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w15.reads) fun _ => ?_
  refine keeps_bind (keeps_load h.w15.reads) fun _ => ?_
  exact keeps_pure _

/-- A stretch of the attention body keeps what it holds. -/
theorem k0_part58_keeps (v353 : FVec F S512x256 .bf16) (v360 : FVec F S2048x128 .f32) (v366 : FVec F S2048x128 .f32) (v372 : FVec F S2048x128 .f32) (v378 : FVec F S2048x128 .f32) (v383 : FVec F S2048x128 .f32) :
    Keeps defs c R (k0_part58 (F := F) i arg3 harg3 arg4 harg4 arg5 harg5 arg6 harg6 arg7 harg7 arg8 harg8 arg9 harg9 arg10 harg10 arg11 harg11 arg12 harg12 arg13 harg13 arg14 harg14 arg15 harg15 v353 v360 v366 v372 v378 v383) := by
  rw [k0_part58_eq_skeleton]
  unfold k0_part58_skel
  refine keeps_bind (keeps_store h.w15) fun _ => ?_
  refine keeps_bind (keeps_load h.w13.reads) fun _ => ?_
  refine keeps_bind (keeps_load h.w13.reads) fun _ => ?_
  refine keeps_bind (keeps_store h.w13) fun _ => ?_
  refine keeps_bind (keeps_load h.w15.reads) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part59_keeps (v400 : FVec F S2048x1 .f32) (v421 : FVec F S128x128 .bf16) :
    Keeps defs c R (k0_part59 (F := F) i arg3 harg3 arg4 harg4 arg5 harg5 arg6 harg6 arg7 harg7 arg8 harg8 arg9 harg9 arg10 harg10 arg11 harg11 arg12 harg12 arg13 harg13 arg14 harg14 arg15 harg15 v400 v421) := by
  rw [k0_part59_eq_skeleton]
  unfold k0_part59_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part60_keeps (v400 : FVec F S2048x1 .f32) (v456 : FVec F S128x128 .f32) :
    Keeps defs c R (k0_part60 (F := F) i arg3 harg3 arg4 harg4 arg5 harg5 arg6 harg6 arg7 harg7 arg8 harg8 arg9 harg9 arg10 harg10 arg11 harg11 arg12 harg12 arg13 harg13 arg14 harg14 arg15 harg15 v400 v456) := by
  rw [k0_part60_eq_skeleton]
  unfold k0_part60_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part61_keeps (v400 : FVec F S2048x1 .f32) (v493 : FVec F S128x128 .bf16) :
    Keeps defs c R (k0_part61 (F := F) i arg3 harg3 arg4 harg4 arg5 harg5 arg6 harg6 arg7 harg7 arg8 harg8 arg9 harg9 arg10 harg10 arg11 harg11 arg12 harg12 arg13 harg13 arg14 harg14 arg15 harg15 v400 v493) := by
  rw [k0_part61_eq_skeleton]
  unfold k0_part61_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part62_keeps (v400 : FVec F S2048x1 .f32) (v528 : FVec F S128x128 .f32) :
    Keeps defs c R (k0_part62 (F := F) i arg3 harg3 arg4 harg4 arg5 harg5 arg6 harg6 arg7 harg7 arg8 harg8 arg9 harg9 arg10 harg10 arg11 harg11 arg12 harg12 arg13 harg13 arg14 harg14 arg15 harg15 v400 v528) := by
  rw [k0_part62_eq_skeleton]
  unfold k0_part62_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part63_keeps (v400 : FVec F S2048x1 .f32) (v565 : FVec F S128x128 .bf16) :
    Keeps defs c R (k0_part63 (F := F) i arg3 harg3 arg4 harg4 arg5 harg5 arg6 harg6 arg7 harg7 arg8 harg8 arg9 harg9 arg10 harg10 arg11 harg11 arg12 harg12 arg13 harg13 arg14 harg14 arg15 harg15 v400 v565) := by
  rw [k0_part63_eq_skeleton]
  unfold k0_part63_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part64_keeps (v400 : FVec F S2048x1 .f32) (v600 : FVec F S128x128 .f32) :
    Keeps defs c R (k0_part64 (F := F) i arg3 harg3 arg4 harg4 arg5 harg5 arg6 harg6 arg7 harg7 arg8 harg8 arg9 harg9 arg10 harg10 arg11 harg11 arg12 harg12 arg13 harg13 arg14 harg14 arg15 harg15 v400 v600) := by
  rw [k0_part64_eq_skeleton]
  unfold k0_part64_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part65_keeps (v400 : FVec F S2048x1 .f32) (v637 : FVec F S128x128 .bf16) :
    Keeps defs c R (k0_part65 (F := F) i arg3 harg3 arg4 harg4 arg5 harg5 arg6 harg6 arg7 harg7 arg8 harg8 arg9 harg9 arg10 harg10 arg11 harg11 arg12 harg12 arg13 harg13 arg14 harg14 arg15 harg15 v400 v637) := by
  rw [k0_part65_eq_skeleton]
  unfold k0_part65_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part66_keeps (v400 : FVec F S2048x1 .f32) (v672 : FVec F S128x128 .f32) :
    Keeps defs c R (k0_part66 (F := F) i arg3 harg3 arg4 harg4 arg5 harg5 arg6 harg6 arg7 harg7 arg8 harg8 arg9 harg9 arg10 harg10 arg11 harg11 arg12 harg12 arg13 harg13 arg14 harg14 arg15 harg15 v400 v672) := by
  rw [k0_part66_eq_skeleton]
  unfold k0_part66_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part67_keeps (v400 : FVec F S2048x1 .f32) (v709 : FVec F S128x128 .bf16) :
    Keeps defs c R (k0_part67 (F := F) i arg3 harg3 arg4 harg4 arg5 harg5 arg6 harg6 arg7 harg7 arg8 harg8 arg9 harg9 arg10 harg10 arg11 harg11 arg12 harg12 arg13 harg13 arg14 harg14 arg15 harg15 v400 v709) := by
  rw [k0_part67_eq_skeleton]
  unfold k0_part67_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  exact keeps_pure _

/-- A stretch of the attention body keeps what it holds. -/
theorem k0_part68_keeps (v400 : FVec F S2048x1 .f32) (v744 : FVec F S128x128 .f32) :
    Keeps defs c R (k0_part68 (F := F) i arg3 harg3 arg4 harg4 arg5 harg5 arg6 harg6 arg7 harg7 arg8 harg8 arg9 harg9 arg10 harg10 arg11 harg11 arg12 harg12 arg13 harg13 arg14 harg14 arg15 harg15 v400 v744) := by
  rw [k0_part68_eq_skeleton]
  unfold k0_part68_skel
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part69_keeps (v281 : BitVec 32) (k0_h12 : k0_cond12 i = 1#1) :
    Keeps defs c R (k0_part69 (F := F) i arg3 harg3 arg4 harg4 arg5 harg5 arg6 harg6 arg7 harg7 arg8 harg8 arg9 harg9 arg10 harg10 arg11 harg11 arg12 harg12 arg13 harg13 arg14 harg14 arg15 harg15 v281 k0_h12) := by
  rw [k0_part69_eq_skeleton]
  unfold k0_part69_skel
  refine keeps_bind (keeps_load h.r5) fun _ => ?_
  refine keeps_bind (keeps_load h.w14.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  refine keeps_bind (keeps_load h.w12.reads) fun _ => ?_
  exact keeps_pure _

/-- A stretch of the attention body keeps what it holds. -/
theorem k0_part70_keeps (v353 : FVec F S640x256 .bf16) (v360 : FVec F S2048x128 .f32) (v366 : FVec F S2048x128 .f32) (v372 : FVec F S2048x128 .f32) (v378 : FVec F S2048x128 .f32) (v384 : FVec F S2048x128 .f32) :
    Keeps defs c R (k0_part70 (F := F) i arg3 harg3 arg4 harg4 arg5 harg5 arg6 harg6 arg7 harg7 arg8 harg8 arg9 harg9 arg10 harg10 arg11 harg11 arg12 harg12 arg13 harg13 arg14 harg14 arg15 harg15 v353 v360 v366 v372 v378 v384) := by
  rw [k0_part70_eq_skeleton]
  unfold k0_part70_skel
  refine keeps_bind (keeps_load h.w15.reads) fun _ => ?_
  refine keeps_bind (keeps_load h.w15.reads) fun _ => ?_
  refine keeps_bind (keeps_store h.w15) fun _ => ?_
  refine keeps_bind (keeps_load h.w13.reads) fun _ => ?_
  refine keeps_bind (keeps_load h.w13.reads) fun _ => ?_
  refine keeps_bind (keeps_store h.w13) fun _ => ?_
  refine keeps_bind (keeps_load h.w15.reads) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part71_keeps (v408 : FVec F S2048x1 .f32) (v416 : FVec F S128x128 .f32) (v419 : FVec F S128x128 .f32) (v422 : FVec F S128x128 .f32) :
    Keeps defs c R (k0_part71 (F := F) i arg3 harg3 arg4 harg4 arg5 harg5 arg6 harg6 arg7 harg7 arg8 harg8 arg9 harg9 arg10 harg10 arg11 harg11 arg12 harg12 arg13 harg13 arg14 harg14 arg15 harg15 v408 v416 v419 v422) := by
  rw [k0_part71_eq_skeleton]
  unfold k0_part71_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part72_keeps (v408 : FVec F S2048x1 .f32) (v458 : FVec F S128x256 .bf16) :
    Keeps defs c R (k0_part72 (F := F) i arg3 harg3 arg4 harg4 arg5 harg5 arg6 harg6 arg7 harg7 arg8 harg8 arg9 harg9 arg10 harg10 arg11 harg11 arg12 harg12 arg13 harg13 arg14 harg14 arg15 harg15 v408 v458) := by
  rw [k0_part72_eq_skeleton]
  unfold k0_part72_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part73_keeps (v408 : FVec F S2048x1 .f32) (v488 : FVec F S128x128 .f32) (v491 : FVec F S128x128 .f32) (v494 : FVec F S128x128 .f32) :
    Keeps defs c R (k0_part73 (F := F) i arg3 harg3 arg4 harg4 arg5 harg5 arg6 harg6 arg7 harg7 arg8 harg8 arg9 harg9 arg10 harg10 arg11 harg11 arg12 harg12 arg13 harg13 arg14 harg14 arg15 harg15 v408 v488 v491 v494) := by
  rw [k0_part73_eq_skeleton]
  unfold k0_part73_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part74_keeps (v408 : FVec F S2048x1 .f32) (v530 : FVec F S128x256 .bf16) :
    Keeps defs c R (k0_part74 (F := F) i arg3 harg3 arg4 harg4 arg5 harg5 arg6 harg6 arg7 harg7 arg8 harg8 arg9 harg9 arg10 harg10 arg11 harg11 arg12 harg12 arg13 harg13 arg14 harg14 arg15 harg15 v408 v530) := by
  rw [k0_part74_eq_skeleton]
  unfold k0_part74_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part75_keeps (v408 : FVec F S2048x1 .f32) (v560 : FVec F S128x128 .f32) (v563 : FVec F S128x128 .f32) (v566 : FVec F S128x128 .f32) :
    Keeps defs c R (k0_part75 (F := F) i arg3 harg3 arg4 harg4 arg5 harg5 arg6 harg6 arg7 harg7 arg8 harg8 arg9 harg9 arg10 harg10 arg11 harg11 arg12 harg12 arg13 harg13 arg14 harg14 arg15 harg15 v408 v560 v563 v566) := by
  rw [k0_part75_eq_skeleton]
  unfold k0_part75_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part76_keeps (v408 : FVec F S2048x1 .f32) (v602 : FVec F S128x256 .bf16) :
    Keeps defs c R (k0_part76 (F := F) i arg3 harg3 arg4 harg4 arg5 harg5 arg6 harg6 arg7 harg7 arg8 harg8 arg9 harg9 arg10 harg10 arg11 harg11 arg12 harg12 arg13 harg13 arg14 harg14 arg15 harg15 v408 v602) := by
  rw [k0_part76_eq_skeleton]
  unfold k0_part76_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part77_keeps (v408 : FVec F S2048x1 .f32) (v632 : FVec F S128x128 .f32) (v635 : FVec F S128x128 .f32) (v638 : FVec F S128x128 .f32) :
    Keeps defs c R (k0_part77 (F := F) i arg3 harg3 arg4 harg4 arg5 harg5 arg6 harg6 arg7 harg7 arg8 harg8 arg9 harg9 arg10 harg10 arg11 harg11 arg12 harg12 arg13 harg13 arg14 harg14 arg15 harg15 v408 v632 v635 v638) := by
  rw [k0_part77_eq_skeleton]
  unfold k0_part77_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part78_keeps (v408 : FVec F S2048x1 .f32) (v674 : FVec F S128x256 .bf16) :
    Keeps defs c R (k0_part78 (F := F) i arg3 harg3 arg4 harg4 arg5 harg5 arg6 harg6 arg7 harg7 arg8 harg8 arg9 harg9 arg10 harg10 arg11 harg11 arg12 harg12 arg13 harg13 arg14 harg14 arg15 harg15 v408 v674) := by
  rw [k0_part78_eq_skeleton]
  unfold k0_part78_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- A stretch of the attention body keeps what it holds. -/
theorem k0_part79_keeps (v408 : FVec F S2048x1 .f32) (v704 : FVec F S128x128 .f32) (v707 : FVec F S128x128 .f32) (v710 : FVec F S128x128 .f32) :
    Keeps defs c R (k0_part79 (F := F) i arg3 harg3 arg4 harg4 arg5 harg5 arg6 harg6 arg7 harg7 arg8 harg8 arg9 harg9 arg10 harg10 arg11 harg11 arg12 harg12 arg13 harg13 arg14 harg14 arg15 harg15 v408 v704 v707 v710) := by
  rw [k0_part79_eq_skeleton]
  unfold k0_part79_skel
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  exact keeps_pure _

/-- A stretch of the attention body keeps what it holds. -/
theorem k0_part80_keeps (v408 : FVec F S2048x1 .f32) (v746 : FVec F S128x256 .bf16) :
    Keeps defs c R (k0_part80 (F := F) i arg3 harg3 arg4 harg4 arg5 harg5 arg6 harg6 arg7 harg7 arg8 harg8 arg9 harg9 arg10 harg10 arg11 harg11 arg12 harg12 arg13 harg13 arg14 harg14 arg15 harg15 v408 v746) := by
  rw [k0_part80_eq_skeleton]
  unfold k0_part80_skel
  refine keeps_bind (keeps_load h.r8) fun _ => ?_
  refine keeps_bind (keeps_load h.r4) fun _ => ?_
  refine keeps_bind (keeps_load h.w10.reads) fun _ => ?_
  refine keeps_bind (keeps_store h.w10) fun _ => ?_
  refine keeps_bind (keeps_load h.w13.reads) fun _ => ?_
  refine keeps_bind (keeps_load h.r8) fun _ => ?_
  refine keeps_bind (keeps_load h.r4) fun _ => ?_
  exact keeps_pure _

/-- The attention body keeps what it holds. -/
theorem cc0_latent_attention_keeps :
    Keeps defs c R (cc0_latent_attention (F := F) i arg3 harg3 arg4 harg4 arg5 harg5 arg6 harg6 arg7 harg7 arg8 harg8 arg9 harg9 arg10 harg10 arg11 harg11 arg12 harg12 arg13 harg13 arg14 harg14 arg15 harg15) := by
  rw [cc0_latent_attention_eq_skeleton]
  unfold cc0_latent_attention_skel
  refine keeps_bind (k0_part81_keeps i harg3 harg4 harg5 harg6 harg7 harg8 harg9 harg10 harg11 harg12 harg13 harg14 harg15 h) fun ⟨_, _, _⟩ => ?_
  refine keeps_bind (k0_part82_keeps i harg3 harg4 harg5 harg6 harg7 harg8 harg9 harg10 harg11 harg12 harg13 harg14 harg15 h _ _) fun _ => ?_
  refine keeps_bind (k0_part83_keeps i harg3 harg4 harg5 harg6 harg7 harg8 harg9 harg10 harg11 harg12 harg13 harg14 harg15 h _) fun _ => ?_
  refine keeps_bind (k0_part84_keeps i harg3 harg4 harg5 harg6 harg7 harg8 harg9 harg10 harg11 harg12 harg13 harg14 harg15 h) fun _ => ?_
  refine keeps_bind (k0_part85_keeps i harg3 harg4 harg5 harg6 harg7 harg8 harg9 harg10 harg11 harg12 harg13 harg14 harg15 h _) fun ⟨_, _, _⟩ => ?_
  refine keeps_bind (k0_part86_keeps i harg3 harg4 harg5 harg6 harg7 harg8 harg9 harg10 harg11 harg12 harg13 harg14 harg15 h _ _ _) fun ⟨_, _⟩ => ?_
  refine keeps_bind (k0_part87_keeps i harg3 harg4 harg5 harg6 harg7 harg8 harg9 harg10 harg11 harg12 harg13 harg14 harg15 h _ _ _) fun ⟨_, _, _, _, _⟩ => ?_
  refine keeps_bind (k0_part88_keeps i harg3 harg4 harg5 harg6 harg7 harg8 harg9 harg10 harg11 harg12 harg13 harg14 harg15 h _ _ _ _ _ _) fun _ => ?_
  refine keeps_bind (k0_part89_keeps i harg3 harg4 harg5 harg6 harg7 harg8 harg9 harg10 harg11 harg12 harg13 harg14 harg15 h _ _ _ _) fun ⟨_, _, _, _, _, _⟩ => ?_
  refine keeps_bind (k0_part90_keeps i harg3 harg4 harg5 harg6 harg7 harg8 harg9 harg10 harg11 harg12 harg13 harg14 harg15 h _ _ _ _ _ _ _ _) fun _ => ?_
  extract_lets -merge -useContext +onlyGivenNames jp4 jp3 jp2 jp1
  have hjp1 : ∀ a, Keeps defs c R (jp1 a) := by
    intro _
    have hjp2 : ∀ a, Keeps defs c R (jp2 a) := by
      intro _
      have hjp3 : ∀ a, Keeps defs c R (jp3 a) := by
        intro _
        have hjp4 : ∀ a, Keeps defs c R (jp4 a) := by
          intro _
          exact keeps_pure _
        clear_value jp4
        refine keeps_dite (fun _ => ?_) (fun _ => ?_)
        · refine keeps_bind (k0_part69_keeps i harg3 harg4 harg5 harg6 harg7 harg8 harg9 harg10 harg11 harg12 harg13 harg14 harg15 h _ _) fun ⟨_, _, _, _, _, _⟩ => ?_
          refine keeps_bind (k0_part70_keeps i harg3 harg4 harg5 harg6 harg7 harg8 harg9 harg10 harg11 harg12 harg13 harg14 harg15 h _ _ _ _ _ _) fun ⟨_, _, _, _⟩ => ?_
          refine keeps_bind (k0_part71_keeps i harg3 harg4 harg5 harg6 harg7 harg8 harg9 harg10 harg11 harg12 harg13 harg14 harg15 h _ _ _ _) fun _ => ?_
          refine keeps_bind (k0_part72_keeps i harg3 harg4 harg5 harg6 harg7 harg8 harg9 harg10 harg11 harg12 harg13 harg14 harg15 h _ _) fun ⟨_, _, _⟩ => ?_
          refine keeps_bind (k0_part73_keeps i harg3 harg4 harg5 harg6 harg7 harg8 harg9 harg10 harg11 harg12 harg13 harg14 harg15 h _ _ _ _) fun _ => ?_
          refine keeps_bind (k0_part74_keeps i harg3 harg4 harg5 harg6 harg7 harg8 harg9 harg10 harg11 harg12 harg13 harg14 harg15 h _ _) fun ⟨_, _, _⟩ => ?_
          refine keeps_bind (k0_part75_keeps i harg3 harg4 harg5 harg6 harg7 harg8 harg9 harg10 harg11 harg12 harg13 harg14 harg15 h _ _ _ _) fun _ => ?_
          refine keeps_bind (k0_part76_keeps i harg3 harg4 harg5 harg6 harg7 harg8 harg9 harg10 harg11 harg12 harg13 harg14 harg15 h _ _) fun ⟨_, _, _⟩ => ?_
          refine keeps_bind (k0_part77_keeps i harg3 harg4 harg5 harg6 harg7 harg8 harg9 harg10 harg11 harg12 harg13 harg14 harg15 h _ _ _ _) fun _ => ?_
          refine keeps_bind (k0_part78_keeps i harg3 harg4 harg5 harg6 harg7 harg8 harg9 harg10 harg11 harg12 harg13 harg14 harg15 h _ _) fun ⟨_, _, _⟩ => ?_
          refine keeps_bind (k0_part79_keeps i harg3 harg4 harg5 harg6 harg7 harg8 harg9 harg10 harg11 harg12 harg13 harg14 harg15 h _ _ _ _) fun _ => ?_
          refine keeps_bind (k0_part80_keeps i harg3 harg4 harg5 harg6 harg7 harg8 harg9 harg10 harg11 harg12 harg13 harg14 harg15 h _ _) fun ⟨_, _, _⟩ => ?_
          refine keeps_bind (keeps_load h.w10.reads) fun _ => ?_
          refine keeps_bind (keeps_store h.w10) fun _ => ?_
          exact hjp4 _
        · exact hjp4 _
      clear_value jp3
      refine keeps_dite (fun _ => ?_) (fun _ => ?_)
      · refine keeps_bind (k0_part57_keeps i harg3 harg4 harg5 harg6 harg7 harg8 harg9 harg10 harg11 harg12 harg13 harg14 harg15 h _ _) fun ⟨_, _, _, _, _, _⟩ => ?_
        refine keeps_bind (k0_part58_keeps i harg3 harg4 harg5 harg6 harg7 harg8 harg9 harg10 harg11 harg12 harg13 harg14 harg15 h _ _ _ _ _ _) fun ⟨_, _⟩ => ?_
        refine keeps_bind (k0_part59_keeps i harg3 harg4 harg5 harg6 harg7 harg8 harg9 harg10 harg11 harg12 harg13 harg14 harg15 h _ _) fun _ => ?_
        refine keeps_bind (k0_part60_keeps i harg3 harg4 harg5 harg6 harg7 harg8 harg9 harg10 harg11 harg12 harg13 harg14 harg15 h _ _) fun _ => ?_
        refine keeps_bind (k0_part61_keeps i harg3 harg4 harg5 harg6 harg7 harg8 harg9 harg10 harg11 harg12 harg13 harg14 harg15 h _ _) fun _ => ?_
        refine keeps_bind (k0_part62_keeps i harg3 harg4 harg5 harg6 harg7 harg8 harg9 harg10 harg11 harg12 harg13 harg14 harg15 h _ _) fun _ => ?_
        refine keeps_bind (k0_part63_keeps i harg3 harg4 harg5 harg6 harg7 harg8 harg9 harg10 harg11 harg12 harg13 harg14 harg15 h _ _) fun _ => ?_
        refine keeps_bind (k0_part64_keeps i harg3 harg4 harg5 harg6 harg7 harg8 harg9 harg10 harg11 harg12 harg13 harg14 harg15 h _ _) fun _ => ?_
        refine keeps_bind (k0_part65_keeps i harg3 harg4 harg5 harg6 harg7 harg8 harg9 harg10 harg11 harg12 harg13 harg14 harg15 h _ _) fun _ => ?_
        refine keeps_bind (k0_part66_keeps i harg3 harg4 harg5 harg6 harg7 harg8 harg9 harg10 harg11 harg12 harg13 harg14 harg15 h _ _) fun _ => ?_
        refine keeps_bind (k0_part67_keeps i harg3 harg4 harg5 harg6 harg7 harg8 harg9 harg10 harg11 harg12 harg13 harg14 harg15 h _ _) fun _ => ?_
        refine keeps_bind (k0_part68_keeps i harg3 harg4 harg5 harg6 harg7 harg8 harg9 harg10 harg11 harg12 harg13 harg14 harg15 h _ _) fun _ => ?_
        refine keeps_bind (keeps_load h.w10.reads) fun _ => ?_
        refine keeps_bind (keeps_store h.w10) fun _ => ?_
        exact hjp3 _
      · exact hjp3 _
    clear_value jp2
    refine keeps_dite (fun _ => ?_) (fun _ => ?_)
    · refine keeps_bind (k0_part56_keeps i harg3 harg4 harg5 harg6 harg7 harg8 harg9 harg10 harg11 harg12 harg13 harg14 harg15 h _ _) fun _ => ?_
      refine keeps_bind (keeps_load h.w10.reads) fun _ => ?_
      refine keeps_bind (keeps_store h.w10) fun _ => ?_
      exact hjp2 _
    · exact hjp2 _
  clear_value jp1
  refine keeps_dite (fun _ => ?_) (fun _ => ?_)
  · refine keeps_bind (k0_part34_keeps i harg3 harg4 harg5 harg6 harg7 harg8 harg9 harg10 harg11 harg12 harg13 harg14 harg15 h _ _) fun _ => ?_
    refine keeps_bind (k0_part35_keeps i harg3 harg4 harg5 harg6 harg7 harg8 harg9 harg10 harg11 harg12 harg13 harg14 harg15 h _) fun ⟨_, _⟩ => ?_
    refine keeps_bind (k0_part36_keeps i harg3 harg4 harg5 harg6 harg7 harg8 harg9 harg10 harg11 harg12 harg13 harg14 harg15 h _ _) fun ⟨_, _⟩ => ?_
    refine keeps_bind (k0_part37_keeps i harg3 harg4 harg5 harg6 harg7 harg8 harg9 harg10 harg11 harg12 harg13 harg14 harg15 h _ _ _) fun _ => ?_
    refine keeps_bind (k0_part38_keeps i harg3 harg4 harg5 harg6 harg7 harg8 harg9 harg10 harg11 harg12 harg13 harg14 harg15 h _ _) fun ⟨_, _⟩ => ?_
    refine keeps_bind (k0_part39_keeps i harg3 harg4 harg5 harg6 harg7 harg8 harg9 harg10 harg11 harg12 harg13 harg14 harg15 h _ _ _) fun _ => ?_
    refine keeps_bind (k0_part40_keeps i harg3 harg4 harg5 harg6 harg7 harg8 harg9 harg10 harg11 harg12 harg13 harg14 harg15 h _ _) fun ⟨_, _⟩ => ?_
    refine keeps_bind (k0_part41_keeps i harg3 harg4 harg5 harg6 harg7 harg8 harg9 harg10 harg11 harg12 harg13 harg14 harg15 h _ _ _) fun _ => ?_
    refine keeps_bind (k0_part42_keeps i harg3 harg4 harg5 harg6 harg7 harg8 harg9 harg10 harg11 harg12 harg13 harg14 harg15 h _ _) fun ⟨_, _⟩ => ?_
    refine keeps_bind (k0_part43_keeps i harg3 harg4 harg5 harg6 harg7 harg8 harg9 harg10 harg11 harg12 harg13 harg14 harg15 h _ _ _) fun _ => ?_
    refine keeps_bind (k0_part44_keeps i harg3 harg4 harg5 harg6 harg7 harg8 harg9 harg10 harg11 harg12 harg13 harg14 harg15 h _ _) fun ⟨_, _⟩ => ?_
    refine keeps_bind (keeps_store h.w10) fun _ => ?_
    refine keeps_bind (keeps_load h.w13.reads) fun _ => ?_
    refine keeps_bind (keeps_load h.r8) fun _ => ?_
    refine keeps_bind (keeps_load h.r4) fun _ => ?_
    refine keeps_bind (keeps_load h.w10.reads) fun _ => ?_
    refine keeps_bind (keeps_store h.w10) fun _ => ?_
    exact hjp1 _
  · exact hjp1 _

end Cert.AttnIdeal.Keep

end
-- ==== Proof.AttnIdealFrame.lean ====
module

public import proofs.«01_k».proof.Proof.Gen.AttnIdeal.Frame
public import proofs.«01_k».proof.Proof.KeepIdeal

@[expose] public section

set_option maxRecDepth 16384

noncomputable section

namespace Cert.AttnIdeal.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose RDat)
open Cert.Safe Cert.AttnIdeal.Gen

variable {F : FTy → Type} [FloatOps F] [Named F]

variable (m : (ℓ : Loc nD τ sig) → Buf (Elt F) ℓ) (ρ : Dev nD → PrngReg)

/-- What the region owns between points: the five scratch buffers and the generator register, each at some contents. -/
theorem scratch_eq (c : Dev nD) :
    (Pipeline.ΦA spec0 c : Res nD τ sig (Elt F))
      = iprop(((∃ X, owns (c : Thread nD τ) (Memref.whole cc0_scratch0 : Memref sig .tc .vmem S2048x256 .bf16) fullShare X)
        ∗ (∃ X, owns (c : Thread nD τ) (Memref.whole cc0_scratch1 : Memref sig .tc .vmem S16x2048x128 .f32) fullShare X)
        ∗ (∃ X, owns (c : Thread nD τ) (Memref.whole cc0_scratch2 : Memref sig .tc .vmem S2048x256 .f32) fullShare X)
        ∗ (∃ X, owns (c : Thread nD τ) (Memref.whole cc0_scratch3 : Memref sig .tc .vmem S2048x128 .f32) fullShare X)
        ∗ (∃ X, owns (c : Thread nD τ) (Memref.whole cc0_scratch4 : Memref sig .tc .vmem S2048x128 .f32) fullShare X))
        ∗ (∃ r, prngReg c r)) := by
  unfold Pipeline.ΦA; rw [scopedRest0_eq]; simp only [owns_whole]; try rfl

/-- The pipeline's data on a core: the arrays as the region finds them, the input buffers left at their blocks, nothing said of
    the output buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Dat.unnamed 7 t
  Φ _ := Pipeline.ΦA spec0 c
  q w := Pipeline.shareOf spec0 w
  owed _ := 0

/-- The output window is the forgotten one. -/
def forgets (w : Fin 8) : Bool := decide (w = 7)

/-- The arrays of the data are what the region finds. -/
theorem A_eq (c : Dev nD) (w : Fin cfg0.W) : (dats m 0 c).A w = V m c (Pipeline.arrRef spec0 w) := by
  dsimp only [dats]

/-- The input buffer 0 is left at its block. -/
theorem after_0 (c : Dev nD) (t : Fin cfg0.N) : (dats m 0 c).after 0 t = iblk m c 0 t := by dsimp only [dats]
/-- The input buffer 1 is left at its block. -/
theorem after_1 (c : Dev nD) (t : Fin cfg0.N) : (dats m 0 c).after 1 t = iblk m c 1 t := by dsimp only [dats]
/-- The input buffer 2 is left at its block. -/
theorem after_2 (c : Dev nD) (t : Fin cfg0.N) : (dats m 0 c).after 2 t = iblk m c 2 t := by dsimp only [dats]
/-- The input buffer 3 is left at its block. -/
theorem after_3 (c : Dev nD) (t : Fin cfg0.N) : (dats m 0 c).after 3 t = iblk m c 3 t := by dsimp only [dats]
/-- The input buffer 4 is left at its block. -/
theorem after_4 (c : Dev nD) (t : Fin cfg0.N) : (dats m 0 c).after 4 t = iblk m c 4 t := by dsimp only [dats]
/-- The input buffer 5 is left at its block. -/
theorem after_5 (c : Dev nD) (t : Fin cfg0.N) : (dats m 0 c).after 5 t = iblk m c 5 t := by dsimp only [dats]
/-- The input buffer 6 is left at its block. -/
theorem after_6 (c : Dev nD) (t : Fin cfg0.N) : (dats m 0 c).after 6 t = iblk m c 6 t := by dsimp only [dats]

/-- The body at a point: it keeps the input blocks, and the output block and the scratch at some contents. -/
theorem body_keeps (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ X, owns (c : Thread nD τ) (st0_7 t) fullShare X))
    ⊢ wp frame (wpE (Ix := Unit) (Name := ℕ) (U := UR sig nD τ) (Lvl := ℕ) (defs₀ (F := F)) Variants.none (c : Thread nD τ) none) Set.univ (bodyAt0 t)
      (fun _ => iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ (∃ X, owns (c : Thread nD τ) (st0_7 t) fullShare X))) := by
  unfold bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c),
    before0_6_of m (dats m 0 c) (A_eq m c 6) (after_6 m c)]
  rw [show (dats m 0 c).owesAt () t.succ = (dats m 0 c).owesAt () t.castSucc from rfl, after_0 m c, after_1 m c,
    after_2 m c, after_3 m c, after_4 m c, after_5 m c, after_6 m c]
  rw [show (dats m 0 c).Φ t.succ = Pipeline.ΦA spec0 c from rfl, show (dats m 0 c).Φ t.castSucc = Pipeline.ΦA spec0 c from rfl, scratch_eq]
  have hk := cc0_latent_attention_keeps (defs := defs₀ (F := F)) (c := c) (grid0.coords t) (hstage0_0 ((cfg0.slots t 0).cast nbuf0_0))
    (hstage0_1 ((cfg0.slots t 1).cast nbuf0_1)) (hstage0_2 ((cfg0.slots t 2).cast nbuf0_2)) (hstage0_3 ((cfg0.slots t 3).cast nbuf0_3))
    (hstage0_4 ((cfg0.slots t 4).cast nbuf0_4)) (hstage0_5 ((cfg0.slots t 5).cast nbuf0_5)) (hstage0_6 ((cfg0.slots t 6).cast nbuf0_6))
    (hstage0_7 ((cfg0.slots t 7).cast nbuf0_7)) (Memref.isWhole_whole cc0_scratch0) (Memref.isWhole_whole cc0_scratch1)
    (Memref.isWhole_whole cc0_scratch2) (Memref.isWhole_whole cc0_scratch3) (Memref.isWhole_whole cc0_scratch4)
    (R := iprop((((∃ X, owns (c : Thread nD τ) (Memref.whole cc0_scratch0 : Memref sig .tc .vmem S2048x256 .bf16) fullShare X)
        ∗ (∃ X, owns (c : Thread nD τ) (Memref.whole cc0_scratch1 : Memref sig .tc .vmem S16x2048x128 .f32) fullShare X)
        ∗ (∃ X, owns (c : Thread nD τ) (Memref.whole cc0_scratch2 : Memref sig .tc .vmem S2048x256 .f32) fullShare X)
        ∗ (∃ X, owns (c : Thread nD τ) (Memref.whole cc0_scratch3 : Memref sig .tc .vmem S2048x128 .f32) fullShare X)
        ∗ (∃ X, owns (c : Thread nD τ) (Memref.whole cc0_scratch4 : Memref sig .tc .vmem S2048x128 .f32) fullShare X))
        ∗ (∃ r, prngReg c r)) ∗ (dats m 0 c).owesAt () t.castSucc
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ X, owns (c : Thread nD τ) (st0_7 t) fullShare X)))
    { r3 := reads_owns.left.right.right
      r4 := reads_owns.left.right.right.right
      r5 := reads_owns.left.right.right.right.right
      r6 := reads_owns.left.right.right.right.right.right
      r7 := reads_owns.left.right.right.right.right.right.right
      r8 := reads_owns.left.right.right.right.right.right.right.right
      r9 := reads_owns.left.right.right.right.right.right.right.right.right
      w10 := writes_some.right.right.right.right.right.right.right.right.right
      w11 := writes_some.left.left.left
      w12 := writes_some.left.right.left.left
      w13 := writes_some.left.right.right.left.left
      w14 := writes_some.left.right.right.right.left.left
      w15 := writes_some.right.right.right.right.left.left }
  unfold Keeps at hk
  iintro ⟨HΦ, Ho, ⟨%d0, H0⟩, ⟨%d1, H1⟩, ⟨%d2, H2⟩, ⟨%d3, H3⟩, ⟨%d4, H4⟩, ⟨%d5, H5⟩, ⟨%d6, H6⟩, H7⟩
  iapply hk
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's row at a point is the body at that point. -/
theorem row_eq (t : Fin cfg0.N) :
    defs₀ (F := F) .tc cfg0.body (cfg0.bodyArgs t (cfg0.slots t)) = bodyAt0 t := by
  unfold defs₀; rw [Defs.onTc_tc]

/-- The body obligation of the pipeline, the output forgotten. -/
theorem obligation (c : Dev nD) : BodyObligationLoose (dats (F := F) m 0 c) (defs₀ (F := F)) Variants.none () Set.univ forgets := fun t => by
  rw [bigSep_W0, bigSep_W0, row_eq]
  exact triple_restated (body_keeps m c t) rfl .rfl fun _ => .rfl

set_option backward.isDefEq.respectTransparency.types false in
/-- The run: it ends, the arrays that are only read and all buffers outside the region end unchanged, and no counter is left raised. -/
theorem run : θ_run defs (onTc (τ := τ) (main (F := F))) (s₀ m ρ)
    (fun r => RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => obligation m c) (hq := fun _ _ _ => rfl)
    (howed := fun _ _ => rfl) (V := V m) (hmain := hmain m Variants.none) (hA := A_eq m) (hΦ := fun _ _ => rfl)

/-- An input array ends as the region found it. -/
theorem in_kept {r : PUnit × MemSt nD τ sig (Elt F)} (h : RDat.FramePost (cfgs 0) (fun c => (dats m 0 c).toRForget forgets) (V m) r) (c : Dev nD)
    (w : Fin cfg0.W) (hw : (cfg0.win w).isOut = false) :
    r.2.mem ((cfg0.spec w).arr.view.loc (c.tc : Thread nD τ)) = V m c (Pipeline.arrRef spec0 w) := by
  have h1 := (h c).1 w
  rw [RDat.ArrAt_in _ w hw] at h1
  exact h1.trans (A_eq m c w)

/-- The attention call ends from every state with zero counters, leaves its arguments as they were and no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(in_kept m h.1 c 1 rfl).trans (V_main_arg0 m c), (in_kept m h.1 c 2 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run m ρ)

end Cert.AttnIdeal.Keep

end
-- ==== Proof.lean ====
module

public import proofs.«01_k».proof.Defs
public import proofs.«01_k».proof.Proof.Gen.QzProj.Frame
public import proofs.«01_k».proof.Proof.QzProj
public import proofs.«01_k».proof.Proof.Gen.InB.Frame
public import proofs.«01_k».proof.Proof.InB
public import proofs.«01_k».proof.Proof.Gen.Mask.Frame
public import proofs.«01_k».proof.Proof.MaskFrame
public import proofs.«01_k».proof.Proof.Gen.OutB.Frame
public import proofs.«01_k».proof.Proof.OutB
public import proofs.«01_k».proof.Proof.Gen.OutA.Frame
public import proofs.«01_k».proof.Proof.OutA
public import proofs.«01_k».proof.Proof.Gen.Idx.Frame
public import proofs.«01_k».proof.Proof.Idx
public import proofs.«01_k».proof.Proof.Gen.Pool.Frame
public import proofs.«01_k».proof.Proof.PoolFrame
public import proofs.«01_k».proof.Proof.PoolIdealFrame
public import proofs.«01_k».proof.Proof.Pool
public import proofs.«01_k».proof.Proof.PoolRefRead
public import proofs.«01_k».proof.Proof.PoolSumRead
public import proofs.«01_k».proof.Proof.AttnFrame
public import proofs.«01_k».proof.Proof.AttnIdealFrame
public import Idealize.ShloMosaic.Adequacy
public import Idealize.ShloMosaic.Init
public import Idealize.ShloMosaic.Lib.Quiescent

@[expose] public section

noncomputable section

namespace Cert.Proof

open Idealize.ShloMosaic Idealize.SL.Sem

/-! ## The query and gate projection -/

theorem quiescent_QzProjRefIdeal : quiescent_QzProjRefIdeal := fun m ρ _ =>
  (θ_run Cert.QzProjRefIdeal.defs _ _).mono (fun r h => ⟨fun c => (h c).2, sem_eq_zero_of_no_sems (by decide) r.2⟩)
    (Cert.QzProjRefIdeal.Value.run (F := Ideal) m ρ)

/-- Kernel and reference leave the same array: both leave the specification. -/
theorem algebraic_QzProjIdeal_QzProjRefIdeal : algebraic_QzProjIdeal_QzProjRefIdeal := by
  intro m ρ m' ρ' _ hagree
  refine ⟨_, Cert.QzProjIdeal.Value.run_spec m ρ, ?_⟩
  refine (θ_run Cert.QzProjRefIdeal.defs _ _).mono (fun _ h c => ⟨?_, (h c).2⟩) (Cert.QzProjRefIdeal.Value.run_spec m' ρ')
  rw [(h c).1]
  simp only [hagree c]
  rfl

/-! ## The attention -/

/-- The two constants of the attention are the numbers they stand for. -/
theorem preserves_Attn_AttnIdeal : preserves_Attn_AttnIdeal :=
  ⟨IdealRules.named_const.statement Cert.AttnIdeal.κ "scale" .f32 0x3E0293EE#32
      (((Real.sqrt 128)⁻¹ * (Real.log 2)⁻¹ : ℝ) : EReal) rfl,
    IdealRules.named_const.statement Cert.AttnIdeal.κ "mask" .f32 0xF149F2CA#32 ⊥ rfl⟩

/-! ## The projection that enters the pooling layer -/

/-- The reference runs to its end and keeps its arguments. -/
theorem quiescent_InBRefIdeal : quiescent_InBRefIdeal := fun m ρ _ =>
  (θ_run Cert.InBRefIdeal.defs _ _).mono (fun r h => ⟨fun c => (h c).2, sem_eq_zero_of_no_sems (by decide) r.2⟩)
    (Cert.InBRefIdeal.Value.run (F := Ideal) m ρ)

/-- Kernel and reference leave the same array: both leave the specification. -/
theorem algebraic_InBIdeal_InBRefIdeal : algebraic_InBIdeal_InBRefIdeal := by
  intro m ρ m' ρ' _ hagree
  refine ⟨_, Cert.InBIdeal.Value.run_spec m ρ, ?_⟩
  refine (θ_run Cert.InBRefIdeal.defs _ _).mono (fun _ h c => ⟨?_, (h c).2⟩) (Cert.InBRefIdeal.Value.run_spec m' ρ')
  rw [(h c).1]
  simp only [hagree c]
  rfl

/-! ## The projection that leaves the pooling layer, with the last norm -/

/-- The reference runs to its end and keeps its arguments. -/
theorem quiescent_OutBRefIdeal : quiescent_OutBRefIdeal := fun m ρ _ =>
  (θ_run Cert.OutBRefIdeal.defs _ _).mono (fun r h => ⟨fun c => (h c).2, sem_eq_zero_of_no_sems (by decide) r.2⟩)
    (Cert.OutBRefIdeal.Value.run (F := Ideal) m ρ)

/-- Kernel and reference leave the same array: both leave the specification. -/
theorem algebraic_OutBIdeal_OutBRefIdeal : algebraic_OutBIdeal_OutBRefIdeal := by
  intro m ρ m' ρ' _ hagree
  refine ⟨_, Cert.OutBIdeal.Value.run_spec m ρ, ?_⟩
  refine (θ_run Cert.OutBRefIdeal.defs _ _).mono (fun _ h c => ⟨?_, (h c).2⟩) (Cert.OutBRefIdeal.Value.run_spec m' ρ')
  rw [(h c).1]
  simp only [hagree c]
  rfl

/-! ## The projection that leaves the attention layer -/

/-- The reference runs to its end and keeps its arguments. -/
theorem quiescent_OutARefIdeal : quiescent_OutARefIdeal := fun m ρ _ =>
  (θ_run Cert.OutARefIdeal.defs _ _).mono (fun r h => ⟨fun c => (h c).2, sem_eq_zero_of_no_sems (by decide) r.2⟩)
    (Cert.OutARefIdeal.Value.run (F := Ideal) m ρ)

/-- Kernel and reference leave the same array: both leave the specification. -/
theorem algebraic_OutAIdeal_OutARefIdeal : algebraic_OutAIdeal_OutARefIdeal := by
  intro m ρ m' ρ' _ hagree
  refine ⟨_, Cert.OutAIdeal.Value.run_spec m ρ, ?_⟩
  refine (θ_run Cert.OutARefIdeal.defs _ _).mono (fun _ h c => ⟨?_, (h c).2⟩) (Cert.OutARefIdeal.Value.run_spec m' ρ')
  rw [(h c).1]
  simp only [hagree c]
  rfl

/-! ## The indexer's and the latent's projection -/

/-- The reference runs to its end and keeps its arguments. -/
theorem quiescent_IdxRefIdeal : quiescent_IdxRefIdeal := fun m ρ _ =>
  (θ_run Cert.IdxRefIdeal.defs _ _).mono (fun r h => ⟨fun c => (h c).2.2.2.2, sem_eq_zero_of_no_sems (by decide) r.2⟩)
    (Cert.IdxRefIdeal.Value.run (F := Ideal) m ρ)

/-- Kernel and reference leave the same arrays: both leave the specification. -/
theorem algebraic_IdxIdeal_IdxRefIdeal : algebraic_IdxIdeal_IdxRefIdeal := by
  intro m ρ m' ρ' _ hagree
  refine ⟨_, _, _, _, Cert.IdxIdeal.Value.run_spec m ρ, ?_⟩
  refine (θ_run Cert.IdxRefIdeal.defs _ _).mono (fun _ h c => ⟨?_, ?_, ?_, ?_, (h c).2.2.2.2⟩) (Cert.IdxRefIdeal.Value.run_spec m' ρ')
  · rw [(h c).1]
    simp only [hagree c]
    rfl
  · rw [(h c).2.1]
    simp only [hagree c]
    rfl
  · rw [(h c).2.2.1]
    simp only [hagree c]
    rfl
  · rw [(h c).2.2.2.1]
    simp only [hagree c]
    rfl

/-! ## The pooling -/

/-- The reference runs to its end and keeps its arguments. -/
theorem quiescent_PoolRefIdeal : quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The reference that sums over the window runs to its end and keeps its arguments. -/
theorem quiescent_PoolSumIdeal : quiescent_PoolSumIdeal := fun m ρ _ =>
  (θ_run Cert.PoolSumIdeal.defs _ _).mono (fun r h => ⟨fun c => (h c).2, sem_eq_zero_of_no_sems (by decide) r.2⟩)
    (Cert.PoolSumIdeal.Value.run (F := Ideal) m ρ)

/-- For finite rows kernel and reference leave the same array: both leave the specification. -/
theorem algebraic_PoolIdeal_PoolRefIdeal_pre : algebraic_PoolIdeal_PoolRefIdeal_pre_uz_finite (hPre_uz_finite := Cert.PoolRefIdeal.Value.pre_facts) := by
  intro m ρ m' ρ' hpre hagree
  refine ⟨_, Cert.PoolIdeal.Value.run_spec m ρ, ?_⟩
  refine (θ_run Cert.PoolRefIdeal.defs _ _).mono (fun _ h c => ⟨?_, (h c).2⟩) (Cert.PoolRefIdeal.Value.run_result m' ρ')
  rw [(h c).1]
  simp only [hagree c]
  funext i
  idx_vars i
  exact Cert.PoolRefIdeal.Value.result_read _ (@Cert.PoolRefIdeal.Value.finite_of_pre _ _ _ _ Cert.PoolRefIdeal.Value.pre_facts (hpre c)) _ _ _ _ _ _

/-- Kernel and the reference that sums over the window leave the same array: both leave the specification. -/
theorem algebraic_PoolIdeal_PoolSumIdeal : algebraic_PoolIdeal_PoolSumIdeal := by
  intro m ρ m' ρ' _ hagree
  refine ⟨_, Cert.PoolIdeal.Value.run_spec m ρ, ?_⟩
  refine (θ_run Cert.PoolSumIdeal.defs _ _).mono (fun _ h c => ⟨?_, (h c).2⟩) (Cert.PoolSumIdeal.Value.run_spec m' ρ')
  rw [(h c).1]
  simp only [hagree c]
  rfl

/-! ## The certificate -/

/-- Everything claimed. -/
theorem claim : Cert.Claim := ⟨Cert.QzProj.Gen.facts,
  Cert.QzProjIdeal.Gen.facts,
  Cert.QzProjRefIdeal.Gen.facts,
  Cert.Attn.Gen.facts,
  Cert.AttnIdeal.Gen.facts,
  Cert.InB.Gen.facts,
  Cert.InBIdeal.Gen.facts,
  Cert.InBRefIdeal.Gen.facts,
  Cert.OutB.Gen.facts,
  Cert.OutBIdeal.Gen.facts,
  Cert.OutBRefIdeal.Gen.facts,
  Cert.OutA.Gen.facts,
  Cert.OutAIdeal.Gen.facts,
  Cert.OutARefIdeal.Gen.facts,
  Cert.Idx.Gen.facts,
  Cert.IdxIdeal.Gen.facts,
  Cert.IdxRefIdeal.Gen.facts,
  Cert.Pool.Gen.facts,
  Cert.PoolIdeal.Gen.facts,
  Cert.PoolRefIdeal.Gen.facts,
  Cert.Mask.Gen.facts,
  Cert.PoolSumIdeal.Gen.facts,
  Cert.PoolRefIdeal.Value.pre_facts,
  fun m ρ _ => Cert.QzProj.Gen.frame m ρ,
  fun m ρ _ => Cert.QzProjIdeal.Gen.frame m ρ,
  quiescent_QzProjRefIdeal,
  fun m ρ _ => Cert.Attn.Keep.frame m ρ,
  fun m ρ _ => Cert.AttnIdeal.Keep.frame m ρ,
  fun m ρ _ => Cert.InB.Gen.frame m ρ,
  fun m ρ _ => Cert.InBIdeal.Gen.frame m ρ,
  quiescent_InBRefIdeal,
  fun m ρ _ => Cert.OutB.Gen.frame m ρ,
  fun m ρ _ => Cert.OutBIdeal.Gen.frame m ρ,
  quiescent_OutBRefIdeal,
  fun m ρ _ => Cert.OutA.Gen.frame m ρ,
  fun m ρ _ => Cert.OutAIdeal.Gen.frame m ρ,
  quiescent_OutARefIdeal,
  fun m ρ _ => Cert.Idx.Gen.frame m ρ,
  fun m ρ _ => Cert.IdxIdeal.Gen.frame m ρ,
  quiescent_IdxRefIdeal,
  fun m ρ _ => Cert.Pool.Keep.frame m ρ,
  fun m ρ _ => Cert.PoolIdeal.Keep.frame m ρ,
  fun m ρ _ => Cert.PoolIdeal.Keep.frame m ρ,
  quiescent_PoolRefIdeal,
  fun m ρ _ => quiescent_PoolRefIdeal m ρ trivial,
  fun m ρ _ => Cert.Mask.Keep.frame m ρ,
  quiescent_PoolSumIdeal,
  (trivial : preserves_QzProj_QzProjIdeal),
  algebraic_QzProjIdeal_QzProjRefIdeal,
  preserves_Attn_AttnIdeal,
  (trivial : preserves_InB_InBIdeal),
  algebraic_InBIdeal_InBRefIdeal,
  (trivial : preserves_OutB_OutBIdeal),
  algebraic_OutBIdeal_OutBRefIdeal,
  (trivial : preserves_OutA_OutAIdeal),
  algebraic_OutAIdeal_OutARefIdeal,
  (trivial : preserves_Idx_IdxIdeal),
  algebraic_IdxIdeal_IdxRefIdeal,
  (trivial : preserves_Pool_PoolIdeal),
  algebraic_PoolIdeal_PoolRefIdeal_pre,
  algebraic_PoolIdeal_PoolSumIdeal⟩

end Cert.Proof

end
